-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xC7C35000#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1024x1024 : Shape := ⟨2, ![1024, 1024]⟩
abbrev S1x1024x32x128 : Shape := ⟨4, ![1, 1024, 32, 128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1024x1024 .f32) (main_arg1 : FVec F S1024x1024 .f32) (main_arg2 : FVec F S1x1024x32x128 .f32) (main_arg3 : FVec F S1x1024x32x128 .f32) (main_arg4 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x32x128 .f32 := Host.absf main_arg2
  let main_cst_2 : FVec F S_ .f32 := constant S_ .f32 0x7F800000#32
  let main_v10 : FVec F S1x1024x32x128 .f32 := broadcastInDim S1x1024x32x128 ![] bcast_S_S1x1024x32x128 main_cst_2
  let main_v11 : IVec S1x1024x32x128 1 := cmpf .olt main_v9 main_v10
  let main_c_3 : IVec S_ 1 := constantI S_ 1 1#1
  let main_v12 : IVec S_ 1 := (fun x v => Host.reduce IntOp.andi x v reducesTo_S1x1024x32x128_S_d0_1_2_3 h_S_) main_v11 main_c_3
  let main_v13 : IVec S_ 1 := andi main_v8 main_v12
  main_v13
-- ==== Pre_finite_scores_ReferenceIdeal.lean ====
abbrev S1024x1024 : Shape := ⟨2, ![1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1024x1024 .f32) (main_arg1 : FVec F S1024x4096 .f32) (main_arg2 : FVec F S1x1024x32x128 .f32) (main_arg3 : FVec F S1x1024x32x128 .f32) (main_arg4 : FVec F S4096x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x1024x32x128 .f32 := Host.absf main_arg2
  let main_cst_2 : FVec F S_ .f32 := constant S_ .f32 0x7F800000#32
  let main_v10 : FVec F S1x1024x32x128 .f32 := broadcastInDim S1x1024x32x128 ![] bcast_S_S1x1024x32x128 main_cst_2
  let main_v11 : IVec S1x1024x32x128 1 := cmpf .olt main_v9 main_v10
  let main_c_3 : IVec S_ 1 := constantI S_ 1 1#1
  let main_v12 : IVec S_ 1 := (fun x v => Host.reduce IntOp.andi x v reducesTo_S1x1024x32x128_S_d0_1_2_3 h_S_) main_v11 main_c_3
  let main_v13 : IVec S_ 1 := andi main_v8 main_v12
  main_v13
-- ==== Kernel.lean ====
abbrev S1024x1024 : Shape := ⟨2, ![1024, 1024]⟩
abbrev S1x1024x32x128 : Shape := ⟨4, ![1, 1024, 32, 128]⟩
abbrev S3x128x1024 : Shape := ⟨3, ![3, 128, 1024]⟩
abbrev S2x8 : Shape := ⟨2, ![2, 8]⟩
abbrev S3 : Shape := ⟨1, ![3]⟩
abbrev S3x4 : Shape := ⟨2, ![3, 4]⟩
abbrev S1x1 : Shape := ⟨2, ![1, 1]⟩
abbrev S_ : Shape := ⟨0, ![]⟩
abbrev S1024x128 : Shape := ⟨2, ![1024, 128]⟩
abbrev S1x1024x1x128 : Shape := ⟨4, ![1, 1024, 1, 128]⟩
abbrev S128x1024 : Shape := ⟨2, ![128, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1 : Shape := ⟨1, ![1]⟩
abbrev S1x128x1024 : Shape := ⟨3, ![1, 128, 1024]⟩
abbrev S32x1024 : Shape := ⟨2, ![32, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024x32x128, .f32⟩
  | .hbm, ⟨3, _⟩ => ⟨S1x1024x32x128, .f32⟩
  | .hbm, ⟨4, _⟩ => ⟨S1024x1024, .f32⟩
  | .hbm, ⟨5, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S3x128x1024, .bf16⟩
  | .local _ .vmem, ⟨9, _⟩ => ⟨S3x128x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 4 → Nat :=
  let c0_i32_5 : BitVec 32 := 0#32
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let v9 : BitVec 32 := Scalar.addi v8 c0_i32
  let c0_i32_11 : BitVec 32 := 0#32
  ![0, 0, v9.toNat, 0]
def k0_dev1 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_136 : BitVec 32 := 1#32
  let v121 : BitVec 32 := Scalar.muli v5 c1_i32_136
  let v122 : BitVec 32 := Scalar.addi c0_i32_137 v121
  v122.toNat
def k0_dev2 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_139 : BitVec 32 := 1#32
  let v123 : BitVec 32 := Scalar.muli v7 c1_i32_139
  let v124 : BitVec 32 := Scalar.addi c0_i32_140 v123
  v124.toNat
def k0_off2 (d0 : Dev nD) (c0_i32_142 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v125 : BitVec 32 := Scalar.subi v2 c0_i32_142
  let c4_i32_143 : BitVec 32 := 4#32
  let v126 : BitVec 32 := Scalar.addi v125 c4_i32_143
  let c4_i32_144 : BitVec 32 := 4#32
  let v127 : BitVec 32 := Scalar.remsi v126 c4_i32_144
  let c128_i32_147 : BitVec 32 := 128#32
  let v130 : BitVec 32 := Scalar.muli v127 c128_i32_147
  let v133 : Index := Scalar.indexCast v130
  let c0 : Index := 0#32
  ![v133.toNat, 0]
def k0_off3 (d0 : Dev nD) (c0_i32_145 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v128 : BitVec 32 := Scalar.addi v2 c0_i32_145
  let c4_i32_146 : BitVec 32 := 4#32
  let v129 : BitVec 32 := Scalar.remsi v128 c4_i32_146
  let c4_i32_148 : BitVec 32 := 4#32
  let v131 : BitVec 32 := Scalar.addi v129 c4_i32_148
  let c128_i32_149 : BitVec 32 := 128#32
  let v132 : BitVec 32 := Scalar.muli v131 c128_i32_149
  let v136 : Index := Scalar.indexCast v132
  let c0_150 : Index := 0#32
  ![v136.toNat, 0]
def k0_off4 (d0 : Dev nD) (c0_i32_142 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v125 : BitVec 32 := Scalar.subi v2 c0_i32_142
  let c4_i32_143 : BitVec 32 := 4#32
  let v126 : BitVec 32 := Scalar.addi v125 c4_i32_143
  let c4_i32_144 : BitVec 32 := 4#32
  let v127 : BitVec 32 := Scalar.remsi v126 c4_i32_144
  let c128_i32_147 : BitVec 32 := 128#32
  let v130 : BitVec 32 := Scalar.muli v127 c128_i32_147
  let c0_i32_347 : BitVec 32 := 0#32
  ![v130.toNat, 0]
def k0_dev3 (d0 : Dev nD) : Nat :=
  let c0_i32_344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_343 : BitVec 32 := 1#32
  let v400 : BitVec 32 := Scalar.muli v7 c1_i32_343
  let v401 : BitVec 32 := Scalar.addi c0_i32_344 v400
  v401.toNat
def k0_off5 (d0 : Dev nD) (c0_i32_145 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v128 : BitVec 32 := Scalar.addi v2 c0_i32_145
  let c4_i32_146 : BitVec 32 := 4#32
  let v129 : BitVec 32 := Scalar.remsi v128 c4_i32_146
  let c4_i32_148 : BitVec 32 := 4#32
  let v131 : BitVec 32 := Scalar.addi v129 c4_i32_148
  let c128_i32_149 : BitVec 32 := 128#32
  let v132 : BitVec 32 := Scalar.muli v131 c128_i32_149
  let c0_i32_355 : BitVec 32 := 0#32
  ![v132.toNat, 0]
def k0_dev4 (d0 : Dev nD) : Nat :=
  let c0_i32_352 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_351 : BitVec 32 := 1#32
  let v409 : BitVec 32 := Scalar.muli v5 c1_i32_351
  let v410 : BitVec 32 := Scalar.addi c0_i32_352 v409
  v410.toNat
def k0_dev5 (d0 : Dev nD) : Nat :=
  let c0_i32_469 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_468 : BitVec 32 := 1#32
  let v629 : BitVec 32 := Scalar.muli v7 c1_i32_468
  let v630 : BitVec 32 := Scalar.addi c0_i32_469 v629
  v630.toNat
def k0_dev6 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_489 : BitVec 32 := 1#32
  let v654 : BitVec 32 := Scalar.muli v5 c1_i32_489
  let v655 : BitVec 32 := Scalar.addi c0_i32_490 v654
  v655.toNat
def k0_dev7 (d0 : Dev nD) : Nat :=
  let c0_i32_606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_605 : BitVec 32 := 1#32
  let v874 : BitVec 32 := Scalar.muli v7 c1_i32_605
  let v875 : BitVec 32 := Scalar.addi c0_i32_606 v874
  v875.toNat
def k0_dev8 (d0 : Dev nD) : Nat :=
  let c0_i32_627 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_626 : BitVec 32 := 1#32
  let v899 : BitVec 32 := Scalar.muli v5 c1_i32_626
  let v900 : BitVec 32 := Scalar.addi c0_i32_627 v899
  v900.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_752 : BitVec 32 := 1#32
  let v1135 : BitVec 32 := Scalar.addi v2 c1_i32_752
  let c4_i32_753 : BitVec 32 := 4#32
  let v1136 : BitVec 32 := Scalar.remsi v1135 c4_i32_753
  let c128_i32_757 : BitVec 32 := 128#32
  let v1140 : BitVec 32 := Scalar.muli v1136 c128_i32_757
  let v1143 : Index := Scalar.indexCast v1140
  let c0_760 : Index := 0#32
  ![v1143.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_754 : BitVec 32 := 4#32
  let v1137 : BitVec 32 := Scalar.addi v2 c4_i32_754
  let c1_i32_755 : BitVec 32 := 1#32
  let v1138 : BitVec 32 := Scalar.subi v1137 c1_i32_755
  let c4_i32_756 : BitVec 32 := 4#32
  let v1139 : BitVec 32 := Scalar.remsi v1138 c4_i32_756
  let c4_i32_758 : BitVec 32 := 4#32
  let v1141 : BitVec 32 := Scalar.addi v1139 c4_i32_758
  let c128_i32_759 : BitVec 32 := 128#32
  let v1142 : BitVec 32 := Scalar.muli v1141 c128_i32_759
  let v1149 : Index := Scalar.indexCast v1142
  let c0_762 : Index := 0#32
  ![v1149.toNat, 0]
def k0_off8 (d0 : Dev nD) (c0_i32_764 : BitVec 32) (c0_i32_778 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_752 : BitVec 32 := 1#32
  let v1135 : BitVec 32 := Scalar.addi v2 c1_i32_752
  let c4_i32_753 : BitVec 32 := 4#32
  let v1136 : BitVec 32 := Scalar.remsi v1135 c4_i32_753
  let v1155 : BitVec 32 := Scalar.subi v1136 c0_i32_764
  let c4_i32_765 : BitVec 32 := 4#32
  let v1156 : BitVec 32 := Scalar.addi v1155 c4_i32_765
  let c4_i32_766 : BitVec 32 := 4#32
  let v1157 : BitVec 32 := Scalar.remsi v1156 c4_i32_766
  let c128_i32_776 : BitVec 32 := 128#32
  let v1167 : BitVec 32 := Scalar.muli v1157 c128_i32_776
  let v1169 : BitVec 32 := Scalar.addi v1167 c0_i32_778
  let c0_i32_785 : BitVec 32 := 0#32
  ![v1169.toNat, 0]
def k0_dev9 (d0 : Dev nD) : Nat :=
  let c0_i32_784 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_783 : BitVec 32 := 1#32
  let v1170 : BitVec 32 := Scalar.muli v7 c1_i32_783
  let v1171 : BitVec 32 := Scalar.addi c0_i32_784 v1170
  v1171.toNat
def k0_off9 (d0 : Dev nD) (c0_i32_767 : BitVec 32) (c0_i32_793 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_754 : BitVec 32 := 4#32
  let v1137 : BitVec 32 := Scalar.addi v2 c4_i32_754
  let c1_i32_755 : BitVec 32 := 1#32
  let v1138 : BitVec 32 := Scalar.subi v1137 c1_i32_755
  let c4_i32_756 : BitVec 32 := 4#32
  let v1139 : BitVec 32 := Scalar.remsi v1138 c4_i32_756
  let v1158 : BitVec 32 := Scalar.addi v1139 c0_i32_767
  let c4_i32_768 : BitVec 32 := 4#32
  let v1159 : BitVec 32 := Scalar.remsi v1158 c4_i32_768
  let c4_i32_790 : BitVec 32 := 4#32
  let v1181 : BitVec 32 := Scalar.addi v1159 c4_i32_790
  let c128_i32_791 : BitVec 32 := 128#32
  let v1182 : BitVec 32 := Scalar.muli v1181 c128_i32_791
  let v1184 : BitVec 32 := Scalar.addi v1182 c0_i32_793
  let c0_i32_800 : BitVec 32 := 0#32
  ![v1184.toNat, 0]
def k0_dev10 (d0 : Dev nD) : Nat :=
  let c0_i32_799 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_798 : BitVec 32 := 1#32
  let v1185 : BitVec 32 := Scalar.muli v5 c1_i32_798
  let v1186 : BitVec 32 := Scalar.addi c0_i32_799 v1185
  v1186.toNat
def k0_dev11 (d0 : Dev nD) : Nat :=
  let c0_i32_813 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_812 : BitVec 32 := 1#32
  let v1200 : BitVec 32 := Scalar.muli v7 c1_i32_812
  let v1201 : BitVec 32 := Scalar.addi c0_i32_813 v1200
  v1201.toNat
def k0_dev12 (d0 : Dev nD) : Nat :=
  let c0_i32_828 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_827 : BitVec 32 := 1#32
  let v1215 : BitVec 32 := Scalar.muli v5 c1_i32_827
  let v1216 : BitVec 32 := Scalar.addi c0_i32_828 v1215
  v1216.toNat
def k0_dev13 (d0 : Dev nD) : Nat :=
  let c0_i32_843 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_842 : BitVec 32 := 1#32
  let v1230 : BitVec 32 := Scalar.muli v7 c1_i32_842
  let v1231 : BitVec 32 := Scalar.addi c0_i32_843 v1230
  v1231.toNat
def k0_dev14 (d0 : Dev nD) : Nat :=
  let c0_i32_858 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_857 : BitVec 32 := 1#32
  let v1245 : BitVec 32 := Scalar.muli v5 c1_i32_857
  let v1246 : BitVec 32 := Scalar.addi c0_i32_858 v1245
  v1246.toNat
def k0_dev15 (d0 : Dev nD) : Nat :=
  let c0_i32_872 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_871 : BitVec 32 := 1#32
  let v1260 : BitVec 32 := Scalar.muli v7 c1_i32_871
  let v1261 : BitVec 32 := Scalar.addi c0_i32_872 v1260
  v1261.toNat
def k0_dev16 (d0 : Dev nD) : Nat :=
  let c0_i32_887 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_886 : BitVec 32 := 1#32
  let v1275 : BitVec 32 := Scalar.muli v5 c1_i32_886
  let v1276 : BitVec 32 := Scalar.addi c0_i32_887 v1275
  v1276.toNat
def k0_off10 (d0 : Dev nD) (c0_i32_769 : BitVec 32) (c0_i32_789 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_752 : BitVec 32 := 1#32
  let v1135 : BitVec 32 := Scalar.addi v2 c1_i32_752
  let c4_i32_753 : BitVec 32 := 4#32
  let v1136 : BitVec 32 := Scalar.remsi v1135 c4_i32_753
  let v1160 : BitVec 32 := Scalar.subi v1136 c0_i32_769
  let c1_i32_770 : BitVec 32 := 1#32
  let v1161 : BitVec 32 := Scalar.subi v1160 c1_i32_770
  let c4_i32_771 : BitVec 32 := 4#32
  let v1162 : BitVec 32 := Scalar.addi v1161 c4_i32_771
  let c4_i32_772 : BitVec 32 := 4#32
  let v1163 : BitVec 32 := Scalar.remsi v1162 c4_i32_772
  let c128_i32_787 : BitVec 32 := 128#32
  let v1178 : BitVec 32 := Scalar.muli v1163 c128_i32_787
  let v1180 : BitVec 32 := Scalar.addi v1178 c0_i32_789
  let c0_i32_912 : BitVec 32 := 0#32
  ![v1180.toNat, 0]
def k0_dev17 (d0 : Dev nD) : Nat :=
  let c0_i32_922 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_921 : BitVec 32 := 1#32
  let v1308 : BitVec 32 := Scalar.muli v7 c1_i32_921
  let v1309 : BitVec 32 := Scalar.addi c0_i32_922 v1308
  v1309.toNat
def k0_off11 (d0 : Dev nD) (c0_i32_773 : BitVec 32) (c0_i32_805 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_754 : BitVec 32 := 4#32
  let v1137 : BitVec 32 := Scalar.addi v2 c4_i32_754
  let c1_i32_755 : BitVec 32 := 1#32
  let v1138 : BitVec 32 := Scalar.subi v1137 c1_i32_755
  let c4_i32_756 : BitVec 32 := 4#32
  let v1139 : BitVec 32 := Scalar.remsi v1138 c4_i32_756
  let v1164 : BitVec 32 := Scalar.addi v1139 c0_i32_773
  let c1_i32_774 : BitVec 32 := 1#32
  let v1165 : BitVec 32 := Scalar.addi v1164 c1_i32_774
  let c4_i32_775 : BitVec 32 := 4#32
  let v1166 : BitVec 32 := Scalar.remsi v1165 c4_i32_775
  let c4_i32_802 : BitVec 32 := 4#32
  let v1193 : BitVec 32 := Scalar.addi v1166 c4_i32_802
  let c128_i32_803 : BitVec 32 := 128#32
  let v1194 : BitVec 32 := Scalar.muli v1193 c128_i32_803
  let v1196 : BitVec 32 := Scalar.addi v1194 c0_i32_805
  let c0_i32_934 : BitVec 32 := 0#32
  ![v1196.toNat, 0]
def k0_dev18 (d0 : Dev nD) : Nat :=
  let c0_i32_945 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_944 : BitVec 32 := 1#32
  let v1329 : BitVec 32 := Scalar.muli v5 c1_i32_944
  let v1330 : BitVec 32 := Scalar.addi c0_i32_945 v1329
  v1330.toNat
def k0_dev19 (d0 : Dev nD) : Nat :=
  let c0_i32_968 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_967 : BitVec 32 := 1#32
  let v1350 : BitVec 32 := Scalar.muli v7 c1_i32_967
  let v1351 : BitVec 32 := Scalar.addi c0_i32_968 v1350
  v1351.toNat
def k0_dev20 (d0 : Dev nD) : Nat :=
  let c0_i32_991 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_990 : BitVec 32 := 1#32
  let v1371 : BitVec 32 := Scalar.muli v5 c1_i32_990
  let v1372 : BitVec 32 := Scalar.addi c0_i32_991 v1371
  v1372.toNat
def k0_dev21 (d0 : Dev nD) : Nat :=
  let c0_i32_1014 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1013 : BitVec 32 := 1#32
  let v1392 : BitVec 32 := Scalar.muli v7 c1_i32_1013
  let v1393 : BitVec 32 := Scalar.addi c0_i32_1014 v1392
  v1393.toNat
def k0_dev22 (d0 : Dev nD) : Nat :=
  let c0_i32_1037 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1036 : BitVec 32 := 1#32
  let v1413 : BitVec 32 := Scalar.muli v5 c1_i32_1036
  let v1414 : BitVec 32 := Scalar.addi c0_i32_1037 v1413
  v1414.toNat
def k0_dev23 (d0 : Dev nD) : Nat :=
  let c0_i32_1060 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1059 : BitVec 32 := 1#32
  let v1434 : BitVec 32 := Scalar.muli v7 c1_i32_1059
  let v1435 : BitVec 32 := Scalar.addi c0_i32_1060 v1434
  v1435.toNat
def k0_dev24 (d0 : Dev nD) : Nat :=
  let c0_i32_1083 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1082 : BitVec 32 := 1#32
  let v1455 : BitVec 32 := Scalar.muli v5 c1_i32_1082
  let v1456 : BitVec 32 := Scalar.addi c0_i32_1083 v1455
  v1456.toNat
def k0_off12 (d0 : Dev nD) (c1_i32_894 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_752 : BitVec 32 := 1#32
  let v1135 : BitVec 32 := Scalar.addi v2 c1_i32_752
  let c4_i32_753 : BitVec 32 := 4#32
  let v1136 : BitVec 32 := Scalar.remsi v1135 c4_i32_753
  let v1287 : BitVec 32 := Scalar.subi v1136 c1_i32_894
  let c4_i32_895 : BitVec 32 := 4#32
  let v1288 : BitVec 32 := Scalar.addi v1287 c4_i32_895
  let c4_i32_896 : BitVec 32 := 4#32
  let v1289 : BitVec 32 := Scalar.remsi v1288 c4_i32_896
  let c128_i32_1090 : BitVec 32 := 128#32
  let v1467 : BitVec 32 := Scalar.muli v1289 c128_i32_1090
  let v1468 : Index := Scalar.indexCast v1467
  let c0_1091 : Index := 0#32
  ![v1468.toNat, 0]
def k0_off13 (d0 : Dev nD) (c1_i32_897 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_754 : BitVec 32 := 4#32
  let v1137 : BitVec 32 := Scalar.addi v2 c4_i32_754
  let c1_i32_755 : BitVec 32 := 1#32
  let v1138 : BitVec 32 := Scalar.subi v1137 c1_i32_755
  let c4_i32_756 : BitVec 32 := 4#32
  let v1139 : BitVec 32 := Scalar.remsi v1138 c4_i32_756
  let v1290 : BitVec 32 := Scalar.addi v1139 c1_i32_897
  let c4_i32_898 : BitVec 32 := 4#32
  let v1291 : BitVec 32 := Scalar.remsi v1290 c4_i32_898
  let c4_i32_1093 : BitVec 32 := 4#32
  let v1473 : BitVec 32 := Scalar.addi v1291 c4_i32_1093
  let c128_i32_1094 : BitVec 32 := 128#32
  let v1474 : BitVec 32 := Scalar.muli v1473 c128_i32_1094
  let v1475 : Index := Scalar.indexCast v1474
  let c0_1095 : Index := 0#32
  ![v1475.toNat, 0]
def k0_dev25 (d0 : Dev nD) : Nat :=
  let c0_i32_1125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1124 : BitVec 32 := 1#32
  let v1501 : BitVec 32 := Scalar.muli v7 c1_i32_1124
  let v1502 : BitVec 32 := Scalar.addi c0_i32_1125 v1501
  v1502.toNat
def k0_dev26 (d0 : Dev nD) : Nat :=
  let c0_i32_1148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1147 : BitVec 32 := 1#32
  let v1522 : BitVec 32 := Scalar.muli v5 c1_i32_1147
  let v1523 : BitVec 32 := Scalar.addi c0_i32_1148 v1522
  v1523.toNat
def k0_dev27 (d0 : Dev nD) : Nat :=
  let c0_i32_1171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1170 : BitVec 32 := 1#32
  let v1543 : BitVec 32 := Scalar.muli v7 c1_i32_1170
  let v1544 : BitVec 32 := Scalar.addi c0_i32_1171 v1543
  v1544.toNat
def k0_dev28 (d0 : Dev nD) : Nat :=
  let c0_i32_1194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1193 : BitVec 32 := 1#32
  let v1564 : BitVec 32 := Scalar.muli v5 c1_i32_1193
  let v1565 : BitVec 32 := Scalar.addi c0_i32_1194 v1564
  v1565.toNat
def k0_dev29 (d0 : Dev nD) : Nat :=
  let c0_i32_1217 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1216 : BitVec 32 := 1#32
  let v1585 : BitVec 32 := Scalar.muli v7 c1_i32_1216
  let v1586 : BitVec 32 := Scalar.addi c0_i32_1217 v1585
  v1586.toNat
def k0_dev30 (d0 : Dev nD) : Nat :=
  let c0_i32_1240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1239 : BitVec 32 := 1#32
  let v1606 : BitVec 32 := Scalar.muli v5 c1_i32_1239
  let v1607 : BitVec 32 := Scalar.addi c0_i32_1240 v1606
  v1607.toNat
def k0_dev31 (d0 : Dev nD) : Nat :=
  let c0_i32_1263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1262 : BitVec 32 := 1#32
  let v1627 : BitVec 32 := Scalar.muli v7 c1_i32_1262
  let v1628 : BitVec 32 := Scalar.addi c0_i32_1263 v1627
  v1628.toNat
def k0_dev32 (d0 : Dev nD) : Nat :=
  let c0_i32_1286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1285 : BitVec 32 := 1#32
  let v1648 : BitVec 32 := Scalar.muli v5 c1_i32_1285
  let v1649 : BitVec 32 := Scalar.addi c0_i32_1286 v1648
  v1649.toNat
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_752 : BitVec 32 := 1#32
  let v1135 : BitVec 32 := Scalar.addi v2 c1_i32_752
  let c4_i32_753 : BitVec 32 := 4#32
  let v1136 : BitVec 32 := Scalar.remsi v1135 c4_i32_753
  let c1_i32_1368 : BitVec 32 := 1#32
  let v1731 : BitVec 32 := Scalar.addi v1136 c1_i32_1368
  let c4_i32_1369 : BitVec 32 := 4#32
  let v1732 : BitVec 32 := Scalar.remsi v1731 c4_i32_1369
  let c128_i32_1370 : BitVec 32 := 128#32
  let v1733 : BitVec 32 := Scalar.muli v1732 c128_i32_1370
  let v1734 : Index := Scalar.indexCast v1733
  let c0_1371 : Index := 0#32
  ![v1734.toNat, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_754 : BitVec 32 := 4#32
  let v1137 : BitVec 32 := Scalar.addi v2 c4_i32_754
  let c1_i32_755 : BitVec 32 := 1#32
  let v1138 : BitVec 32 := Scalar.subi v1137 c1_i32_755
  let c4_i32_756 : BitVec 32 := 4#32
  let v1139 : BitVec 32 := Scalar.remsi v1138 c4_i32_756
  let c4_i32_1373 : BitVec 32 := 4#32
  let v1739 : BitVec 32 := Scalar.addi v1139 c4_i32_1373
  let c1_i32_1374 : BitVec 32 := 1#32
  let v1740 : BitVec 32 := Scalar.subi v1739 c1_i32_1374
  let c4_i32_1375 : BitVec 32 := 4#32
  let v1741 : BitVec 32 := Scalar.remsi v1740 c4_i32_1375
  let c4_i32_1376 : BitVec 32 := 4#32
  let v1742 : BitVec 32 := Scalar.addi v1741 c4_i32_1376
  let c128_i32_1377 : BitVec 32 := 128#32
  let v1743 : BitVec 32 := Scalar.muli v1742 c128_i32_1377
  let v1744 : Index := Scalar.indexCast v1743
  let c0_1378 : Index := 0#32
  ![v1744.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x1024x1024 : Shape := ⟨3, ![1, 1024, 1024]⟩
abbrev S1x1024x4096 : Shape := ⟨3, ![1, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1x32x1024x1024 : Shape := ⟨4, ![1, 32, 1024, 1024]⟩
abbrev S1x1x1024x1024 : Shape := ⟨4, ![1, 1, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 125
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S1x1024x32x128, .f32⟩
  | .hbm, ⟨3, _⟩ => ⟨S1x1024x32x128, .f32⟩
  | .hbm, ⟨4, _⟩ => ⟨S4096x1024, .f32⟩
  | .hbm, ⟨5, _⟩ => ⟨S1x1024x1024, .f32⟩
  | .hbm, ⟨6, _⟩ => ⟨S1x1024x4096, .f32⟩
  | .hbm, ⟨7, _⟩ => ⟨S1x1024x32x128, .f32⟩
  | .hbm, ⟨8, _⟩ => ⟨S1024, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024x1, .i32⟩
  | .hbm, ⟨28, _⟩ => ⟨S1024, .i32⟩
  | .hbm, ⟨29, _⟩ => ⟨S_, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S1x1024, .i32⟩
  | .hbm, ⟨48, _⟩ => ⟨S1024x1024, .i32⟩
  | .hbm, ⟨49, _⟩ => ⟨S1024x1024, .i32⟩
  | .hbm, ⟨50, _⟩ => ⟨S1024x1024, .i1⟩
  | .hbm, ⟨51, _⟩ => ⟨S_, .i32⟩
  | .hbm, ⟨52, _⟩ => ⟨S1x1024, .i32⟩
  | .hbm, ⟨53, _⟩ => ⟨S1x1024, .i1⟩
  | .hbm, ⟨54, _⟩ => ⟨S1024x1024, .i1⟩
  | .hbm, ⟨55, _⟩ => ⟨S1024x1024, .i1⟩
  | .hbm, ⟨56, _⟩ => ⟨S1024x1024, .i32⟩
  | .hbm, ⟨57, _⟩ => ⟨S1024x1024, .i32⟩
  | .hbm, ⟨58, _⟩ => ⟨S1024x1024, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S1024x1024, .i32⟩
  | .hbm, ⟨66, _⟩ => ⟨S1024x1024, .i32⟩
  | .hbm, ⟨67, _⟩ => ⟨S_, .i32⟩
  | .hbm, ⟨68, _⟩ => ⟨S1024x1024, .i32⟩
  | .hbm, ⟨69, _⟩ => ⟨S1024x1024, .i1⟩
  | .hbm, ⟨70, _⟩ => ⟨S_, .i32⟩
  | .hbm, ⟨71, _⟩ => ⟨S1024x1024, .i32⟩
  | .hbm, ⟨72, _⟩ => ⟨S1024x1024, .i1⟩
  | .hbm, ⟨73, _⟩ => ⟨S_, .i32⟩
  | .hbm, ⟨74, _⟩ => ⟨S_, .i1⟩
  | .hbm, ⟨75, _⟩ => ⟨S1024x1024, .i1⟩
  | .hbm, ⟨76, _⟩ => ⟨S1024x1024, .i1⟩
  | .hbm, ⟨77, _⟩ => ⟨S1024x1024, .i1⟩
  | .hbm, ⟨78, _⟩ => ⟨S1024x1024, .i32⟩
  | .hbm, ⟨79, _⟩ => ⟨S1024x1024, .i32⟩
  | .hbm, ⟨80, _⟩ => ⟨S1024x1024, .i32⟩
  | .hbm, ⟨81, _⟩ => ⟨S_, .i32⟩
  | .hbm, ⟨82, _⟩ => ⟨S1024x1024, .i32⟩
  | .hbm, ⟨83, _⟩ => ⟨S1024x1024, .i1⟩
  | .hbm, ⟨84, _⟩ => ⟨S1024x1024, .i1⟩
  | .hbm, ⟨85, _⟩ => ⟨S1x32x1024x1024, .f32⟩
  | .hbm, ⟨86, _⟩ => ⟨S_, .f32⟩
  | .hbm, ⟨87, _⟩ => ⟨S1x32x1024x1024, .f32⟩
  | .hbm, ⟨88, _⟩ => ⟨S1x32x1024x1024, .f32⟩
  | .hbm, ⟨89, _⟩ => ⟨S1x1x1024x1024, .i1⟩
  | .hbm, ⟨90, _⟩ => ⟨S_, .f32⟩
  | .hbm, ⟨91, _⟩ => ⟨S_, .f32⟩
  | .hbm, ⟨92, _⟩ => ⟨S1x32x1024x1024, .i1⟩
  | .hbm, ⟨93, _⟩ => ⟨S1x32x1024x1024, .f32⟩
  | .hbm, ⟨94, _⟩ => ⟨S1x32x1024x1024, .f32⟩
  | .hbm, ⟨95, _⟩ => ⟨S_, .f32⟩
  | .hbm, ⟨96, _⟩ => ⟨S1x32x1024, .f32⟩
  | .hbm, ⟨97, _⟩ => ⟨S1x32x1024x1, .f32⟩
  | .hbm, ⟨98, _⟩ => ⟨S1x32x1024x1024, .f32⟩
  | .hbm, ⟨99, _⟩ => ⟨S1x32x1024x1024, .f32⟩
  | .hbm, ⟨100, _⟩ => ⟨S1x32x1024x1024, .f32⟩
  | .hbm, ⟨101, _⟩ => ⟨S_, .i1⟩
  | .hbm, ⟨102, _⟩ => ⟨S1024, .i1⟩
  | .hbm, ⟨103, _⟩ => ⟨S1x1x1024x1, .i1⟩
  | .hbm, ⟨104, _⟩ => ⟨S_, .f32⟩
  | .hbm, ⟨105, _⟩ => ⟨S1x32x1024, .f32⟩
  | .hbm, ⟨106, _⟩ => ⟨S1x32x1024x1, .f32⟩
  | .hbm, ⟨107, _⟩ => ⟨S_, .f32⟩
  | .hbm, ⟨108, _⟩ => ⟨S_, .f32⟩
  | .hbm, ⟨109, _⟩ => ⟨S1x32x1024x1, .i1⟩
  | .hbm, ⟨110, _⟩ => ⟨S1x32x1024x1, .f32⟩
  | .hbm, ⟨111, _⟩ => ⟨S1x32x1024x1, .f32⟩
  | .hbm, ⟨112, _⟩ => ⟨S1x32x1024x1024, .f32⟩
  | .hbm, ⟨113, _⟩ => ⟨S1x32x1024x1024, .f32⟩
  | .hbm, ⟨114, _⟩ => ⟨S1x1x1024x1, .i1⟩
  | .hbm, ⟨115, _⟩ => ⟨S_, .f32⟩
  | .hbm, ⟨116, _⟩ => ⟨S_, .f32⟩
  | .hbm, ⟨117, _⟩ => ⟨S1x32x1024x1024, .i1⟩
  | .hbm, ⟨118, _⟩ => ⟨S1x32x1024x1024, .f32⟩
  | .hbm, ⟨119, _⟩ => ⟨S1x32x1024x1024, .f32⟩
  | .hbm, ⟨120, _⟩ => ⟨S1x32x128x1024, .f32⟩
  | .hbm, ⟨121, _⟩ => ⟨S1x1024x32x128, .f32⟩
  | .hbm, ⟨122, _⟩ => ⟨S1x1024x4096, .f32⟩
  | .hbm, ⟨123, _⟩ => ⟨S1x1024x1024, .f32⟩
  | .hbm, ⟨124, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_cst : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_cst_4 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v27 : Ref sig .tc := ⟨.hbm, 94, rfl⟩
abbrev main_cst_5 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_c_6 : Ref sig .tc := ⟨.hbm, 101, rfl⟩
abbrev main_v33 : Ref sig .tc := ⟨.hbm, 102, rfl⟩
abbrev main_v34 : Ref sig .tc := ⟨.hbm, 103, rfl⟩
abbrev main_cst_7 : Ref sig .tc := ⟨.hbm, 104, rfl⟩
abbrev main_v35 : Ref sig .tc := ⟨.hbm, 105, rfl⟩
abbrev main_v36 : Ref sig .tc := ⟨.hbm, 106, rfl⟩
abbrev main_cst_8 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_cst_9 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩

abbrev nD : Nat := 1
abbrev τ : Topo := Topo.v7x

variable {F : FTy → Type} [FloatOps F]
-- ==== Proof.Common.lean ====
/-
# Windows, neighbours and step rules

The names the rest of the proof speaks in: the kernel's buffers as memrefs, the windows of them that travel (a chunk of
128 rows, a quarter chunk of 32 rows, a head's 128 columns, a landing slot), the two ring neighbours, and the rules for one
load or store of a window held at known contents.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The ring -/

set_option backward.proofsInPublic true in
/-- The device after `c`. -/
def rgt (c : Dev nD) : Dev nD := ⟨(c.val + 1) % 4, Nat.mod_lt _ (by decide)⟩
set_option backward.proofsInPublic true in
/-- The device before `c`. -/
def lft (c : Dev nD) : Dev nD := ⟨(c.val + 3) % 4, Nat.mod_lt _ (by decide)⟩

theorem lft_rgt (c : Dev nD) : lft (rgt c) = c := by revert c; decide
theorem rgt_lft (c : Dev nD) : rgt (lft c) = c := by revert c; decide

/-- One step round the ring. -/
def ring : Dev nD ≃ Dev nD := ⟨rgt, lft, lft_rgt, rgt_lft⟩

/-- The chunk of the upper half that device `c` computes at step `k`: `c − k` round the ring. -/
def chA (c : Dev nD) (k : ℕ) : ℕ := (c.val + 8 - k) % 4
/-- The chunk of the lower half that device `c` computes at step `k`: `c + k` round the ring. -/
def chB (c : Dev nD) (k : ℕ) : ℕ := 4 + (c.val + k) % 4

theorem chA_lt (c : Dev nD) (k : ℕ) : chA c k < 8 := by unfold chA; omega
theorem chB_lt (c : Dev nD) (k : ℕ) : chB c k < 8 := by unfold chB; omega

/-! ## The buffers -/

abbrev xM : Memref sig .tc .vmem S1024x1024 .f32 := Memref.whole cc0_stg0_0
abbrev wqM : Memref sig .tc .vmem S1024x1024 .f32 := Memref.whole cc0_stg1_0
abbrev kHbm : Memref sig .tc .hbm S1x1024x32x128 .f32 := Memref.whole main_arg2
abbrev vHbm : Memref sig .tc .hbm S1x1024x32x128 .f32 := Memref.whole main_arg3
abbrev woM : Memref sig .tc .vmem S1024x1024 .f32 := Memref.whole cc0_stg2_0
abbrev outM : Memref sig .tc .vmem S1024x1024 .f32 := Memref.whole cc0_stg3_0
abbrev accM : Memref sig .tc .vmem S1024x1024 .bf16 := Memref.whole cc0_scratch0
abbrev gathM : Memref sig .tc .vmem S1024x1024 .bf16 := Memref.whole cc0_scratch1
abbrev kM : Memref sig .tc .vmem S1024x1024 .f32 := Memref.whole cc0_scratch2
abbrev vM : Memref sig .tc .vmem S1024x1024 .f32 := Memref.whole cc0_scratch3
abbrev rsaM : Memref sig .tc .vmem S3x128x1024 .bf16 := Memref.whole cc0_scratch4
abbrev rsbM : Memref sig .tc .vmem S3x128x1024 .bf16 := Memref.whole cc0_scratch5

/-! ## The windows -/

theorem rows_inb {j : ℕ} (h : j < 8) : ∀ a, (![128 * j, 0] : Fin 2 → ℕ) a + S128x1024.size a ≤ S1024x1024.size a := by
  intro a; fin_cases a <;> simp [S128x1024, S1024x1024]; omega
theorem sub_inb {j s : ℕ} (h : j < 8) (hs : s < 4) :
    ∀ a, (![128 * j + 32 * s, 0] : Fin 2 → ℕ) a + S32x1024.size a ≤ S1024x1024.size a := by
  intro a; fin_cases a <;> simp [S32x1024, S1024x1024]; omega
theorem cols_inb {h : ℕ} (hh : h < 8) : ∀ a, (![0, 128 * h] : Fin 2 → ℕ) a + S1024x128.size a ≤ S1024x1024.size a := by
  intro a; fin_cases a <;> simp [S1024x128, S1024x1024]; omega
theorem slot_inb {k : ℕ} (hk : k < 3) : ∀ a, (![k, 0, 0] : Fin 3 → ℕ) a + S1x128x1024.size a ≤ S3x128x1024.size a := by
  intro a; fin_cases a <;> simp [S1x128x1024, S3x128x1024]; omega

/-- Rows `128 j …` of a 1024 × 1024 buffer. -/
abbrev rowsR (j : ℕ) (h : j < 8) : Rect S1024x1024 := Rect.unit (s := S1024x1024) ![128 * j, 0] S128x1024.size (rows_inb h)
/-- Rows `128 j + 32 s …`, 32 of them. -/
abbrev subR (j s : ℕ) (h : j < 8) (hs : s < 4) : Rect S1024x1024 :=
  Rect.unit (s := S1024x1024) ![128 * j + 32 * s, 0] S32x1024.size (sub_inb h hs)
/-- Columns `128 h …`. -/
abbrev colsR (h : ℕ) (hh : h < 8) : Rect S1024x1024 := Rect.unit (s := S1024x1024) ![0, 128 * h] S1024x128.size (cols_inb hh)
/-- Slot `k` of a landing buffer. -/
abbrev slotR (k : ℕ) (hk : k < 3) : Rect S3x128x1024 := Rect.unit (s := S3x128x1024) ![k, 0, 0] S1x128x1024.size (slot_inb hk)

/-- A chunk window. -/
abbrev chW {e : EltTy} (M : Memref sig .tc .vmem S1024x1024 e) (j : ℕ) (h : j < 8) : Memref sig .tc .vmem S128x1024 e :=
  M.slice (rowsR j h) (fun _ => rfl)
/-- A quarter-chunk window. -/
abbrev subW {e : EltTy} (M : Memref sig .tc .vmem S1024x1024 e) (j s : ℕ) (h : j < 8) (hs : s < 4) : Memref sig .tc .vmem S32x1024 e :=
  M.slice (subR j s h hs) (fun _ => rfl)
/-- A head window. -/
abbrev colW (M : Memref sig .tc .vmem S1024x1024 .f32) (h : ℕ) (hh : h < 8) : Memref sig .tc .vmem S1024x128 .f32 :=
  M.slice (colsR h hh) (fun _ => rfl)
/-- A landing slot, as the loads see it, -/
abbrev slot1W (M : Memref sig .tc .vmem S3x128x1024 .bf16) (k : ℕ) (hk : k < 3) : Memref sig .tc .vmem S1x128x1024 .bf16 :=
  M.slice (slotR k hk) (fun _ => rfl)
/-- and as the transfers see it. -/
abbrev slotW (M : Memref sig .tc .vmem S3x128x1024 .bf16) (k : ℕ) (hk : k < 3) : Memref sig .tc .vmem S128x1024 .bf16 :=
  (slot1W M k hk).squeeze S128x1024 squeezes_S1x128x1024_S128x1024

/-- A slot's contents with the unit axis back. -/
def uns (X : S128x1024.Idx → Elt F .bf16) : S1x128x1024.Idx → Elt F .bf16 :=
  fun i => X ((Shape.reshapeEquiv (squeezes_S1x128x1024_S128x1024).numel_eq).symm i)

/-! ## Holding a window -/

/-- Device `c` holds memref `M` in full at contents `X`. -/
abbrev own {sp : Space} {s : Shape} {e : EltTy} (c : Dev nD) (M : Memref sig .tc sp s e) (X : s.Idx → Elt F e) : sProp 𝕄 :=
  owns (c : Thread nD τ) M fullShare X
/-- Device `c` holds memref `M` in full at some contents. -/
abbrev ownE {sp : Space} {s : Shape} {e : EltTy} (c : Dev nD) (M : Memref sig .tc sp s e) : sProp 𝕄 :=
  iprop(∃ X, owns (c : Thread nD τ) M fullShare X)

section Steps

variable (c : Dev nD)

/-- Loading exactly a window that is held. -/
theorem st_load {α : Type} {Q : α → sProp 𝕄} {cs : CoreSpace} {s : Shape} {e : EltTy} {M : Memref sig .tc cs s e} {off off' size : Fin s.rank → ℕ}
    {inb : ∀ a, off a + size a ≤ s.size a} (inb' : ∀ a, off' a + size a ≤ s.size a) (h : off = off')
    {hl : M.view.LoadsAt (Rect.unit (s := s) off size inb).toLoadRect}
    {k : ((Rect.unit (s := s) off size inb).shape.Idx → Elt F e) → Prog (TpuEff nD τ sig (Elt F) Λ₀ .tc) α}
    {q : PosShare TreeShare} {X : (Rect.unit (s := s) off' size inb').shape.Idx → Elt F e} :
    (owns (c : Thread nD τ) (M.slice (Rect.unit (s := s) off' size inb') (fun _ => rfl)) q X : sProp 𝕄)
      ⊢ iprop((owns (c : Thread nD τ) (M.slice (Rect.unit (s := s) off' size inb') (fun _ => rfl)) q X -∗ WP c (k X) Q)
        -∗ WP c (.op (.load M (Rect.unit (s := s) off size inb).toLoadRect hl) k) Q) := by
  subst h
  unfold owns
  iintro ⟨%f, %hf, H⟩ Hk
  iapply (wp_load_rect 𝒱₀ (c : Thread nD τ) none Set.univ (m := M) (r := Rect.unit (s := s) off size inb) (hl := hl)
    (S := (M.slice (Rect.unit (s := s) off size inb) (fun _ => rfl)).view.set) (Finset.Subset.refl _)) $$ H
  iintro H
  have e : (M.access (Rect.unit (s := s) off size inb)).read (Elt F) f = X := hf
  rw [e]
  iapply Hk
  iexists f
  isplitr; · ipureintro; exact hf
  iexact H

/-- Loading a rectangle of a memref held whole. -/
theorem st_load_in {α : Type} {Q : α → sProp 𝕄} {cs : CoreSpace} {s : Shape} {e : EltTy} {M : Memref sig .tc cs s e} {r : LoadRect s} {hl : M.view.LoadsAt r}
    {k : (r.shape.Idx → Elt F e) → Prog (TpuEff nD τ sig (Elt F) Λ₀ .tc) α} {q : PosShare TreeShare} {X : s.Idx → Elt F e} :
    (owns (c : Thread nD τ) M q X : sProp 𝕄)
      ⊢ iprop((owns (c : Thread nD τ) M q X -∗ WP c (k fun i => X (r.idx i)) Q) -∗ WP c (.op (.load M r hl) k) Q) := by
  unfold owns
  iintro ⟨%f, %hf, H⟩ Hk
  iapply (wp_load 𝒱₀ (c : Thread nD τ) none Set.univ (m := M) (r := r) (hl := hl) (S := M.view.set)
    (by exact View.setOn_subset_set _ _)) $$ H
  iintro H
  have e : M.view.readAt (Elt F) r f = fun i => X (r.idx i) := by subst hf; rfl
  rw [e]
  iapply Hk
  iexists f
  isplitr; · ipureintro; exact hf
  iexact H

/-- Loading a landing slot, held in the shape the transfers see. -/
theorem st_load_slot {α : Type} {Q : α → sProp 𝕄} {M : Memref sig .tc .vmem S3x128x1024 .bf16} {n : ℕ} {hn : n < 3} {off : Fin 3 → ℕ}
    {inb : ∀ a, off a + S1x128x1024.size a ≤ S3x128x1024.size a} (h : off = ![n, 0, 0])
    {hl : M.view.LoadsAt (Rect.unit (s := S3x128x1024) off S1x128x1024.size inb).toLoadRect}
    {k : (S1x128x1024.Idx → Elt F .bf16) → Prog (TpuEff nD τ sig (Elt F) Λ₀ .tc) α}
    {q : PosShare TreeShare} {X : S128x1024.Idx → Elt F .bf16} :
    (owns (c : Thread nD τ) (slotW M n hn) q X : sProp 𝕄)
      ⊢ iprop((owns (c : Thread nD τ) (slotW M n hn) q X -∗ WP c (k (uns X)) Q)
        -∗ WP c (.op (.load M (Rect.unit (s := S3x128x1024) off S1x128x1024.size inb).toLoadRect hl) k) Q) := by
  subst h
  unfold owns
  iintro ⟨%f, %hf, H⟩ Hk
  iapply (wp_load_rect 𝒱₀ (c : Thread nD τ) none Set.univ (m := M) (r := slotR n hn) (hl := hl)
    (S := (slotW M n hn).view.set) (View.set_reshape (v := (slot1W M n hn).view) _).ge) $$ H
  iintro H
  have e : (M.access (slotR n hn)).read (Elt F) f = uns X := by
    subst hf; funext i
    show _ = (slot1W M n hn).view.read (Elt F) f (Shape.reshapeEquiv _ ((Shape.reshapeEquiv _).symm i))
    rw [Equiv.apply_symm_apply]
  rw [e]
  iapply Hk
  iexists f
  isplitr; · ipureintro; exact hf
  iexact H

/-- Storing exactly a window that is held, unmasked. -/
theorem st_store {α : Type} {Q : α → sProp 𝕄} {cs : CoreSpace} {s : Shape} {e : EltTy} {M : Memref sig .tc cs s e} {off off' size : Fin s.rank → ℕ}
    {inb : ∀ a, off a + size a ≤ s.size a} (inb' : ∀ a, off' a + size a ≤ s.size a) (h : off = off')
    {w : (Rect.unit (s := s) off' size inb').shape.Idx → Elt F e}
    {hx : (M.access (Rect.unit (s := s) off size inb)).Stores Finset.univ}
    {hm : (Finset.univ : Finset (Rect.unit (s := s) off size inb).shape.Idx) = Finset.univ ∨ ∀ a, (Rect.unit (s := s) off size inb).stride a = 1}
    {k : PUnit → Prog (TpuEff nD τ sig (Elt F) Λ₀ .tc) α}
    {X : (Rect.unit (s := s) off' size inb').shape.Idx → Elt F e} :
    (own c (M.slice (Rect.unit (s := s) off' size inb') (fun _ => rfl)) X : sProp 𝕄)
      ⊢ iprop((own c (M.slice (Rect.unit (s := s) off' size inb') (fun _ => rfl)) w -∗ WP c (k ⟨⟩) Q)
        -∗ WP c (.op (.store M (Rect.unit (s := s) off size inb) w Finset.univ hx hm) k) Q) := by
  subst h
  unfold own owns
  iintro ⟨%f, %hf, H⟩ Hk
  iapply (wp_store 𝒱₀ (c : Thread nD τ) none Set.univ (m := M) (r := Rect.unit (s := s) off size inb) (hx := hx) (hm := hm)
    (S := (M.slice (Rect.unit (s := s) off size inb) (fun _ => rfl)).view.set) (View.setOn_subset_set _ _)) $$ H
  iintro H
  iapply Hk
  iexists ((M.access (Rect.unit (s := s) off size inb)).write (Elt F) f w Finset.univ)
  isplitr; · ipureintro; exact View.read_write_univ _ _
  iexact H

end Steps

end Cert.Ring
-- ==== Proof.Protocol.lean ====
/-
# The protocol

Each device's semaphores, what is paid onto each and what each payment hands over:

* the barrier semaphore — one unit from the device after, with the slots and chunks of that device the upper-half ring
  writes; one from the device before, with those the lower-half ring writes; the device waits for both;
* 16 semaphores of the local copies of the heads of K and V — the head, landed;
* per step of the reduce-scatter a send and a receive semaphore in either direction — the sent chunk back, and the slot
  holding the neighbour's running sum;
* per hop and quarter of the all-gather a send and a receive semaphore in either direction — half a share of the sent
  quarter back, and the quarter of the result, landed.

Every cell is used for one round. The contents are parameters (`Cont`).
-/
module

public import proofs.«01_k».proof.Proof.Common

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Contents -/

/-- What travels: the heads of K and V per device, the running sums of the two rings per device and step, the finished
    chunks of the result. -/
structure Cont (F : FTy → Type) where
  kC : Dev nD → ℕ → S1024x128.Idx → Elt F .f32
  vC : Dev nD → ℕ → S1024x128.Idx → Elt F .f32
  SA : Dev nD → ℕ → S128x1024.Idx → Elt F .bf16
  SB : Dev nD → ℕ → S128x1024.Idx → Elt F .bf16
  G : ℕ → S128x1024.Idx → Elt F .bf16

theorem quarter_inb {s : ℕ} (h : s < 4) : ∀ a, (![32 * s, 0] : Fin 2 → ℕ) a + S32x1024.size a ≤ S128x1024.size a := by
  intro a; fin_cases a <;> simp [S32x1024, S128x1024]; omega

/-- The rectangle of quarter `s` of a chunk. -/
abbrev quarterR (s : ℕ) (h : s < 4) : Rect S128x1024 := Rect.unit (s := S128x1024) ![32 * s, 0] S32x1024.size (quarter_inb h)

/-- Quarter `s` of a chunk's contents. -/
def quarter {e : EltTy} (s : ℕ) (h : s < 4) (X : S128x1024.Idx → Elt F e) : S32x1024.Idx → Elt F e := fun i => X ((quarterR s h).emb i)

/-! ## Cells -/

/-- The barrier semaphore of the launch. -/
abbrev barS : Sem sig := (SemArray.scalar (sig.barrier 0 rfl) : Sems sig S_).sem

set_option backward.proofsInPublic true in
/-- The kernel's own DMA semaphores, in their order. -/
abbrev dsem (i : Fin 76) : DmaSem sig := ⟨4 + i.val, by have := i.isLt; show 4 + i.val < 80; omega⟩
/-- The kernel's own semaphores. -/
abbrev osem (i : Fin 76) : SemLoc sig := .dma (dsem i)
set_option backward.proofsInPublic true in
/-- All semaphores of the protocol: the 76 own ones and the barrier, last. -/
abbrev csem (i : Fin 77) : SemLoc sig := if h : i.val < 76 then osem ⟨i.val, h⟩ else .reg barS
abbrev kcell (ci : Dev nD × Fin 77) : GSem nD τ sig := ((ci.1 : Thread nD τ), csem ci.2)
abbrev cell (c : Dev nD) (i : Fin 76) : GSem nD τ sig := ((c : Thread nD τ), osem i)
abbrev barCell (c : Dev nD) : GSem nD τ sig := ((c : Thread nD τ), .reg barS)

/-- What a head's copy, a chunk's transfer and a quarter's transfer add. -/
abbrev NK : ℕ := (colW kM 0 (by decide)).view.dmaCredit
abbrev NR : ℕ := (slotW rsaM 0 (by decide)).view.dmaCredit
abbrev NG : ℕ := (subW gathM 0 0 (by decide) (by decide)).view.dmaCredit
theorem NK_pos : 0 < NK := View.dmaCredit_pos _ (by decide)
theorem NR_pos : 0 < NR := View.dmaCredit_pos _ (by decide)
theorem NG_pos : 0 < NG := View.dmaCredit_pos _ (by decide)

/-- What is added to DMA cell `n`. -/
def amt (n : ℕ) : ℕ := if n < 16 then NK else if n < 28 then NR else NG
theorem amt_pos (n : ℕ) : 0 < amt n := by
  unfold amt; split; · exact NK_pos
  split; · exact NR_pos
  exact NG_pos

/-! ## Payloads -/

variable (C : Cont F)

/-- What the upper-half ring writes on device `n`: its landing slots and its three foreign chunks. -/
def recvA (n : Dev nD) : sProp 𝕄 :=
  iprop((ownE n (slotW rsaM 0 (by decide)) ∗ ownE n (slotW rsaM 1 (by decide)) ∗ ownE n (slotW rsaM 2 (by decide)))
    ∗ ownE n (chW gathM (chA n 0) (chA_lt _ _)) ∗ ownE n (chW gathM (chA n 1) (chA_lt _ _)) ∗ ownE n (chW gathM (chA n 2) (chA_lt _ _)))
/-- What the lower-half ring writes on device `n`. -/
def recvB (n : Dev nD) : sProp 𝕄 :=
  iprop((ownE n (slotW rsbM 0 (by decide)) ∗ ownE n (slotW rsbM 1 (by decide)) ∗ ownE n (slotW rsbM 2 (by decide)))
    ∗ ownE n (chW gathM (chB n 0) (chB_lt _ _)) ∗ ownE n (chW gathM (chB n 1) (chB_lt _ _)) ∗ ownE n (chW gathM (chB n 2) (chB_lt _ _)))

/-- Half a share of a quarter of the finished chunk `j`. -/
def lentQ (c : Dev nD) (j s : ℕ) (h : j < 8) (hs : s < 4) : sProp 𝕄 :=
  owns (c : Thread nD τ) (subW gathM j s h hs) fullShare.left (quarter s hs (C.G j))
/-- The other half. -/
def keptQ (c : Dev nD) (j s : ℕ) (h : j < 8) (hs : s < 4) : sProp 𝕄 :=
  owns (c : Thread nD τ) (subW gathM j s h hs) fullShare.right (quarter s hs (C.G j))

/-- What landing on DMA cell `n` of device `c` hands over. -/
def payD (c : Dev nD) (n : ℕ) : sProp 𝕄 :=
  if h : n < 8 then own c (colW kM n h) (C.kC c n)
  else if h : n < 16 then own c (colW vM (n - 8) (by omega)) (C.vC c (n - 8))
  else if h : n < 19 then own c (chW accM (chA c (n - 16)) (chA_lt _ _)) (C.SA c (n - 16))
  else if h : n < 22 then own c (slotW rsaM (n - 19) (by omega)) (C.SA (lft c) (n - 19))
  else if h : n < 25 then own c (chW accM (chB c (n - 22)) (chB_lt _ _)) (C.SB c (n - 22))
  else if h : n < 28 then own c (slotW rsbM (n - 25) (by omega)) (C.SB (rgt c) (n - 25))
  else if h : n < 40 then lentQ C c (chA c ((n - 28) / 4 + 3)) ((n - 28) % 4) (chA_lt _ _) (by omega)
  else if h : n < 52 then own c (subW gathM (chA c ((n - 40) / 4)) ((n - 40) % 4) (chA_lt _ _) (by omega)) (quarter ((n - 40) % 4) (by omega) (C.G (chA c ((n - 40) / 4))))
  else if h : n < 64 then lentQ C c (chB c ((n - 52) / 4 + 3)) ((n - 52) % 4) (chB_lt _ _) (by omega)
  else if h : n < 76 then own c (subW gathM (chB c ((n - 64) / 4)) ((n - 64) % 4) (chB_lt _ _) (by omega)) (quarter ((n - 64) % 4) (by omega) (C.G (chB c ((n - 64) / 4))))
  else iprop(emp)

/-- What a barrier unit hands device `c`: from the device before (`true`) or after it (`false`). -/
def barPay (c : Dev nD) (d : Bool) : sProp 𝕄 := if d then recvB (lft c) else recvA (rgt c)

instance recvA_storable (n : Dev nD) : BI.Storable (upEmb : UEmb _ 𝕄) (recvA (F := F) n) := by unfold recvA; infer_instance
instance recvB_storable (n : Dev nD) : BI.Storable (upEmb : UEmb _ 𝕄) (recvB (F := F) n) := by unfold recvB; infer_instance
instance barPay_storable (n : Dev nD) (d : Bool) : BI.Storable (upEmb : UEmb _ 𝕄) (barPay (F := F) n d) := by
  unfold barPay; split <;> infer_instance
instance payD_storable (c : Dev nD) (n : ℕ) : BI.Storable (upEmb : UEmb _ 𝕄) (payD C c n) := by
  unfold payD lentQ; (repeat' split) <;> infer_instance

/-- The schedule: one round. -/
def Rd : Rounds.Schedule (GSem nD τ sig) Bool 𝕄 where
  duties g r := if r = 0 ∧ g.1.2 = .tc then (match g.2 with | .reg s => if s = barS then Finset.univ else ∅ | .dma _ => {false}) else ∅
  unitless _ := False
  amount g _ _ := match g.2 with | .reg _ => 1 | .dma q => amt (q.val - 4)
  payload g _ d := match g.2 with | .reg _ => barPay g.1.1 d | .dma q => payD C g.1.1 (q.val - 4)
  amount_pos g _ _ _ := by cases g.2; · exact Nat.one_pos
                           exact amt_pos _

instance Rd_payload_storable (g : GSem nD τ sig) (r : ℕ) (d : Bool) : BI.Storable (upEmb : UEmb _ 𝕄) ((Rd C).payload g r d) := by
  show BI.Storable upEmb (match g.2 with | .reg _ => barPay g.1.1 d | .dma q => payD C g.1.1 (q.val - 4))
  cases g.2 <;> infer_instance

section Sched
variable (c : Dev nD) (i : Fin 76)

theorem val_sub (i : Fin 76) : (dsem i).val - 4 = i.val := by show 4 + i.val - 4 = i.val; omega

theorem duties_bar : (Rd C).duties (barCell c) 0 = Finset.univ := by dsimp only [Rd]; rw [if_pos ⟨rfl, rfl⟩, if_pos rfl]
theorem duties_dma : (Rd C).duties (cell c i) 0 = {false} := by dsimp only [Rd]; rw [if_pos ⟨rfl, rfl⟩]
theorem duties_later (g : GSem nD τ sig) : ∀ r, 1 ≤ r → (Rd C).duties g r = ∅ := fun r hr => by
  dsimp only [Rd]; exact if_neg fun h => by omega
theorem amount_bar (d : Bool) : (Rd C).amount (barCell c) 0 d = 1 := rfl
theorem amount_dma (d : Bool) : (Rd C).amount (cell c i) 0 d = amt i := by
  show amt ((dsem i).val - 4) = _; rw [val_sub]
theorem expect_bar : (Rd C).expect (barCell c) 0 = 2 := by
  unfold Schedule.expect Schedule.amountOf
  rw [duties_bar, Finset.sum_congr rfl fun d _ => amount_bar C c d, Finset.sum_const, Finset.card_univ, Fintype.card_bool, smul_eq_mul]
theorem expect_dma : (Rd C).expect (cell c i) 0 = amt i := by
  unfold Schedule.expect Schedule.amountOf; rw [duties_dma, Finset.sum_singleton, amount_dma]
theorem payload_bar (d : Bool) : (Rd C).payload (barCell c) 0 d = barPay c d := rfl
theorem payload_dma (d : Bool) : (Rd C).payload (cell c i) 0 d = payD C c i := by
  show payD C c ((dsem i).val - 4) = _; rw [val_sub]
theorem rest_bar : bigSep ((Rd C).duties (barCell c) 0 \ ∅) (fun d => (Rd C).payload (barCell c) 0 d) = iprop(recvA (rgt c) ∗ recvB (lft c)) := by
  rw [Finset.sdiff_empty, duties_bar, bigSep_univ_eq_bigSepL [false, true] (by decide) (by decide), bigSepL_cons_cons, bigSepL_singleton]
  rfl
theorem rest_dma : bigSep ((Rd C).duties (cell c i) 0 \ ∅) (fun d => (Rd C).payload (cell c i) 0 d) = payD C c i := by
  rw [Finset.sdiff_empty, duties_dma, bigSep_singleton, payload_dma]

end Sched

/-! ## What a device owes, in program order -/

/-- The neighbour paid: before (`true`) or after. -/
def peer (c : Dev nD) (b : Bool) : Dev nD := if b then lft c else rgt c

/-- The payments onto other devices' cells, in program order: which neighbour, which cell. -/
def sched : List (Bool × Fin 77) :=
  [(true, 76), (false, 76), (false, 19), (true, 25), (false, 20), (true, 26), (false, 21), (true, 27),
   (false, 40), (true, 64), (false, 41), (true, 65), (false, 42), (true, 66), (false, 43), (true, 67),
   (false, 44), (true, 68), (false, 45), (true, 69), (false, 46), (true, 70), (false, 47), (true, 71),
   (false, 48), (true, 72), (false, 49), (true, 73), (false, 50), (true, 74), (false, 51), (true, 75)]

def amtX (i : Fin 77) : ℕ := if i.val < 76 then amt i else 1

def owedL (c : Dev nD) : List (Bool × Fin 77) → CellTallies nD τ sig Unit
  | [] => 0
  | x :: l => owedL c l + tallyAt (kcell (peer c x.1, x.2)) () (amtX x.2)

/-- Owed once `n` payments are made. -/
def O (c : Dev nD) (n : ℕ) : CellTallies nD τ sig Unit := owedL c (sched.drop n)

/-- Levels: the barrier, then the steps of the reduce-scatter, then the hops of the all-gather. -/
def lvD (n : ℕ) : ℕ :=
  if n < 19 then 0 else if n < 22 then 2 + (n - 19) else if n < 25 then 0 else if n < 28 then 2 + (n - 25)
  else if n < 40 then 0 else if n < 52 then 5 + (n - 40) / 4 else if n < 64 then 0 else 5 + (n - 64) / 4
def lvX (i : Fin 77) : ℕ := if i.val < 76 then lvD i else 1

def L (g : GSem nD τ sig) : Finset Unit := if g.1.2 = .tc then {()} else ∅
def lv (g : GSem nD τ sig) (_ : Unit) : ℕ := match g.2 with | .reg _ => 1 | .dma q => lvD (q.val - 4)

theorem L_of_ne (g : GSem nD τ sig) (h : g.1.2 ≠ .tc) : L g = ∅ := if_neg h
theorem L_tc (c : Dev nD) (sm : SemLoc sig) : L ((c : Thread nD τ), sm) = {()} := if_pos rfl

theorem lv_kcell (c : Dev nD) (i : Fin 77) : lv (kcell (c, i)) () = lvX i := by
  unfold kcell csem lvX
  by_cases h : i.val < 76
  · rw [dif_pos h, if_pos h]; show lvD ((dsem ⟨i.val, h⟩).val - 4) = _; rw [val_sub]
  · rw [dif_neg h, if_neg h]; rfl

theorem owedL_pos {c : Dev nD} {g : GSem nD τ sig} {u : Unit} : ∀ {l : List (Bool × Fin 77)}, 0 < owedL c l g u →
    ∃ x ∈ l, g = kcell (peer c x.1, x.2)
  | [], h => absurd h (Nat.lt_irrefl 0)
  | x :: l, h => by
    unfold owedL at h
    rw [Pi.add_apply, Finsupp.add_apply, tallyAt_apply] at h
    by_cases hg : g = kcell (peer c x.1, x.2) ∧ u = ()
    · exact ⟨x, List.mem_cons_self, hg.1⟩
    · rw [if_neg hg, Nat.add_zero] at h
      obtain ⟨y, hy, e⟩ := owedL_pos h
      exact ⟨y, List.mem_cons_of_mem _ hy, e⟩

/-- A wait on a cell of level below those of what is still owed. -/
theorem mayWait_of (c : Dev nD) (sm : SemLoc sig) (n lw : ℕ) (hw : lv ((c : Thread nD τ), sm) () = lw)
    (h : ∀ x ∈ sched.drop n, lw < lvX x.2) :
    (levAts L lv : sProp 𝕄) ⊢ MayWait (c : Thread nD τ) sm () (O c n) :=
  MayOwe.of_cut (L := L) (lev := lv) lw (fun p hp => by rw [Finset.mem_singleton.mp hp, L_tc]; exact Finset.mem_singleton_self _)
    (fun g u hg => by
      obtain ⟨x, -, rfl⟩ := owedL_pos hg
      exact Finset.mem_singleton_self _)
    (fun p hp => by rw [Finset.mem_singleton.mp hp]; exact hw.le)
    (fun g u hg => by
      obtain ⟨x, hx, rfl⟩ := owedL_pos hg
      show lw < lv (kcell (peer c x.1, x.2)) ()
      rw [lv_kcell]; exact h x hx)

/-! ## What a device's core holds -/

section Hold
variable (K : Dev nD × Fin 77 → ℕ) (c : Dev nD)

/-- Every cell's invariant and that its round is open; the levels. -/
def ctx : sProp 𝕄 :=
  iprop((bigSep Finset.univ fun ci : Dev nD × Fin 77 => iprop(cellInv ER (Rd C) (K ci) (kcell ci) ∗ reached ER (kcell ci) 0)) ∗ levAts L lv)

instance ctx_persistent : BI.Persistent (ctx C K) := by unfold ctx; infer_instance

/-- A DMA cell before its round, the token of a DMA cell, a cell about to be waited on, a cell waited on. -/
def at0 (i : Fin 76) : sProp 𝕄 := atPos ER (cell c i) 0 ∅ 0
def tk (i : Fin 76) : sProp 𝕄 := dutyTok ER (cell c i) 0 false
def wt (i : Fin 76) : sProp 𝕄 := iprop(atPos ER (cell c i) 0 ∅ 0 ∗ cred (tallyAt (cell c i) () (amt i)))
def dn (i : Fin 76) : sProp 𝕄 := atPos ER (cell c i) (0 + 1) ∅ 0
/-- What is owed after `n` payments. -/
def ow (n : ℕ) : sProp 𝕄 := iprop(∃ W, owes (c : Thread nD τ) (O c n) W)

theorem kcell_dma (c : Dev nD) (i : Fin 76) : kcell (c, ⟨i.val, by have := i.isLt; omega⟩) = cell c i := by
  unfold kcell csem; rw [dif_pos i.isLt]
theorem kcell_bar (c : Dev nD) : kcell (c, 76) = barCell c := by
  unfold kcell csem; rw [dif_neg (by show ¬ (76 : Fin 77).val < 76; decide)]

theorem ctx_dma (n : Dev nD) (i : Fin 76) : ctx C K ⊢ iprop(cellInv ER (Rd C) (K (n, ⟨i.val, by have := i.isLt; omega⟩)) (cell n i) ∗ reached ER (cell n i) 0) := by
  rw [← kcell_dma]
  unfold ctx
  exact sep_elim_left.trans (bigSep_elim (Φ := fun ci : Dev nD × Fin 77 => iprop(cellInv ER (Rd C) (K ci) (kcell ci) ∗ reached ER (kcell ci) 0))
    (Finset.mem_univ ((n, ⟨i.val, by have := i.isLt; omega⟩) : Dev nD × Fin 77)))
theorem ctx_bar (n : Dev nD) : ctx C K ⊢ iprop(cellInv ER (Rd C) (K (n, 76)) (barCell n) ∗ reached ER (barCell n) 0) := by
  rw [← kcell_bar]
  unfold ctx
  exact sep_elim_left.trans (bigSep_elim (Φ := fun ci : Dev nD × Fin 77 => iprop(cellInv ER (Rd C) (K ci) (kcell ci) ∗ reached ER (kcell ci) 0))
    (Finset.mem_univ ((n, 76) : Dev nD × Fin 77)))
theorem ctx_lev : ctx C K ⊢ (levAts L lv : sProp 𝕄) := by unfold ctx; iintro ⟨-, H⟩; iexact H

end Hold

/-! ## The steps -/

section Steps
variable (K : Dev nD × Fin 77 → ℕ) (c : Dev nD)

/-- A wait on one of the core's DMA cells. -/
theorem st_wait {α : Type} {Q : α → sProp 𝕄} (i : Fin 76) (n : ℕ) {P : sProp 𝕄} (hP : payD C c i = P)
    {sem : DmaSem sig} (hs : sem = dsem i) {sp sp' : Space} {s s' : Shape} {e e' : EltTy} {src : Memref sig .tc sp s e} {dst : Memref sig .tc sp' s' e'} {h h'}
    (ha : dst.view.dmaCredit = amt i) (hl : ∀ x ∈ sched.drop n, lvD i < lvX x.2)
    {k : PUnit → Prog (TpuEff nD τ sig (Elt F) Λ₀ .tc) α} :
    ctx C K ⊢ iprop(wt c i -∗ ow c n -∗ ((dn c i ∗ ow c n ∗ P) -∗ WP c (k ⟨⟩) Q) -∗ WP c (.op (TpuEff.waitDma2 (p := .tc) sem src dst h h') k) Q) := by
  subst hs hP
  unfold wt ow dn
  iintro #Hc ⟨Hat, Hcr⟩ ⟨%W, HO⟩ Hk
  icases (ctx_dma C K c i) $$ Hc with ⟨#Hi, -⟩
  iapply (Rounds.wp_wait_rest_token 𝒱₀ ER (Rd C) (c : Thread nD τ) none (κ := K (c, ⟨i.val, by have := i.isLt; omega⟩))
      (wpE_waitDma2_eq 𝒱₀ (c : Thread nD τ) none Set.univ) (Set.mem_univ _) () (O := O c n) (W := W) (R := 0) (m := 0) (T := ∅)
      (by rw [expect_dma, Nat.zero_add]; exact ha)) $$ [Hcr HO Hat]
  · isplitr; · iexact Hi
    isplitl [Hcr]; · rw [ha]; iexact Hcr
    isplitl [HO]; · iexact HO
    isplitr
    · iapply (mayWait_of c (.dma (dsem i)) n (lvD i) (by show lvD ((dsem i).val - 4) = _; rw [val_sub]) hl)
      iapply (ctx_lev C K); iexact Hc
    iexact Hat
  iintro ⟨HO, Hat, -, Hpay⟩
  ihave Hp := (Entails.of_eq (rest_dma C c i)) $$ Hpay
  iapply Hk
  isplitl [Hat]; · iexact Hat
  isplitl [HO]; · iexists _; iexact HO
  iexact Hp

/-- A local copy onto one of the core's DMA cells: the destination lands at what the source holds. -/
theorem st_copy {α : Type} {Q : α → sProp 𝕄} (i : Fin 76) {sp sp' : Space} {s : Shape} {e : EltTy} {src : Memref sig .tc sp s e}
    {dst : Memref sig .tc sp' s e} {sem : SemLoc sig} (hs : sem = .dma (dsem i))
    {h1 h2 h3} (ha : dst.view.dmaCredit = amt i) {q : PosShare TreeShare} {X : s.Idx → Elt F e} (hP : payD C c i = own c dst X)
    {k : PUnit → Prog (TpuEff nD τ sig (Elt F) Λ₀ .tc) α} :
    ctx C K ⊢ iprop((at0 c i ∗ tk c i ∗ ownE c dst ∗ owns (c : Thread nD τ) src q X)
      -∗ (wt c i -∗ WP c (k ⟨⟩) Q) -∗ WP c (.op (.enqueueDma src (.here dst) sem h1 h2 h3) k) Q) := by
  subst hs
  unfold ownE owns at0 tk wt
  iintro #Hc ⟨Hat, Htk, ⟨%X0, %f0, %hf0, Hd⟩, ⟨%fs, %hfs, Hs⟩⟩ Hk
  icases (ctx_dma C K c i) $$ Hc with ⟨#Hi, #Hr⟩
  iapply (Rounds.wp_copy_pointsTo 𝒱₀ ER (Rd C) (c : Thread nD τ) none (κ := K (c, ⟨i.val, by have := i.isLt; omega⟩)) (r := 0) (d := false)
      (fd := f0) (fs := fs) (q := q)
      (by rw [duties_dma]; exact Finset.mem_singleton_self _) () (amt i) (by show dst.view.dmaCredit = _; exact ha) (amount_dma C c i false)
      (by
        rw [payload_dma, hP]
        unfold own owns
        iintro ⟨H, -⟩
        iexists _; isplitr
        swap; · iexact H
        ipureintro; rw [← hfs]; exact View.read_write_univ _ _)) $$ [Htk Hd Hs]
  · isplitr; · iexact Hi
    isplitl [Hs]; · iexact Hs
    isplitl [Hd]; · iexact Hd
    isplitl [Htk]; · iexact Htk
    iexact Hr
  iintro Hcr
  iapply Hk
  isplitl [Hat]; · iexact Hat
  iexact Hcr

/-- A transfer to a neighbour: the source's share comes back on the core's send cell `i`, the destination lands on the
    neighbour's cell `i'`. -/
theorem st_send {α : Type} {Q : α → sProp 𝕄} (i i' : Fin 76) (n : ℕ) (b : Bool) {p : Dev nD} (hp : p = peer c b)
    (hO : O c n = O c (n + 1) + tallyAt (cell (peer c b) i') () (amt i'))
    {sp sp' : Space} {s : Shape} {e : EltTy} {src : Memref sig .tc sp s e}
    {dst : Memref sig .tc sp' s e} {hsc : dst.view.ref.isScScratch = false} {sem sem' : SemLoc sig} (hs : sem = .dma (dsem i)) (hs' : sem' = .dma (dsem i'))
    {h1 h2 h3} (ha : dst.view.dmaCredit = amt i) (ha' : amt i = amt i') {q : PosShare TreeShare} {X : s.Idx → Elt F e}
    {src' : Memref sig .tc sp s e} (hsrc : src = src') {dst' : Memref sig .tc sp' s e} (hdst : dst = dst')
    (hP : payD C c i = owns (c : Thread nD τ) src' q X) (hP' : payD C (peer c b) i' = own (peer c b) dst' X)
    {k : PUnit → Prog (TpuEff nD τ sig (Elt F) Λ₀ .tc) α} :
    ctx C K ⊢ iprop((at0 c i ∗ tk c i ∗ tk (peer c b) i') -∗ owns (c : Thread nD τ) src' q X -∗ ownE (peer c b) dst' -∗ ow c n
      -∗ ((wt c i ∗ ow c (n + 1)) -∗ WP c (k ⟨⟩) Q) -∗ WP c (.op (.enqueueDma src (.remote (Dev.tc p : Thread nD τ) dst sem hsc) sem' h1 h2 h3) k) Q) := by
  subst hs hs' hp hsrc hdst
  unfold ownE ow owns at0 tk wt
  iintro #Hc ⟨Hat, Htk, Htk'⟩ ⟨%fs, %hfs, Hs⟩ ⟨%X0, %f0, %hf0, Hd⟩ ⟨%W, HO⟩ Hk
  icases (ctx_dma C K c i) $$ Hc with ⟨#Hi, #Hr⟩
  icases (ctx_dma C K (peer c b) i') $$ Hc with ⟨#Hi', #Hr'⟩
  iapply (Rounds.wp_send_pointsTo 𝒱₀ ER (Rd C) (c : Thread nD τ) none (c' := (Dev.tc (peer c b) : Thread nD τ)) (κ₁ := K (c, ⟨i.val, by have := i.isLt; omega⟩)) (κ₂ := K (peer c b, ⟨i'.val, by have := i'.isLt; omega⟩))
      (r₁ := 0) (r₂ := 0) (d₁ := false) (d₂ := false) (fd := f0) (fs := fs) (q := q)
      (by rw [duties_dma]; exact Finset.mem_singleton_self _) (by rw [duties_dma]; exact Finset.mem_singleton_self _)
      () () (amt i) (by show dst.view.dmaCredit = _; exact ha) (amount_dma C c i false) ((amount_dma C (peer c b) i' false).trans ha'.symm) (O₀ := O c n) (O c (n + 1)) (by rw [hO, ha']) (W := W)
      (by
        rw [payload_dma, hP]
        unfold owns
        iintro H
        iexists _; isplitr
        swap; · iexact H
        ipureintro; exact hfs)
      (by
        rw [payload_dma, hP']
        unfold own owns
        iintro H
        iexists _; isplitr
        swap; · iexact H
        ipureintro; rw [← hfs]; exact View.read_write_univ _ _)) $$ [Htk Htk' Hd Hs HO]
  · isplitr; · iexact Hi
    isplitr; · iexact Hi'
    isplitl [Hs]; · iexact Hs
    isplitl [Hd]; · iexact Hd
    isplitl [HO]; · iexact HO
    isplitl [Htk]; · iexact Htk
    isplitr; · iexact Hr
    isplitl [Htk']; · iexact Htk'
    iexact Hr'
  iintro ⟨Hcr, HO⟩
  iapply Hk
  isplitl [Hat Hcr]
  · isplitl [Hat]; · iexact Hat
    iexact Hcr
  iexists W; iexact HO

/-- A unit onto a neighbour's barrier. -/
theorem st_signal {α : Type} {Q : α → sProp 𝕄} (n : ℕ) (b d : Bool) {p : Dev nD} (hp : p = peer c b) {sem : Sem sig} (hs : sem = barS) {w : ℕ} (hw : w = 1)
    (hO : O c n = O c (n + 1) + tallyAt (barCell (peer c b)) () 1) {P : sProp 𝕄} (hP : barPay (peer c b) d = P)
    {k : PUnit → Prog (TpuEff nD τ sig (Elt F) Λ₀ .tc) α} :
    ctx C K ⊢ iprop(dutyTok ER (barCell (peer c b)) 0 d -∗ P -∗ ow c n
      -∗ (ow c (n + 1) -∗ WP c (k ⟨⟩) Q) -∗ WP c (.op (.semSignal (Dev.tc p : Thread nD τ) sem w) k) Q) := by
  subst hs hp hP hw
  unfold ow
  iintro #Hc Htk HP ⟨%W, HO⟩ Hk
  icases (ctx_bar C K (peer c b)) $$ Hc with ⟨#Hi, #Hr⟩
  iapply (Rounds.wp_signal 𝒱₀ ER (Rd C) (c : Thread nD τ) none (dst := (Dev.tc (peer c b) : Thread nD τ)) (κ := K (peer c b, 76))
      (d := d) (by rw [duties_bar]; exact Finset.mem_univ _) ((amount_bar C (peer c b) d).trans rfl) () (O c (n + 1)) hO (W := W))
    $$ [HO Htk HP]
  · isplitr; · iexact Hi
    isplitl [HO]; · iexact HO
    isplitl [Htk]; · iexact Htk
    isplitl [HP]; · rw [payload_bar]; iexact HP
    iexact Hr
  iintro HO
  iapply Hk; iexists W; iexact HO

/-- The wait for both neighbours' units. -/
theorem st_barrier {α : Type} {Q : α → sProp 𝕄} (n : ℕ) {sem : Sem sig} (hs : sem = barS) {w : ℕ} (hw : w = 2) (hl : ∀ x ∈ sched.drop n, 1 < lvX x.2)
    {k : PUnit → Prog (TpuEff nD τ sig (Elt F) Λ₀ .tc) α} :
    ctx C K ⊢ iprop((atPos ER (barCell c) 0 ∅ 0 ∗ cred (tallyAt (barCell c) () 2)) -∗ ow c n
      -∗ ((atPos ER (barCell c) (0 + 1) ∅ 0 ∗ ow c n ∗ recvA (rgt c) ∗ recvB (lft c)) -∗ WP c (k ⟨⟩) Q) -∗ WP c (.op (.semWait sem w) k) Q) := by
  subst hs hw
  unfold ow
  iintro #Hc ⟨Hat, Hcr⟩ ⟨%W, HO⟩ Hk
  icases (ctx_bar C K c) $$ Hc with ⟨#Hi, -⟩
  iapply (Rounds.wp_wait_rest_token 𝒱₀ ER (Rd C) (c : Thread nD τ) none (κ := K (c, 76))
      (wpE_semWait_eq 𝒱₀ (c : Thread nD τ) none Set.univ) (Set.mem_univ _) () (O := O c n) (W := W) (R := 0) (m := 0) (T := ∅)
      (by rw [expect_bar])) $$ [Hcr HO Hat]
  · isplitr; · iexact Hi
    isplitl [Hcr]; · iexact Hcr
    isplitl [HO]; · iexact HO
    isplitr
    · iapply (mayWait_of c (.reg barS) n 1 rfl hl)
      iapply (ctx_lev C K); iexact Hc
    iexact Hat
  iintro ⟨HO, Hat, -, Hpay⟩
  ihave Hp := (Entails.of_eq (rest_bar C c)) $$ Hpay
  iapply Hk
  isplitl [Hat]; · iexact Hat
  isplitl [HO]; · iexists _; iexact HO
  iexact Hp

end Steps

end Cert.Ring
-- ==== Proof.Vals.lean ====
/-
# The values

Every value device `c` computes, by the number the program gives it (`w_N`), and what it stores into the buffer of running
sums and into the gathered result (`stN`, by the number of the stored payload) — over the inputs `Inp`.
-/
module

public import proofs.«01_k».proof.Proof.Protocol

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- What each device holds at the start: the rows, the two weight blocks, and the heads of K and V it is to fetch. -/
structure Inp (F : FTy → Type) where
  x : Dev nD → S1024x1024.Idx → Elt F .f32
  wq : Dev nD → S1024x1024.Idx → Elt F .f32
  wo : Dev nD → S1024x1024.Idx → Elt F .f32
  kC : Dev nD → ℕ → S1024x128.Idx → Elt F .f32
  vC : Dev nD → ℕ → S1024x128.Idx → Elt F .f32

variable (I : Inp F)

section
variable (c : Dev nD)

def w_0 (I : Inp F) (c : Dev nD) : BitVec 32 := Dev.word c
def w_1 (I : Inp F) (c : Dev nD) : BitVec 32 := Scalar.divsi (w_0 I c) 1#32
def w_2 (I : Inp F) (c : Dev nD) : BitVec 32 := Scalar.remsi (w_1 I c) 4#32
def w_3 (I : Inp F) (c : Dev nD) : BitVec 32 := Scalar.addi (w_2 I c) 4#32
def w_4 (I : Inp F) (c : Dev nD) : BitVec 32 := Scalar.subi (w_3 I c) 1#32
def w_5 (I : Inp F) (c : Dev nD) : BitVec 32 := Scalar.remsi (w_4 I c) 4#32
def w_6 (I : Inp F) (c : Dev nD) : BitVec 32 := Scalar.addi (w_2 I c) 1#32
def w_7 (I : Inp F) (c : Dev nD) : BitVec 32 := Scalar.remsi (w_6 I c) 4#32
def w_50 (I : Inp F) (c : Dev nD) : BitVec 32 := Scalar.muli (w_2 I c) 8#32
def w_99 (I : Inp F) (c : Dev nD) : BitVec 32 := Scalar.muli (w_2 I c) 8#32
def w_c6_i32_111 (I : Inp F) (c : Dev nD) : BitVec 32 := 6#32
def w_120 (I : Inp F) (c : Dev nD) : Sems sig S_ := SemArray.scalar (sig.barrier 0 rfl)
def w_125 (I : Inp F) (c : Dev nD) : BitVec 32 := Scalar.subi (w_2 I c) 0#32
def w_126 (I : Inp F) (c : Dev nD) : BitVec 32 := Scalar.addi (w_125 I c) 4#32
def w_127 (I : Inp F) (c : Dev nD) : BitVec 32 := Scalar.remsi (w_126 I c) 4#32
def w_128 (I : Inp F) (c : Dev nD) : BitVec 32 := Scalar.addi (w_2 I c) 0#32
def w_129 (I : Inp F) (c : Dev nD) : BitVec 32 := Scalar.remsi (w_128 I c) 4#32
def w_130 (I : Inp F) (c : Dev nD) : BitVec 32 := Scalar.muli (w_127 I c) 128#32
def w_131 (I : Inp F) (c : Dev nD) : BitVec 32 := Scalar.addi (w_129 I c) 4#32
def w_132 (I : Inp F) (c : Dev nD) : BitVec 32 := Scalar.muli (w_131 I c) 128#32
def w_134 (I : Inp F) (c : Dev nD) : Vec F S128x1024 .f32 := fun i => I.x c (((Rect.unit (s := S1024x1024) (k0_off2 c 0#32) S128x1024.size (k0_off2_inb c 0)).toLoadRect).idx i)
def w_137 (I : Inp F) (c : Dev nD) : Vec F S128x1024 .f32 := fun i => I.x c (((Rect.unit (s := S1024x1024) (k0_off3 c 0#32) S128x1024.size (k0_off3_inb c 0)).toLoadRect).idx i)
def w_140 (I : Inp F) (c : Dev nD) : Vec F S1024x1024 .f32 := fun i => I.wq c (((Rect.unit (s := S1024x1024) ![0, 0] S1024x1024.size inb_S1024x1024_S1024x1024_0_0).toLoadRect).idx i)
def w_144 (I : Inp F) (c : Dev nD) : FVec F S256x1024 .f32 := k0_pay1 (w_134 I c) (w_137 I c) (w_140 I c)
def w_235 (I : Inp F) (c : Dev nD) : IVec S256x1024 32 := iota .tc S256x1024 32 [1] iota_S256x1024_d1_w32
def w_259 (I : Inp F) (c : Dev nD) : IVec S256x1024 32 := k0_pay2 (w_130 I c) (w_132 I c)
def w_c64_i32_274 (I : Inp F) (c : Dev nD) : BitVec 32 := 64#32
def w_261 (I : Inp F) (c : Dev nD) : IVec S256x1024 32 := k0_pay3
def w_264 (I : Inp F) (c : Dev nD) : IVec S256x1024 32 := k0_pay4
def w_266 (I : Inp F) (c : Dev nD) : IVec S256x1024 1 := k0_pay5
def w_298 (I : Inp F) (c : Dev nD) : Vec F S1024x128 .f32 := I.kC c 0
def w_304 (I : Inp F) (c : Dev nD) : Vec F S1024x128 .f32 := I.vC c 0
def w_296 (I : Inp F) (c : Dev nD) : FVec F S256x1024 .f32 := k0_pay6 (F := F) (w_235 I c) (w_259 I c) (w_c64_i32_274 I c) (w_261 I c) (w_264 I c) (w_266 I c)
def w_307 (I : Inp F) (c : Dev nD) : FVec F S256x128 .f32 := k0_pay7 (w_144 I c) (w_235 I c) (w_259 I c) (w_c64_i32_274 I c) (w_261 I c) (w_264 I c) (w_266 I c) (w_298 I c) (w_304 I c)
def w_308 (I : Inp F) (c : Dev nD) : FVec F S256x128 .f32 := k0_pay8 (w_144 I c)
def w_309 (I : Inp F) (c : Dev nD) : Vec F S1024x128 .f32 := I.kC c 1
def w_315 (I : Inp F) (c : Dev nD) : Vec F S1024x128 .f32 := I.vC c 1
def w_320 (I : Inp F) (c : Dev nD) : Vec F S1024x128 .f32 := I.kC c 2
def w_326 (I : Inp F) (c : Dev nD) : Vec F S1024x128 .f32 := I.vC c 2
def w_331 (I : Inp F) (c : Dev nD) : Vec F S1024x128 .f32 := I.kC c 3
def w_337 (I : Inp F) (c : Dev nD) : Vec F S1024x128 .f32 := I.vC c 3
def w_342 (I : Inp F) (c : Dev nD) : Vec F S1024x128 .f32 := I.kC c 4
def w_318 (I : Inp F) (c : Dev nD) : FVec F S256x128 .f32 := k0_pay9 (w_296 I c) (w_308 I c) (w_309 I c) (w_315 I c)
def w_329 (I : Inp F) (c : Dev nD) : FVec F S256x128 .f32 := k0_pay10 (w_144 I c) (w_296 I c) (w_320 I c) (w_326 I c)
def w_340 (I : Inp F) (c : Dev nD) : FVec F S256x128 .f32 := k0_pay11 (w_144 I c) (w_296 I c) (w_331 I c) (w_337 I c)
def w_345 (I : Inp F) (c : Dev nD) : FVec F S256x1024 .f32 := k0_pay12 (w_144 I c) (w_296 I c) (w_342 I c)
def w_348 (I : Inp F) (c : Dev nD) : Vec F S1024x128 .f32 := I.vC c 4
def w_353 (I : Inp F) (c : Dev nD) : Vec F S1024x128 .f32 := I.kC c 5
def w_359 (I : Inp F) (c : Dev nD) : Vec F S1024x128 .f32 := I.vC c 5
def w_364 (I : Inp F) (c : Dev nD) : Vec F S1024x128 .f32 := I.kC c 6
def w_370 (I : Inp F) (c : Dev nD) : Vec F S1024x128 .f32 := I.vC c 6
def w_375 (I : Inp F) (c : Dev nD) : Vec F S1024x128 .f32 := I.kC c 7
def w_381 (I : Inp F) (c : Dev nD) : Vec F S1024x128 .f32 := I.vC c 7
def w_cst_334 (I : Inp F) (c : Dev nD) : FVec F S256x128 .f32 := constant S256x128 .f32 0x00000000#32
def w_351 (I : Inp F) (c : Dev nD) : FVec F S256x128 .f32 := k0_pay13 (w_345 I c) (w_348 I c)
def w_362 (I : Inp F) (c : Dev nD) : FVec F S256x128 .f32 := k0_pay14 (w_144 I c) (w_296 I c) (w_353 I c) (w_359 I c)
def w_373 (I : Inp F) (c : Dev nD) : FVec F S256x128 .f32 := k0_pay15 (w_144 I c) (w_296 I c) (w_364 I c) (w_370 I c)
def w_378 (I : Inp F) (c : Dev nD) : FVec F S256x1024 .f32 := k0_pay16 (w_144 I c) (w_296 I c) (w_375 I c)
def w_380 (I : Inp F) (c : Dev nD) : FVec F S256x1 .f32 := k0_pay17 (w_144 I c) (w_296 I c) (w_375 I c)
def w_386 (I : Inp F) (c : Dev nD) : Vec F S1024x1024 .f32 := fun i => I.wo c (((Rect.unit (s := S1024x1024) ![0, 0] S1024x1024.size inb_S1024x1024_S1024x1024_0_0).toLoadRect).idx i)
def st19 (I : Inp F) (c : Dev nD) : S128x1024.Idx → Elt F .bf16 := k0_pay19 (w_307 I c) (w_318 I c) (w_329 I c) (w_340 I c) (w_351 I c) (w_362 I c) (w_373 I c) (w_378 I c) (w_380 I c) (w_381 I c) (w_cst_334 I c) (w_386 I c)
def st20 (I : Inp F) (c : Dev nD) : S128x1024.Idx → Elt F .bf16 := k0_pay20 (w_307 I c) (w_318 I c) (w_329 I c) (w_340 I c) (w_351 I c) (w_362 I c) (w_373 I c) (w_378 I c) (w_380 I c) (w_381 I c) (w_cst_334 I c) (w_386 I c)
def w_418 (I : Inp F) (c : Dev nD) : BitVec 32 := Scalar.subi (w_2 I c) 1#32
def w_419 (I : Inp F) (c : Dev nD) : BitVec 32 := Scalar.addi (w_418 I c) 4#32
def w_420 (I : Inp F) (c : Dev nD) : BitVec 32 := Scalar.remsi (w_419 I c) 4#32
def w_421 (I : Inp F) (c : Dev nD) : BitVec 32 := Scalar.addi (w_2 I c) 1#32
def w_422 (I : Inp F) (c : Dev nD) : BitVec 32 := Scalar.remsi (w_421 I c) 4#32
def w_423 (I : Inp F) (c : Dev nD) : BitVec 32 := Scalar.muli (w_420 I c) 128#32
def w_424 (I : Inp F) (c : Dev nD) : BitVec 32 := Scalar.addi (w_422 I c) 4#32
def w_425 (I : Inp F) (c : Dev nD) : BitVec 32 := Scalar.muli (w_424 I c) 128#32
def w_427 (I : Inp F) (c : Dev nD) : Vec F S128x1024 .f32 := fun i => I.x c (((Rect.unit (s := S1024x1024) (k0_off2 c 1#32) S128x1024.size (k0_off2_inb c 1)).toLoadRect).idx i)
def w_430 (I : Inp F) (c : Dev nD) : Vec F S128x1024 .f32 := fun i => I.x c (((Rect.unit (s := S1024x1024) (k0_off3 c 1#32) S128x1024.size (k0_off3_inb c 1)).toLoadRect).idx i)
def w_433 (I : Inp F) (c : Dev nD) : Vec F S1024x1024 .f32 := fun i => I.wq c (((Rect.unit (s := S1024x1024) ![0, 0] S1024x1024.size inb_S1024x1024_S1024x1024_0_0).toLoadRect).idx i)
def w_448 (I : Inp F) (c : Dev nD) : IVec S256x1024 32 := iota .tc S256x1024 32 [1] iota_S256x1024_d1_w32
def w_437 (I : Inp F) (c : Dev nD) : FVec F S256x1024 .f32 := k0_pay21 (w_427 I c) (w_430 I c) (w_433 I c)
def w_447 (I : Inp F) (c : Dev nD) : IVec S256x1024 32 := k0_pay22 (w_2 I c)
def w_c64_i32_372 (I : Inp F) (c : Dev nD) : BitVec 32 := 64#32
def w_450 (I : Inp F) (c : Dev nD) : IVec S256x1024 32 := k0_pay23 (w_2 I c)
def w_457 (I : Inp F) (c : Dev nD) : IVec S256x1024 32 := k0_pay24 (w_2 I c)
def w_500 (I : Inp F) (c : Dev nD) : IVec S256x1024 1 := k0_pay27 (w_447 I c) (w_448 I c) (w_c64_i32_372 I c) (w_450 I c) (w_457 I c)
def w_503 (I : Inp F) (c : Dev nD) : IVec S256x1024 32 := k0_pay28 (w_447 I c) (w_448 I c) (w_c64_i32_372 I c) (w_450 I c) (w_457 I c)
def w_c0_i32_388 (I : Inp F) (c : Dev nD) : BitVec 32 := 0#32
def w_511 (I : Inp F) (c : Dev nD) : Vec F S1024x128 .f32 := I.kC c 0
def w_517 (I : Inp F) (c : Dev nD) : Vec F S1024x128 .f32 := I.vC c 0
def w_522 (I : Inp F) (c : Dev nD) : Vec F S1024x128 .f32 := I.kC c 1
def w_528 (I : Inp F) (c : Dev nD) : Vec F S1024x128 .f32 := I.vC c 1
def w_533 (I : Inp F) (c : Dev nD) : Vec F S1024x128 .f32 := I.kC c 2
def w_539 (I : Inp F) (c : Dev nD) : Vec F S1024x128 .f32 := I.vC c 2
def w_509 (I : Inp F) (c : Dev nD) : FVec F S256x1024 .f32 := k0_pay29 (F := F) (w_500 I c) (w_503 I c) (w_c0_i32_388 I c)
def w_520 (I : Inp F) (c : Dev nD) : FVec F S256x128 .f32 := k0_pay30 (w_437 I c) (w_500 I c) (w_503 I c) (w_c0_i32_388 I c) (w_511 I c) (w_517 I c)
def w_531 (I : Inp F) (c : Dev nD) : FVec F S256x128 .f32 := k0_pay31 (w_437 I c) (w_500 I c) (w_503 I c) (w_c0_i32_388 I c) (w_522 I c) (w_528 I c)
def w_538 (I : Inp F) (c : Dev nD) : FVec F S256x1 .f32 := k0_pay33 (w_437 I c) (w_500 I c) (w_503 I c) (w_c0_i32_388 I c) (w_533 I c)
def w_540 (I : Inp F) (c : Dev nD) : FVec F S256x128 .f32 := k0_pay34 (w_437 I c) (w_500 I c) (w_503 I c) (w_c0_i32_388 I c) (w_533 I c) (w_539 I c)
def w_544 (I : Inp F) (c : Dev nD) : Vec F S1024x128 .f32 := I.kC c 3
def w_550 (I : Inp F) (c : Dev nD) : Vec F S1024x128 .f32 := I.vC c 3
def w_555 (I : Inp F) (c : Dev nD) : Vec F S1024x128 .f32 := I.kC c 4
def w_561 (I : Inp F) (c : Dev nD) : Vec F S1024x128 .f32 := I.vC c 4
def w_566 (I : Inp F) (c : Dev nD) : Vec F S1024x128 .f32 := I.kC c 5
def w_572 (I : Inp F) (c : Dev nD) : Vec F S1024x128 .f32 := I.vC c 5
def w_577 (I : Inp F) (c : Dev nD) : Vec F S1024x128 .f32 := I.kC c 6
def w_542 (I : Inp F) (c : Dev nD) : FVec F S256x128 .f32 := k0_pay35 (w_538 I c) (w_540 I c)
def w_553 (I : Inp F) (c : Dev nD) : FVec F S256x128 .f32 := k0_pay36 (w_437 I c) (w_509 I c) (w_544 I c) (w_550 I c)
def w_564 (I : Inp F) (c : Dev nD) : FVec F S256x128 .f32 := k0_pay37 (w_437 I c) (w_509 I c) (w_555 I c) (w_561 I c)
def w_575 (I : Inp F) (c : Dev nD) : FVec F S256x128 .f32 := k0_pay38 (w_437 I c) (w_509 I c) (w_566 I c) (w_572 I c)
def w_576 (I : Inp F) (c : Dev nD) : FVec F S256x128 .f32 := k0_pay39 (w_437 I c)
def w_583 (I : Inp F) (c : Dev nD) : Vec F S1024x128 .f32 := I.vC c 6
def w_588 (I : Inp F) (c : Dev nD) : Vec F S1024x128 .f32 := I.kC c 7
def w_594 (I : Inp F) (c : Dev nD) : Vec F S1024x128 .f32 := I.vC c 7
def w_599 (I : Inp F) (c : Dev nD) : Vec F S1024x1024 .f32 := fun i => I.wo c (((Rect.unit (s := S1024x1024) ![0, 0] S1024x1024.size inb_S1024x1024_S1024x1024_0_0).toLoadRect).idx i)
def st41 (I : Inp F) (c : Dev nD) : S128x1024.Idx → Elt F .bf16 := k0_pay41 (w_437 I c) (w_509 I c) (w_520 I c) (w_531 I c) (w_542 I c) (w_553 I c) (w_564 I c) (w_575 I c) (w_576 I c) (w_577 I c) (w_583 I c) (w_588 I c) (w_594 I c) (w_599 I c)
def st42 (I : Inp F) (c : Dev nD) : S128x1024.Idx → Elt F .bf16 := k0_pay42 (w_437 I c) (w_509 I c) (w_520 I c) (w_531 I c) (w_542 I c) (w_553 I c) (w_564 I c) (w_575 I c) (w_576 I c) (w_577 I c) (w_583 I c) (w_588 I c) (w_594 I c) (w_599 I c)
def w_613 (I : Inp F) (c : Dev nD) : BitVec 32 := Scalar.muli (w_7 I c) 1#32
def w_c0_i32_456 (I : Inp F) (c : Dev nD) : BitVec 32 := 0#32
def w_621 (I : Inp F) (c : Dev nD) : Vec F S128x1024 .bf16 := st41 I c
def w_622 (I : Inp F) (c : Dev nD) : Vec F S1x128x1024 .bf16 := uns (st19 I (lft c))
def w_626 (I : Inp F) (c : Dev nD) : Vec F S128x1024 .bf16 := st41 I c
def st43 (I : Inp F) (c : Dev nD) : S128x1024.Idx → Elt F .bf16 := k0_pay43 (w_621 I c) (w_622 I c)
def w_646 (I : Inp F) (c : Dev nD) : Vec F S128x1024 .bf16 := st42 I c
def w_647 (I : Inp F) (c : Dev nD) : Vec F S1x128x1024 .bf16 := uns (st20 I (rgt c))
def w_651 (I : Inp F) (c : Dev nD) : Vec F S128x1024 .bf16 := st42 I c
def st44 (I : Inp F) (c : Dev nD) : S128x1024.Idx → Elt F .bf16 := k0_pay44 (w_646 I c) (w_647 I c)
def w_663 (I : Inp F) (c : Dev nD) : BitVec 32 := Scalar.subi (w_2 I c) 2#32
def w_664 (I : Inp F) (c : Dev nD) : BitVec 32 := Scalar.addi (w_663 I c) 4#32
def w_665 (I : Inp F) (c : Dev nD) : BitVec 32 := Scalar.remsi (w_664 I c) 4#32
def w_666 (I : Inp F) (c : Dev nD) : BitVec 32 := Scalar.addi (w_2 I c) 2#32
def w_667 (I : Inp F) (c : Dev nD) : BitVec 32 := Scalar.remsi (w_666 I c) 4#32
def w_668 (I : Inp F) (c : Dev nD) : BitVec 32 := Scalar.muli (w_665 I c) 128#32
def w_669 (I : Inp F) (c : Dev nD) : BitVec 32 := Scalar.addi (w_667 I c) 4#32
def w_670 (I : Inp F) (c : Dev nD) : BitVec 32 := Scalar.muli (w_669 I c) 128#32
def w_672 (I : Inp F) (c : Dev nD) : Vec F S128x1024 .f32 := fun i => I.x c (((Rect.unit (s := S1024x1024) (k0_off2 c 2#32) S128x1024.size (k0_off2_inb c 2)).toLoadRect).idx i)
def w_675 (I : Inp F) (c : Dev nD) : Vec F S128x1024 .f32 := fun i => I.x c (((Rect.unit (s := S1024x1024) (k0_off3 c 2#32) S128x1024.size (k0_off3_inb c 2)).toLoadRect).idx i)
def w_678 (I : Inp F) (c : Dev nD) : Vec F S1024x1024 .f32 := fun i => I.wq c (((Rect.unit (s := S1024x1024) ![0, 0] S1024x1024.size inb_S1024x1024_S1024x1024_0_0).toLoadRect).idx i)
def w_677 (I : Inp F) (c : Dev nD) : FVec F S256x1024 .f32 := k0_pay45 (w_672 I c) (w_675 I c)
def w_693 (I : Inp F) (c : Dev nD) : IVec S256x1024 32 := iota .tc S256x1024 32 [1] iota_S256x1024_d1_w32
def w_682 (I : Inp F) (c : Dev nD) : FVec F S256x1024 .f32 := k0_pay46 (w_677 I c) (w_678 I c)
def w_717 (I : Inp F) (c : Dev nD) : IVec S256x1024 32 := k0_pay47 (w_668 I c) (w_670 I c)
def w_c64_i32_517 (I : Inp F) (c : Dev nD) : BitVec 32 := 64#32
def w_719 (I : Inp F) (c : Dev nD) : IVec S256x1024 32 := k0_pay48
def w_722 (I : Inp F) (c : Dev nD) : IVec S256x1024 32 := k0_pay49
def w_724 (I : Inp F) (c : Dev nD) : IVec S256x1024 1 := k0_pay50
def w_756 (I : Inp F) (c : Dev nD) : Vec F S1024x128 .f32 := I.kC c 0
def w_762 (I : Inp F) (c : Dev nD) : Vec F S1024x128 .f32 := I.vC c 0
def w_754 (I : Inp F) (c : Dev nD) : FVec F S256x1024 .f32 := k0_pay51 (F := F) (w_693 I c) (w_717 I c) (w_c64_i32_517 I c) (w_719 I c) (w_722 I c) (w_724 I c)
def w_765 (I : Inp F) (c : Dev nD) : FVec F S256x128 .f32 := k0_pay52 (w_682 I c) (w_693 I c) (w_717 I c) (w_c64_i32_517 I c) (w_719 I c) (w_722 I c) (w_724 I c) (w_756 I c) (w_762 I c)
def w_766 (I : Inp F) (c : Dev nD) : FVec F S256x128 .f32 := k0_pay53 (w_682 I c)
def w_767 (I : Inp F) (c : Dev nD) : Vec F S1024x128 .f32 := I.kC c 1
def w_773 (I : Inp F) (c : Dev nD) : Vec F S1024x128 .f32 := I.vC c 1
def w_778 (I : Inp F) (c : Dev nD) : Vec F S1024x128 .f32 := I.kC c 2
def w_784 (I : Inp F) (c : Dev nD) : Vec F S1024x128 .f32 := I.vC c 2
def w_789 (I : Inp F) (c : Dev nD) : Vec F S1024x128 .f32 := I.kC c 3
def w_795 (I : Inp F) (c : Dev nD) : Vec F S1024x128 .f32 := I.vC c 3
def w_800 (I : Inp F) (c : Dev nD) : Vec F S1024x128 .f32 := I.kC c 4
def w_776 (I : Inp F) (c : Dev nD) : FVec F S256x128 .f32 := k0_pay54 (w_754 I c) (w_766 I c) (w_767 I c) (w_773 I c)
def w_787 (I : Inp F) (c : Dev nD) : FVec F S256x128 .f32 := k0_pay55 (w_682 I c) (w_754 I c) (w_778 I c) (w_784 I c)
def w_798 (I : Inp F) (c : Dev nD) : FVec F S256x128 .f32 := k0_pay56 (w_682 I c) (w_754 I c) (w_789 I c) (w_795 I c)
def w_803 (I : Inp F) (c : Dev nD) : FVec F S256x1024 .f32 := k0_pay57 (w_682 I c) (w_754 I c) (w_800 I c)
def w_806 (I : Inp F) (c : Dev nD) : Vec F S1024x128 .f32 := I.vC c 4
def w_811 (I : Inp F) (c : Dev nD) : Vec F S1024x128 .f32 := I.kC c 5
def w_817 (I : Inp F) (c : Dev nD) : Vec F S1024x128 .f32 := I.vC c 5
def w_822 (I : Inp F) (c : Dev nD) : Vec F S1024x128 .f32 := I.kC c 6
def w_828 (I : Inp F) (c : Dev nD) : Vec F S1024x128 .f32 := I.vC c 6
def w_833 (I : Inp F) (c : Dev nD) : Vec F S1024x128 .f32 := I.kC c 7
def w_839 (I : Inp F) (c : Dev nD) : Vec F S1024x128 .f32 := I.vC c 7
def w_cst_584 (I : Inp F) (c : Dev nD) : FVec F S256x128 .f32 := constant S256x128 .f32 0x00000000#32
def w_809 (I : Inp F) (c : Dev nD) : FVec F S256x128 .f32 := k0_pay58 (w_803 I c) (w_806 I c)
def w_820 (I : Inp F) (c : Dev nD) : FVec F S256x128 .f32 := k0_pay59 (w_682 I c) (w_754 I c) (w_811 I c) (w_817 I c)
def w_831 (I : Inp F) (c : Dev nD) : FVec F S256x128 .f32 := k0_pay60 (w_682 I c) (w_754 I c) (w_822 I c) (w_828 I c)
def w_836 (I : Inp F) (c : Dev nD) : FVec F S256x1024 .f32 := k0_pay61 (w_682 I c) (w_754 I c) (w_833 I c)
def w_838 (I : Inp F) (c : Dev nD) : FVec F S256x1 .f32 := k0_pay62 (w_682 I c) (w_754 I c) (w_833 I c)
def w_844 (I : Inp F) (c : Dev nD) : Vec F S1024x1024 .f32 := fun i => I.wo c (((Rect.unit (s := S1024x1024) ![0, 0] S1024x1024.size inb_S1024x1024_S1024x1024_0_0).toLoadRect).idx i)
def st64 (I : Inp F) (c : Dev nD) : S128x1024.Idx → Elt F .bf16 := k0_pay64 (w_765 I c) (w_776 I c) (w_787 I c) (w_798 I c) (w_809 I c) (w_820 I c) (w_831 I c) (w_836 I c) (w_838 I c) (w_839 I c) (w_cst_584 I c) (w_844 I c)
def st65 (I : Inp F) (c : Dev nD) : S128x1024.Idx → Elt F .bf16 := k0_pay65 (w_765 I c) (w_776 I c) (w_787 I c) (w_798 I c) (w_809 I c) (w_820 I c) (w_831 I c) (w_836 I c) (w_838 I c) (w_839 I c) (w_cst_584 I c) (w_844 I c)
def w_866 (I : Inp F) (c : Dev nD) : Vec F S128x1024 .bf16 := st64 I c
def w_867 (I : Inp F) (c : Dev nD) : Vec F S1x128x1024 .bf16 := uns (st43 I (lft c))
def w_871 (I : Inp F) (c : Dev nD) : Vec F S128x1024 .bf16 := st64 I c
def st66 (I : Inp F) (c : Dev nD) : S128x1024.Idx → Elt F .bf16 := k0_pay66 (w_866 I c) (w_867 I c)
def w_c1_i32_605 (I : Inp F) (c : Dev nD) : BitVec 32 := 1#32
def w_891 (I : Inp F) (c : Dev nD) : Vec F S128x1024 .bf16 := st65 I c
def w_892 (I : Inp F) (c : Dev nD) : Vec F S1x128x1024 .bf16 := uns (st44 I (rgt c))
def w_896 (I : Inp F) (c : Dev nD) : Vec F S128x1024 .bf16 := st65 I c
def st67 (I : Inp F) (c : Dev nD) : S128x1024.Idx → Elt F .bf16 := k0_pay67 (w_891 I c) (w_892 I c)
def w_908 (I : Inp F) (c : Dev nD) : BitVec 32 := Scalar.subi (w_2 I c) 3#32
def w_909 (I : Inp F) (c : Dev nD) : BitVec 32 := Scalar.addi (w_908 I c) 4#32
def w_910 (I : Inp F) (c : Dev nD) : BitVec 32 := Scalar.remsi (w_909 I c) 4#32
def w_911 (I : Inp F) (c : Dev nD) : BitVec 32 := Scalar.addi (w_2 I c) 3#32
def w_912 (I : Inp F) (c : Dev nD) : BitVec 32 := Scalar.remsi (w_911 I c) 4#32
def w_913 (I : Inp F) (c : Dev nD) : BitVec 32 := Scalar.muli (w_910 I c) 128#32
def w_914 (I : Inp F) (c : Dev nD) : BitVec 32 := Scalar.addi (w_912 I c) 4#32
def w_915 (I : Inp F) (c : Dev nD) : BitVec 32 := Scalar.muli (w_914 I c) 128#32
def w_917 (I : Inp F) (c : Dev nD) : Vec F S128x1024 .f32 := fun i => I.x c (((Rect.unit (s := S1024x1024) (k0_off2 c 3#32) S128x1024.size (k0_off2_inb c 3)).toLoadRect).idx i)
def w_920 (I : Inp F) (c : Dev nD) : Vec F S128x1024 .f32 := fun i => I.x c (((Rect.unit (s := S1024x1024) (k0_off3 c 3#32) S128x1024.size (k0_off3_inb c 3)).toLoadRect).idx i)
def w_923 (I : Inp F) (c : Dev nD) : Vec F S1024x1024 .f32 := fun i => I.wq c (((Rect.unit (s := S1024x1024) ![0, 0] S1024x1024.size inb_S1024x1024_S1024x1024_0_0).toLoadRect).idx i)
def w_938 (I : Inp F) (c : Dev nD) : IVec S256x1024 32 := iota .tc S256x1024 32 [1] iota_S256x1024_d1_w32
def w_927 (I : Inp F) (c : Dev nD) : FVec F S256x1024 .f32 := k0_pay68 (w_917 I c) (w_920 I c) (w_923 I c)
def w_937 (I : Inp F) (c : Dev nD) : IVec S256x1024 32 := k0_pay69 (w_2 I c)
def w_c64_i32_647 (I : Inp F) (c : Dev nD) : BitVec 32 := 64#32
def w_940 (I : Inp F) (c : Dev nD) : IVec S256x1024 32 := k0_pay70 (w_2 I c)
def w_943 (I : Inp F) (c : Dev nD) : IVec S256x1024 32 := k0_pay71 (w_2 I c)
def w_945 (I : Inp F) (c : Dev nD) : IVec S256x1024 1 := k0_pay72 (w_2 I c)
def w_990 (I : Inp F) (c : Dev nD) : IVec S256x1024 1 := k0_pay75 (w_937 I c) (w_938 I c) (w_c64_i32_647 I c) (w_940 I c) (w_943 I c) (w_945 I c)
def w_991 (I : Inp F) (c : Dev nD) : IVec S256x1024 32 := k0_pay76 (w_937 I c) (w_938 I c) (w_c64_i32_647 I c) (w_940 I c) (w_943 I c) (w_945 I c)
def w_992 (I : Inp F) (c : Dev nD) : IVec S256x1024 32 := k0_pay77
def w_1001 (I : Inp F) (c : Dev nD) : Vec F S1024x128 .f32 := I.kC c 0
def w_1007 (I : Inp F) (c : Dev nD) : Vec F S1024x128 .f32 := I.vC c 0
def w_1012 (I : Inp F) (c : Dev nD) : Vec F S1024x128 .f32 := I.kC c 1
def w_1018 (I : Inp F) (c : Dev nD) : Vec F S1024x128 .f32 := I.vC c 1
def w_1023 (I : Inp F) (c : Dev nD) : Vec F S1024x128 .f32 := I.kC c 2
def w_1029 (I : Inp F) (c : Dev nD) : Vec F S1024x128 .f32 := I.vC c 2
def w_999 (I : Inp F) (c : Dev nD) : FVec F S256x1024 .f32 := k0_pay78 (F := F) (w_990 I c) (w_991 I c) (w_992 I c)
def w_1010 (I : Inp F) (c : Dev nD) : FVec F S256x128 .f32 := k0_pay79 (w_927 I c) (w_990 I c) (w_991 I c) (w_992 I c) (w_1001 I c) (w_1007 I c)
def w_1021 (I : Inp F) (c : Dev nD) : FVec F S256x128 .f32 := k0_pay80 (w_927 I c) (w_990 I c) (w_991 I c) (w_992 I c) (w_1012 I c) (w_1018 I c)
def w_1026 (I : Inp F) (c : Dev nD) : FVec F S256x1024 .f32 := k0_pay81 (w_927 I c) (w_990 I c) (w_991 I c) (w_992 I c) (w_1023 I c)
def w_1028 (I : Inp F) (c : Dev nD) : FVec F S256x1 .f32 := k0_pay82 (w_927 I c) (w_990 I c) (w_991 I c) (w_992 I c) (w_1023 I c)
def w_1034 (I : Inp F) (c : Dev nD) : Vec F S1024x128 .f32 := I.kC c 3
def w_1040 (I : Inp F) (c : Dev nD) : Vec F S1024x128 .f32 := I.vC c 3
def w_1045 (I : Inp F) (c : Dev nD) : Vec F S1024x128 .f32 := I.kC c 4
def w_1051 (I : Inp F) (c : Dev nD) : Vec F S1024x128 .f32 := I.vC c 4
def w_1056 (I : Inp F) (c : Dev nD) : Vec F S1024x128 .f32 := I.kC c 5
def w_1062 (I : Inp F) (c : Dev nD) : Vec F S1024x128 .f32 := I.vC c 5
def w_1032 (I : Inp F) (c : Dev nD) : FVec F S256x128 .f32 := k0_pay83 (w_1026 I c) (w_1028 I c) (w_1029 I c)
def w_1043 (I : Inp F) (c : Dev nD) : FVec F S256x128 .f32 := k0_pay84 (w_927 I c) (w_999 I c) (w_1034 I c) (w_1040 I c)
def w_1054 (I : Inp F) (c : Dev nD) : FVec F S256x128 .f32 := k0_pay85 (w_927 I c) (w_999 I c) (w_1045 I c) (w_1051 I c)
def w_1065 (I : Inp F) (c : Dev nD) : FVec F S256x128 .f32 := k0_pay86 (w_927 I c) (w_999 I c) (w_1056 I c) (w_1062 I c)
def w_1066 (I : Inp F) (c : Dev nD) : FVec F S256x128 .f32 := k0_pay87 (w_927 I c)
def w_1067 (I : Inp F) (c : Dev nD) : Vec F S1024x128 .f32 := I.kC c 6
def w_1073 (I : Inp F) (c : Dev nD) : Vec F S1024x128 .f32 := I.vC c 6
def w_1078 (I : Inp F) (c : Dev nD) : Vec F S1024x128 .f32 := I.kC c 7
def w_1084 (I : Inp F) (c : Dev nD) : Vec F S1024x128 .f32 := I.vC c 7
def w_1089 (I : Inp F) (c : Dev nD) : Vec F S1024x1024 .f32 := fun i => I.wo c (((Rect.unit (s := S1024x1024) ![0, 0] S1024x1024.size inb_S1024x1024_S1024x1024_0_0).toLoadRect).idx i)
def st89 (I : Inp F) (c : Dev nD) : S128x1024.Idx → Elt F .bf16 := k0_pay89 (w_927 I c) (w_999 I c) (w_1010 I c) (w_1021 I c) (w_1032 I c) (w_1043 I c) (w_1054 I c) (w_1065 I c) (w_1066 I c) (w_1067 I c) (w_1073 I c) (w_1078 I c) (w_1084 I c) (w_1089 I c)
def st90 (I : Inp F) (c : Dev nD) : S128x1024.Idx → Elt F .bf16 := k0_pay90 (w_927 I c) (w_999 I c) (w_1010 I c) (w_1021 I c) (w_1032 I c) (w_1043 I c) (w_1054 I c) (w_1065 I c) (w_1066 I c) (w_1067 I c) (w_1073 I c) (w_1078 I c) (w_1084 I c) (w_1089 I c)
def w_c1_i32_730 (I : Inp F) (c : Dev nD) : BitVec 32 := 1#32
def w_1111 (I : Inp F) (c : Dev nD) : Vec F S128x1024 .bf16 := st89 I c
def w_1112 (I : Inp F) (c : Dev nD) : Vec F S1x128x1024 .bf16 := uns (st66 I (lft c))
def w_1116 (I : Inp F) (c : Dev nD) : Vec F S128x1024 .bf16 := st89 I c
def st91 (I : Inp F) (c : Dev nD) : S128x1024.Idx → Elt F .bf16 := k0_pay91 (w_1111 I c) (w_1112 I c)
def w_1127 (I : Inp F) (c : Dev nD) : Vec F S128x1024 .bf16 := st90 I c
def w_1128 (I : Inp F) (c : Dev nD) : Vec F S1x128x1024 .bf16 := uns (st67 I (rgt c))
def w_1132 (I : Inp F) (c : Dev nD) : Vec F S128x1024 .bf16 := st90 I c
def st92 (I : Inp F) (c : Dev nD) : S128x1024.Idx → Elt F .bf16 := k0_pay92 (w_1127 I c) (w_1128 I c)
def w_1135 (I : Inp F) (c : Dev nD) : BitVec 32 := Scalar.addi (w_2 I c) 1#32
def w_1136 (I : Inp F) (c : Dev nD) : BitVec 32 := Scalar.remsi (w_1135 I c) 4#32
def w_1137 (I : Inp F) (c : Dev nD) : BitVec 32 := Scalar.addi (w_2 I c) 4#32
def w_1138 (I : Inp F) (c : Dev nD) : BitVec 32 := Scalar.subi (w_1137 I c) 1#32
def w_1139 (I : Inp F) (c : Dev nD) : BitVec 32 := Scalar.remsi (w_1138 I c) 4#32
def w_1140 (I : Inp F) (c : Dev nD) : BitVec 32 := Scalar.muli (w_1136 I c) 128#32
def w_1141 (I : Inp F) (c : Dev nD) : BitVec 32 := Scalar.addi (w_1139 I c) 4#32
def w_1142 (I : Inp F) (c : Dev nD) : BitVec 32 := Scalar.muli (w_1141 I c) 128#32
def w_1144 (I : Inp F) (c : Dev nD) : Vec F S128x1024 .bf16 := st91 I c
def st93 (I : Inp F) (c : Dev nD) : S128x1024.Idx → Elt F .bf16 := k0_pay93 (w_1144 I c)
def w_1150 (I : Inp F) (c : Dev nD) : Vec F S128x1024 .bf16 := st92 I c
def st94 (I : Inp F) (c : Dev nD) : S128x1024.Idx → Elt F .bf16 := k0_pay94 (w_1150 I c)

end

/-- The finished chunk `j` of the result: chunk `j` of the upper half is completed on the device before device `j`, that of
    the lower half on the device after. -/
def gC (I : Inp F) (j : ℕ) : S128x1024.Idx → Elt F .bf16 :=
  if j < 4 then st93 I ⟨(j + 3) % 4, Nat.mod_lt _ (by decide)⟩ else st94 I ⟨(j + 1) % 4, Nat.mod_lt _ (by decide)⟩

section
variable (c : Dev nD)

def w_1155 (I : Inp F) (c : Dev nD) : BitVec 32 := Scalar.subi (w_1136 I c) 0#32
def w_1156 (I : Inp F) (c : Dev nD) : BitVec 32 := Scalar.addi (w_1155 I c) 4#32
def w_1157 (I : Inp F) (c : Dev nD) : BitVec 32 := Scalar.remsi (w_1156 I c) 4#32
def w_1158 (I : Inp F) (c : Dev nD) : BitVec 32 := Scalar.addi (w_1139 I c) 0#32
def w_1159 (I : Inp F) (c : Dev nD) : BitVec 32 := Scalar.remsi (w_1158 I c) 4#32
def w_1160 (I : Inp F) (c : Dev nD) : BitVec 32 := Scalar.subi (w_1136 I c) 0#32
def w_1161 (I : Inp F) (c : Dev nD) : BitVec 32 := Scalar.subi (w_1160 I c) 1#32
def w_1162 (I : Inp F) (c : Dev nD) : BitVec 32 := Scalar.addi (w_1161 I c) 4#32
def w_1163 (I : Inp F) (c : Dev nD) : BitVec 32 := Scalar.remsi (w_1162 I c) 4#32
def w_1164 (I : Inp F) (c : Dev nD) : BitVec 32 := Scalar.addi (w_1139 I c) 0#32
def w_1165 (I : Inp F) (c : Dev nD) : BitVec 32 := Scalar.addi (w_1164 I c) 1#32
def w_1166 (I : Inp F) (c : Dev nD) : BitVec 32 := Scalar.remsi (w_1165 I c) 4#32
def w_1167 (I : Inp F) (c : Dev nD) : BitVec 32 := Scalar.muli (w_1157 I c) 128#32
def w_1197 (I : Inp F) (c : Dev nD) : BitVec 32 := Scalar.muli (w_1157 I c) 128#32
def w_1253 (I : Inp F) (c : Dev nD) : BitVec 32 := Scalar.addi (w_1166 I c) 4#32
def w_1254 (I : Inp F) (c : Dev nD) : BitVec 32 := Scalar.muli (w_1253 I c) 128#32
def w_1283 (I : Inp F) (c : Dev nD) : BitVec 32 := Scalar.addi (w_1166 I c) 4#32
def w_1284 (I : Inp F) (c : Dev nD) : BitVec 32 := Scalar.muli (w_1283 I c) 128#32
def w_1287 (I : Inp F) (c : Dev nD) : BitVec 32 := Scalar.subi (w_1136 I c) 1#32
def w_1288 (I : Inp F) (c : Dev nD) : BitVec 32 := Scalar.addi (w_1287 I c) 4#32
def w_1289 (I : Inp F) (c : Dev nD) : BitVec 32 := Scalar.remsi (w_1288 I c) 4#32
def w_1290 (I : Inp F) (c : Dev nD) : BitVec 32 := Scalar.addi (w_1139 I c) 1#32
def w_1291 (I : Inp F) (c : Dev nD) : BitVec 32 := Scalar.remsi (w_1290 I c) 4#32
def w_1292 (I : Inp F) (c : Dev nD) : BitVec 32 := Scalar.subi (w_1136 I c) 1#32
def w_1293 (I : Inp F) (c : Dev nD) : BitVec 32 := Scalar.subi (w_1292 I c) 1#32
def w_1294 (I : Inp F) (c : Dev nD) : BitVec 32 := Scalar.addi (w_1293 I c) 4#32
def w_1295 (I : Inp F) (c : Dev nD) : BitVec 32 := Scalar.remsi (w_1294 I c) 4#32
def w_1296 (I : Inp F) (c : Dev nD) : BitVec 32 := Scalar.addi (w_1139 I c) 1#32
def w_1297 (I : Inp F) (c : Dev nD) : BitVec 32 := Scalar.addi (w_1296 I c) 1#32
def w_1298 (I : Inp F) (c : Dev nD) : BitVec 32 := Scalar.remsi (w_1297 I c) 4#32
def w_c4_i32_982 (I : Inp F) (c : Dev nD) : BitVec 32 := 4#32
def w_1392 (I : Inp F) (c : Dev nD) : BitVec 32 := Scalar.muli (w_7 I c) 1#32
def w_c0_i32_1014 (I : Inp F) (c : Dev nD) : BitVec 32 := 0#32
def w_1421 (I : Inp F) (c : Dev nD) : BitVec 32 := Scalar.addi (w_1298 I c) 4#32
def w_1422 (I : Inp F) (c : Dev nD) : BitVec 32 := Scalar.muli (w_1421 I c) 128#32
def w_1469 (I : Inp F) (c : Dev nD) : Vec F S128x1024 .bf16 := gC I (chA c 0)
def w_1476 (I : Inp F) (c : Dev nD) : Vec F S128x1024 .bf16 := gC I (chB c 0)
def w_1480 (I : Inp F) (c : Dev nD) : BitVec 32 := Scalar.subi (w_1136 I c) 2#32
def w_1481 (I : Inp F) (c : Dev nD) : BitVec 32 := Scalar.addi (w_1480 I c) 4#32
def w_1482 (I : Inp F) (c : Dev nD) : BitVec 32 := Scalar.remsi (w_1481 I c) 4#32
def w_1483 (I : Inp F) (c : Dev nD) : BitVec 32 := Scalar.addi (w_1139 I c) 2#32
def w_1484 (I : Inp F) (c : Dev nD) : BitVec 32 := Scalar.remsi (w_1483 I c) 4#32
def w_1485 (I : Inp F) (c : Dev nD) : BitVec 32 := Scalar.subi (w_1136 I c) 2#32
def w_1486 (I : Inp F) (c : Dev nD) : BitVec 32 := Scalar.subi (w_1485 I c) 1#32
def w_1487 (I : Inp F) (c : Dev nD) : BitVec 32 := Scalar.addi (w_1486 I c) 4#32
def w_1488 (I : Inp F) (c : Dev nD) : BitVec 32 := Scalar.remsi (w_1487 I c) 4#32
def w_1489 (I : Inp F) (c : Dev nD) : BitVec 32 := Scalar.addi (w_1139 I c) 2#32
def w_1490 (I : Inp F) (c : Dev nD) : BitVec 32 := Scalar.addi (w_1489 I c) 1#32
def w_1491 (I : Inp F) (c : Dev nD) : BitVec 32 := Scalar.remsi (w_1490 I c) 4#32
def w_1534 (I : Inp F) (c : Dev nD) : BitVec 32 := Scalar.muli (w_5 I c) 1#32
def w_1560 (I : Inp F) (c : Dev nD) : BitVec 32 := Scalar.addi (w_1484 I c) 4#32
def w_1561 (I : Inp F) (c : Dev nD) : BitVec 32 := Scalar.muli (w_1560 I c) 128#32
def w_c32_i32_1188 (I : Inp F) (c : Dev nD) : BitVec 32 := 32#32
def w_1644 (I : Inp F) (c : Dev nD) : BitVec 32 := Scalar.addi (w_1484 I c) 4#32
def w_c128_i32_1278 (I : Inp F) (c : Dev nD) : BitVec 32 := 128#32
def w_1662 (I : Inp F) (c : Dev nD) : Vec F S128x1024 .bf16 := gC I (chA c 1)
def w_1669 (I : Inp F) (c : Dev nD) : Vec F S128x1024 .bf16 := gC I (chB c 1)
def w_1674 (I : Inp F) (c : Dev nD) : Vec F S128x1024 .bf16 := gC I (chA c 3)
def w_1679 (I : Inp F) (c : Dev nD) : Vec F S128x1024 .bf16 := gC I (chB c 3)
def w_1701 (I : Inp F) (c : Dev nD) : BitVec 32 := Scalar.muli (w_7 I c) 1#32
def w_c0_i32_1333 (I : Inp F) (c : Dev nD) : BitVec 32 := 0#32
def w_1725 (I : Inp F) (c : Dev nD) : BitVec 32 := Scalar.muli (w_7 I c) 1#32
def w_c0_i32_1365 (I : Inp F) (c : Dev nD) : BitVec 32 := 0#32
def w_1735 (I : Inp F) (c : Dev nD) : Vec F S128x1024 .bf16 := gC I (chA c 2)
def w_1745 (I : Inp F) (c : Dev nD) : Vec F S128x1024 .bf16 := gC I (chB c 2)
end

/-- Chunk `j` as it stands in the result. -/
def fin (j : ℕ) : S128x1024.Idx → Elt F .f32 := extf .f32 (gC I j : FVec F S128x1024 .bf16) bitsLt_bf16_f32

/-- The running sums of the upper-half ring, -/
def sumA (c : Dev nD) (k : ℕ) : S128x1024.Idx → Elt F .bf16 :=
  match k with | 0 => st19 I c | 1 => st43 I c | 2 => st66 I c | _ => st91 I c
/-- and of the lower-half ring. -/
def sumB (c : Dev nD) (k : ℕ) : S128x1024.Idx → Elt F .bf16 :=
  match k with | 0 => st20 I c | 1 => st44 I c | 2 => st67 I c | _ => st92 I c

/-- The contents that travel. -/
def cont : Cont F where
  kC := I.kC
  vC := I.vC
  SA := sumA I
  SB := sumB I
  G := gC I

theorem gC_A (c : Dev nD) : gC I (chA c 3) = st93 I c := by
  have h : chA c 3 < 4 := Nat.mod_lt _ (by decide)
  unfold gC; rw [if_pos h]; congr 1; revert c; decide
theorem gC_B (c : Dev nD) : gC I (chB c 3) = st94 I c := by
  have h : ¬ chB c 3 < 4 := by unfold chB; omega
  unfold gC; rw [if_neg h]; congr 1; revert c; decide

end Cert.Ring
-- ==== Proof.Steps.lean ====
/-
# The steps, at the protocol's windows

The program's offsets and device numbers in closed form, the payloads cell by cell, and what a step's premises read.
-/
module

public import proofs.«01_k».proof.Proof.Vals

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Offsets and devices -/

theorem off2E : ∀ (c : Dev nD) (r : Fin 4), k0_off2 c (BitVec.ofNat 32 r.val) = ![128 * chA c r.val, 0] := by decide +kernel
theorem off3E : ∀ (c : Dev nD) (r : Fin 4), k0_off3 c (BitVec.ofNat 32 r.val) = ![128 * chB c r.val, 0] := by decide +kernel
theorem off4E : ∀ (c : Dev nD) (r : Fin 3), k0_off4 c (BitVec.ofNat 32 r.val) = ![128 * chA c r.val, 0] := by decide +kernel
theorem off5E : ∀ (c : Dev nD) (r : Fin 3), k0_off5 c (BitVec.ofNat 32 r.val) = ![128 * chB c r.val, 0] := by decide +kernel
theorem off6E : ∀ (c : Dev nD), k0_off6 c = ![128 * chA c 3, 0] := by decide +kernel
theorem off7E : ∀ (c : Dev nD), k0_off7 c = ![128 * chB c 3, 0] := by decide +kernel
theorem off8E : ∀ (c : Dev nD) (h : Fin 3) (s : Fin 4),
    k0_off8 c (BitVec.ofNat 32 h.val) (BitVec.ofNat 32 (32 * s.val)) = ![128 * chA c (h.val + 3) + 32 * s.val, 0] := by decide +kernel
theorem off9E : ∀ (c : Dev nD) (h : Fin 3) (s : Fin 4),
    k0_off9 c (BitVec.ofNat 32 h.val) (BitVec.ofNat 32 (32 * s.val)) = ![128 * chB c (h.val + 3) + 32 * s.val, 0] := by decide +kernel
theorem off8i (c : Dev nD) (h s k : ℕ) (hh : h < 3) (hs : s < 4) (hk : k = h + 3) {a b : BitVec 32} (ha : a = BitVec.ofNat 32 h) (hb : b = BitVec.ofNat 32 (32 * s)) :
    k0_off8 c a b = ![128 * chA c k + 32 * s, 0] := by
  subst hk ha hb; exact off8E c ⟨h, hh⟩ ⟨s, hs⟩
theorem off9i (c : Dev nD) (h s k : ℕ) (hh : h < 3) (hs : s < 4) (hk : k = h + 3) {a b : BitVec 32} (ha : a = BitVec.ofNat 32 h) (hb : b = BitVec.ofNat 32 (32 * s)) :
    k0_off9 c a b = ![128 * chB c k + 32 * s, 0] := by
  subst hk ha hb; exact off9E c ⟨h, hh⟩ ⟨s, hs⟩
theorem off12E : ∀ (c : Dev nD) (r : Fin 2), k0_off12 c (BitVec.ofNat 32 (1 + r.val)) = ![128 * chA c r.val, 0] := by decide +kernel
theorem off13E : ∀ (c : Dev nD) (r : Fin 2), k0_off13 c (BitVec.ofNat 32 (1 + r.val)) = ![128 * chB c r.val, 0] := by decide +kernel
theorem off14E : ∀ (c : Dev nD), k0_off14 c = ![128 * chA c 2, 0] := by decide +kernel
theorem off15E : ∀ (c : Dev nD), k0_off15 c = ![128 * chB c 2, 0] := by decide +kernel

theorem dev1E : ∀ (c : Dev nD), (⟨k0_dev1 c, k0_dev1_lt c⟩ : Dev nD) = peer c true := by decide +kernel
theorem dev2E : ∀ (c : Dev nD), (⟨k0_dev2 c, k0_dev2_lt c⟩ : Dev nD) = peer c false := by decide +kernel
theorem dev3E : ∀ (c : Dev nD), (⟨k0_dev3 c, k0_dev3_lt c⟩ : Dev nD) = peer c false := by decide +kernel
theorem dev4E : ∀ (c : Dev nD), (⟨k0_dev4 c, k0_dev4_lt c⟩ : Dev nD) = peer c true := by decide +kernel
theorem dev5E : ∀ (c : Dev nD), (⟨k0_dev5 c, k0_dev5_lt c⟩ : Dev nD) = peer c false := by decide +kernel
theorem dev6E : ∀ (c : Dev nD), (⟨k0_dev6 c, k0_dev6_lt c⟩ : Dev nD) = peer c true := by decide +kernel
theorem dev7E : ∀ (c : Dev nD), (⟨k0_dev7 c, k0_dev7_lt c⟩ : Dev nD) = peer c false := by decide +kernel
theorem dev8E : ∀ (c : Dev nD), (⟨k0_dev8 c, k0_dev8_lt c⟩ : Dev nD) = peer c true := by decide +kernel
theorem dev9E : ∀ (c : Dev nD), (⟨k0_dev9 c, k0_dev9_lt c⟩ : Dev nD) = peer c false := by decide +kernel
theorem dev10E : ∀ (c : Dev nD), (⟨k0_dev10 c, k0_dev10_lt c⟩ : Dev nD) = peer c true := by decide +kernel
theorem dev11E : ∀ (c : Dev nD), (⟨k0_dev11 c, k0_dev11_lt c⟩ : Dev nD) = peer c false := by decide +kernel
theorem dev12E : ∀ (c : Dev nD), (⟨k0_dev12 c, k0_dev12_lt c⟩ : Dev nD) = peer c true := by decide +kernel
theorem dev13E : ∀ (c : Dev nD), (⟨k0_dev13 c, k0_dev13_lt c⟩ : Dev nD) = peer c false := by decide +kernel
theorem dev14E : ∀ (c : Dev nD), (⟨k0_dev14 c, k0_dev14_lt c⟩ : Dev nD) = peer c true := by decide +kernel
theorem dev15E : ∀ (c : Dev nD), (⟨k0_dev15 c, k0_dev15_lt c⟩ : Dev nD) = peer c false := by decide +kernel
theorem dev16E : ∀ (c : Dev nD), (⟨k0_dev16 c, k0_dev16_lt c⟩ : Dev nD) = peer c true := by decide +kernel
theorem dev17E : ∀ (c : Dev nD), (⟨k0_dev17 c, k0_dev17_lt c⟩ : Dev nD) = peer c false := by decide +kernel
theorem dev18E : ∀ (c : Dev nD), (⟨k0_dev18 c, k0_dev18_lt c⟩ : Dev nD) = peer c true := by decide +kernel
theorem dev19E : ∀ (c : Dev nD), (⟨k0_dev19 c, k0_dev19_lt c⟩ : Dev nD) = peer c false := by decide +kernel
theorem dev20E : ∀ (c : Dev nD), (⟨k0_dev20 c, k0_dev20_lt c⟩ : Dev nD) = peer c true := by decide +kernel
theorem dev21E : ∀ (c : Dev nD), (⟨k0_dev21 c, k0_dev21_lt c⟩ : Dev nD) = peer c false := by decide +kernel
theorem dev22E : ∀ (c : Dev nD), (⟨k0_dev22 c, k0_dev22_lt c⟩ : Dev nD) = peer c true := by decide +kernel
theorem dev23E : ∀ (c : Dev nD), (⟨k0_dev23 c, k0_dev23_lt c⟩ : Dev nD) = peer c false := by decide +kernel
theorem dev24E : ∀ (c : Dev nD), (⟨k0_dev24 c, k0_dev24_lt c⟩ : Dev nD) = peer c true := by decide +kernel
theorem dev25E : ∀ (c : Dev nD), (⟨k0_dev25 c, k0_dev25_lt c⟩ : Dev nD) = peer c false := by decide +kernel
theorem dev26E : ∀ (c : Dev nD), (⟨k0_dev26 c, k0_dev26_lt c⟩ : Dev nD) = peer c true := by decide +kernel
theorem dev27E : ∀ (c : Dev nD), (⟨k0_dev27 c, k0_dev27_lt c⟩ : Dev nD) = peer c false := by decide +kernel
theorem dev28E : ∀ (c : Dev nD), (⟨k0_dev28 c, k0_dev28_lt c⟩ : Dev nD) = peer c true := by decide +kernel
theorem dev29E : ∀ (c : Dev nD), (⟨k0_dev29 c, k0_dev29_lt c⟩ : Dev nD) = peer c false := by decide +kernel
theorem dev30E : ∀ (c : Dev nD), (⟨k0_dev30 c, k0_dev30_lt c⟩ : Dev nD) = peer c true := by decide +kernel
theorem dev31E : ∀ (c : Dev nD), (⟨k0_dev31 c, k0_dev31_lt c⟩ : Dev nD) = peer c false := by decide +kernel
theorem dev32E : ∀ (c : Dev nD), (⟨k0_dev32 c, k0_dev32_lt c⟩ : Dev nD) = peer c true := by decide +kernel

/-- Slices at equal offsets are equal. -/
theorem slice_congr {sp : Space} {s : Shape} {e : EltTy} (M : Memref sig .tc sp s e) {off off' size : Fin s.rank → ℕ}
    {inb : ∀ a, off a + size a ≤ s.size a} {inb' : ∀ a, off' a + size a ≤ s.size a} (h : off = off') :
    M.slice (Rect.unit (s := s) off size inb) (fun _ => rfl) = M.slice (Rect.unit (s := s) off' size inb') (fun _ => rfl) := by
  subst h; rfl

/-! ## What is owed, one payment at a time -/

theorem O_dma (c : Dev nD) (n : ℕ) (b : Bool) (i : Fin 76) (h : sched.drop n = (b, ⟨i.val, by have := i.isLt; omega⟩) :: sched.drop (n + 1)) :
    O c n = O c (n + 1) + tallyAt (cell (peer c b) i) () (amt i) := by
  unfold O; rw [h]
  show owedL c _ + tallyAt (kcell (peer c b, ⟨i.val, _⟩)) () (amtX ⟨i.val, _⟩) = _
  rw [kcell_dma]; unfold amtX; rw [if_pos i.isLt]
theorem O_bar (c : Dev nD) (n : ℕ) (b : Bool) (h : sched.drop n = (b, 76) :: sched.drop (n + 1)) :
    O c n = O c (n + 1) + tallyAt (barCell (peer c b)) () 1 := by
  unfold O; rw [h]
  show owedL c _ + tallyAt (kcell (peer c b, 76)) () (amtX 76) = _
  rw [kcell_bar]; rfl

/-! ## What the transfers add -/

section Credit
variable (i : Fin 76)

theorem crK (hi : i.val < 16) {off : Fin 2 → ℕ} {inb : ∀ a, off a + S1024x128.size a ≤ S1024x1024.size a} :
    (kM.slice (Rect.unit (s := S1024x1024) off S1024x128.size inb) (fun _ => rfl)).view.dmaCredit = amt i := by
  unfold amt; rw [if_pos hi]; rfl
theorem crV (hi : i.val < 16) {off : Fin 2 → ℕ} {inb : ∀ a, off a + S1024x128.size a ≤ S1024x1024.size a} :
    (vM.slice (Rect.unit (s := S1024x1024) off S1024x128.size inb) (fun _ => rfl)).view.dmaCredit = amt i := by
  unfold amt; rw [if_pos hi]; rfl
theorem crA (hi : 16 ≤ i.val ∧ i.val < 28) {off : Fin 2 → ℕ} {inb : ∀ a, off a + S128x1024.size a ≤ S1024x1024.size a} :
    (accM.slice (Rect.unit (s := S1024x1024) off S128x1024.size inb) (fun _ => rfl)).view.dmaCredit = amt i := by
  unfold amt; rw [if_neg (by omega), if_pos hi.2]; rfl
theorem crG (hi : 28 ≤ i.val) {off : Fin 2 → ℕ} {inb : ∀ a, off a + S32x1024.size a ≤ S1024x1024.size a} :
    (gathM.slice (Rect.unit (s := S1024x1024) off S32x1024.size inb) (fun _ => rfl)).view.dmaCredit = amt i := by
  unfold amt; rw [if_neg (by omega), if_neg (by omega)]; rfl
theorem crSA (hi : 16 ≤ i.val ∧ i.val < 28) {off : Fin 3 → ℕ} {inb : ∀ a, off a + S1x128x1024.size a ≤ S3x128x1024.size a} :
    ((rsaM.slice (Rect.unit (s := S3x128x1024) off S1x128x1024.size inb) (fun _ => rfl)).squeeze S128x1024 squeezes_S1x128x1024_S128x1024).view.dmaCredit = amt i := by
  unfold amt; rw [if_neg (by omega), if_pos hi.2]
theorem crSB (hi : 16 ≤ i.val ∧ i.val < 28) {off : Fin 3 → ℕ} {inb : ∀ a, off a + S1x128x1024.size a ≤ S3x128x1024.size a} :
    ((rsbM.slice (Rect.unit (s := S3x128x1024) off S1x128x1024.size inb) (fun _ => rfl)).squeeze S128x1024 squeezes_S1x128x1024_S128x1024).view.dmaCredit = amt i := by
  unfold amt; rw [if_neg (by omega), if_pos hi.2]

end Credit

/-! ## The payloads -/

section Pay
variable (C : Cont F) (c : Dev nD)

theorem own_sub_congr {n : Dev nD} {j j' s s' : ℕ} (e : j = j') (es : s = s') (h : j < 8) (h' : j' < 8) (hs : s < 4) (hs' : s' < 4) :
    own n (subW gathM j s h hs) (quarter s hs (C.G j)) = own n (subW gathM j' s' h' hs') (quarter s' hs' (C.G j')) := by subst e es; rfl
theorem payK (h : ℕ) (hh : h < 8) : payD C c h = own c (colW kM h hh) (C.kC c h) := by unfold payD; rw [dif_pos hh]
theorem payV (h : ℕ) (hh : h < 8) : payD C c (8 + h) = own c (colW vM h hh) (C.vC c h) := by
  unfold payD; rw [dif_neg (by omega), dif_pos (by omega)]
  have e : 8 + h - 8 = h := by omega
  simp only [e]
theorem payAS (k : ℕ) (hk : k < 3) : payD C c (16 + k) = own c (chW accM (chA c k) (chA_lt _ _)) (C.SA c k) := by
  unfold payD; iterate 2 rw [dif_neg (by omega)]
  rw [dif_pos (by omega)]
  have e : 16 + k - 16 = k := by omega
  simp only [e]
theorem payAR (k : ℕ) (hk : k < 3) : payD C c (19 + k) = own c (slotW rsaM k hk) (C.SA (lft c) k) := by
  unfold payD; iterate 3 rw [dif_neg (by omega)]
  rw [dif_pos (by omega)]
  have e : 19 + k - 19 = k := by omega
  simp only [e]
theorem payBS (k : ℕ) (hk : k < 3) : payD C c (22 + k) = own c (chW accM (chB c k) (chB_lt _ _)) (C.SB c k) := by
  unfold payD; iterate 4 rw [dif_neg (by omega)]
  rw [dif_pos (by omega)]
  have e : 22 + k - 22 = k := by omega
  simp only [e]
theorem payBR (k : ℕ) (hk : k < 3) : payD C c (25 + k) = own c (slotW rsbM k hk) (C.SB (rgt c) k) := by
  unfold payD; iterate 5 rw [dif_neg (by omega)]
  rw [dif_pos (by omega)]
  have e : 25 + k - 25 = k := by omega
  simp only [e]
theorem payGAS (h s : ℕ) (hh : h < 3) (hs : s < 4) : payD C c (28 + (4 * h + s)) = lentQ C c (chA c (h + 3)) s (chA_lt _ _) hs := by
  unfold payD; iterate 6 rw [dif_neg (by omega)]
  rw [dif_pos (by omega)]
  have e : (28 + (4 * h + s) - 28) / 4 = h := by omega
  have e' : (28 + (4 * h + s) - 28) % 4 = s := by omega
  simp only [e, e']
theorem payGAR (h s : ℕ) (hh : h < 3) (hs : s < 4) :
    payD C c (40 + (4 * h + s)) = own c (subW gathM (chA c h) s (chA_lt _ _) hs) (quarter s hs (C.G (chA c h))) := by
  unfold payD; iterate 7 rw [dif_neg (by omega)]
  rw [dif_pos (by omega)]
  exact own_sub_congr C (congrArg (chA c) (by omega)) (by omega) _ _ _ _
theorem payGBS (h s : ℕ) (hh : h < 3) (hs : s < 4) : payD C c (52 + (4 * h + s)) = lentQ C c (chB c (h + 3)) s (chB_lt _ _) hs := by
  unfold payD; iterate 8 rw [dif_neg (by omega)]
  rw [dif_pos (by omega)]
  have e : (52 + (4 * h + s) - 52) / 4 = h := by omega
  have e' : (52 + (4 * h + s) - 52) % 4 = s := by omega
  simp only [e, e']
theorem payGBR (h s : ℕ) (hh : h < 3) (hs : s < 4) :
    payD C c (64 + (4 * h + s)) = own c (subW gathM (chB c h) s (chB_lt _ _) hs) (quarter s hs (C.G (chB c h))) := by
  unfold payD; iterate 9 rw [dif_neg (by omega)]
  rw [dif_pos (by omega)]
  exact own_sub_congr C (congrArg (chB c) (by omega)) (by omega) _ _ _ _

theorem chA_rgt : ∀ (c : Dev nD) (h : Fin 3), chA (rgt c) h.val = chA c (h.val + 3) := by decide
theorem chB_lft : ∀ (c : Dev nD) (h : Fin 3), chB (lft c) h.val = chB c (h.val + 3) := by decide

/-- The same, as the sender sees the neighbour's cell. -/
theorem payAR' (k : ℕ) (hk : k < 3) : payD C (peer c false) (19 + k) = own (peer c false) (slotW rsaM k hk) (C.SA c k) := by
  rw [payAR C _ k hk]; show own _ _ (C.SA (lft (rgt c)) k) = _; rw [lft_rgt]
theorem payBR' (k : ℕ) (hk : k < 3) : payD C (peer c true) (25 + k) = own (peer c true) (slotW rsbM k hk) (C.SB c k) := by
  rw [payBR C _ k hk]; show own _ _ (C.SB (rgt (lft c)) k) = _; rw [rgt_lft]

theorem payGAR' (h s : ℕ) (hh : h < 3) (hs : s < 4) :
    payD C (peer c false) (40 + (4 * h + s)) = own (peer c false) (subW gathM (chA c (h + 3)) s (chA_lt _ _) hs) (quarter s hs (C.G (chA c (h + 3)))) := by
  rw [payGAR C _ h s hh hs]; exact own_sub_congr C (chA_rgt c ⟨h, hh⟩) rfl _ _ _ _
theorem payGBR' (h s : ℕ) (hh : h < 3) (hs : s < 4) :
    payD C (peer c true) (64 + (4 * h + s)) = own (peer c true) (subW gathM (chB c (h + 3)) s (chB_lt _ _) hs) (quarter s hs (C.G (chB c (h + 3)))) := by
  rw [payGBR C _ h s hh hs]; exact own_sub_congr C (chB_lft c ⟨h, hh⟩) rfl _ _ _ _

/-- The same at a numbered cell. -/
theorem payKi (i : Fin 76) (h : ℕ) (hh : h < 8) (hi : i.val = h) : payD C c i.val = own c (colW kM h hh) (C.kC c h) :=
  (congrArg (payD C _) hi).trans (payK C c h hh)
theorem payVi (i : Fin 76) (h : ℕ) (hh : h < 8) (hi : i.val = 8 + h) : payD C c i.val = own c (colW vM h hh) (C.vC c h) :=
  (congrArg (payD C _) hi).trans (payV C c h hh)
theorem payASi (i : Fin 76) (k : ℕ) (hk : k < 3) (hi : i.val = 16 + k) : payD C c i.val = own c (chW accM (chA c k) (chA_lt _ _)) (C.SA c k) :=
  (congrArg (payD C _) hi).trans (payAS C c k hk)
theorem payARi (i : Fin 76) (k : ℕ) (hk : k < 3) (hi : i.val = 19 + k) : payD C c i.val = own c (slotW rsaM k hk) (C.SA (lft c) k) :=
  (congrArg (payD C _) hi).trans (payAR C c k hk)
theorem payBSi (i : Fin 76) (k : ℕ) (hk : k < 3) (hi : i.val = 22 + k) : payD C c i.val = own c (chW accM (chB c k) (chB_lt _ _)) (C.SB c k) :=
  (congrArg (payD C _) hi).trans (payBS C c k hk)
theorem payBRi (i : Fin 76) (k : ℕ) (hk : k < 3) (hi : i.val = 25 + k) : payD C c i.val = own c (slotW rsbM k hk) (C.SB (rgt c) k) :=
  (congrArg (payD C _) hi).trans (payBR C c k hk)
theorem payARi' (i : Fin 76) (k : ℕ) (hk : k < 3) (hi : i.val = 19 + k) : payD C (peer c false) i.val = own (peer c false) (slotW rsaM k hk) (C.SA c k) :=
  (congrArg (payD C _) hi).trans (payAR' C c k hk)
theorem payBRi' (i : Fin 76) (k : ℕ) (hk : k < 3) (hi : i.val = 25 + k) : payD C (peer c true) i.val = own (peer c true) (slotW rsbM k hk) (C.SB c k) :=
  (congrArg (payD C _) hi).trans (payBR' C c k hk)
theorem payGASi (i : Fin 76) (h s : ℕ) (hh : h < 3) (hs : s < 4) (hi : i.val = 28 + (4 * h + s)) : payD C c i.val = lentQ C c (chA c (h + 3)) s (chA_lt _ _) hs :=
  (congrArg (payD C _) hi).trans (payGAS C c h s hh hs)
theorem payGARi (i : Fin 76) (h s : ℕ) (hh : h < 3) (hs : s < 4) (hi : i.val = 40 + (4 * h + s)) : payD C c i.val = own c (subW gathM (chA c h) s (chA_lt _ _) hs) (quarter s hs (C.G (chA c h))) :=
  (congrArg (payD C _) hi).trans (payGAR C c h s hh hs)
theorem payGBSi (i : Fin 76) (h s : ℕ) (hh : h < 3) (hs : s < 4) (hi : i.val = 52 + (4 * h + s)) : payD C c i.val = lentQ C c (chB c (h + 3)) s (chB_lt _ _) hs :=
  (congrArg (payD C _) hi).trans (payGBS C c h s hh hs)
theorem payGBRi (i : Fin 76) (h s : ℕ) (hh : h < 3) (hs : s < 4) (hi : i.val = 64 + (4 * h + s)) : payD C c i.val = own c (subW gathM (chB c h) s (chB_lt _ _) hs) (quarter s hs (C.G (chB c h))) :=
  (congrArg (payD C _) hi).trans (payGBR C c h s hh hs)
theorem payGARi' (i : Fin 76) (h s : ℕ) (hh : h < 3) (hs : s < 4) (hi : i.val = 40 + (4 * h + s)) : payD C (peer c false) i.val = own (peer c false) (subW gathM (chA c (h + 3)) s (chA_lt _ _) hs) (quarter s hs (C.G (chA c (h + 3)))) :=
  (congrArg (payD C _) hi).trans (payGAR' C c h s hh hs)
theorem payGBRi' (i : Fin 76) (h s : ℕ) (hh : h < 3) (hs : s < 4) (hi : i.val = 64 + (4 * h + s)) : payD C (peer c true) i.val = own (peer c true) (subW gathM (chB c (h + 3)) s (chB_lt _ _) hs) (quarter s hs (C.G (chB c (h + 3)))) :=
  (congrArg (payD C _) hi).trans (payGBR' C c h s hh hs)

end Pay

theorem barPay_l (c : Dev nD) : barPay (F := F) (peer c true) false = recvA c := by show recvA (rgt (lft c)) = _; rw [rgt_lft]
theorem barPay_r (c : Dev nD) : barPay (F := F) (peer c false) true = recvB c := by show recvB (lft (rgt c)) = _; rw [lft_rgt]

/-- A store of a chunk, its payload by another name. -/
theorem st_store2 {α : Type} {Q : α → sProp 𝕄} {e : EltTy} (c : Dev nD) (M : Memref sig .tc .vmem S1024x1024 e) (j : ℕ) (hj : j < 8) {off : Fin 2 → ℕ}
    {inb : ∀ a, off a + S128x1024.size a ≤ S1024x1024.size a} (h : off = ![128 * j, 0])
    (w' : S128x1024.Idx → Elt F e) {w : S128x1024.Idx → Elt F e} (hw : w = w')
    {hx : (M.access (Rect.unit (s := S1024x1024) off S128x1024.size inb)).Stores Finset.univ}
    {hm : (Finset.univ : Finset (Rect.unit (s := S1024x1024) off S128x1024.size inb).shape.Idx) = Finset.univ ∨ ∀ a, (Rect.unit (s := S1024x1024) off S128x1024.size inb).stride a = 1}
    {k : PUnit → Prog (TpuEff nD τ sig (Elt F) Λ₀ .tc) α} {X : S128x1024.Idx → Elt F e} :
    (own c (chW M j hj) X : sProp 𝕄)
      ⊢ iprop((own c (chW M j hj) w' -∗ WP c (k ⟨⟩) Q)
        -∗ WP c (.op (.store M (Rect.unit (s := S1024x1024) off S128x1024.size inb) w Finset.univ hx hm) k) Q) := by
  subst hw; exact st_store c (rows_inb hj) h

/-- The end of a part: its value by another name. -/
theorem st_ret {α : Type} {Q : α → sProp 𝕄} (c : Dev nD) (a : α) {b : α} (h : b = a) : (Q a : sProp 𝕄) ⊢ WP c (.ret b) Q := by
  subst h; unfold WP; rw [wp_ret]; exact fupd_intro

/-! ## Resources by name -/

section Res
variable (I : Inp F) (c : Dev nD)

/-- The rows and the weight blocks, in VMEM. -/
abbrev xR : sProp 𝕄 := own c xM (I.x c)
abbrev wqR : sProp 𝕄 := own c wqM (I.wq c)
abbrev woR : sProp 𝕄 := own c woM (I.wo c)
/-- A fetched head of K, of V; its place before. -/
abbrev kR (h : ℕ) (hh : h < 8) : sProp 𝕄 := own c (colW kM h hh) (I.kC c h)
abbrev vR (h : ℕ) (hh : h < 8) : sProp 𝕄 := own c (colW vM h hh) (I.vC c h)
abbrev kE (h : ℕ) (hh : h < 8) : sProp 𝕄 := ownE c (colW kM h hh)
abbrev vE (h : ℕ) (hh : h < 8) : sProp 𝕄 := ownE c (colW vM h hh)
/-- Head `h`'s part of an HBM array on device `c`, -/
abbrev headW (M : Memref sig .tc .hbm S1x1024x32x128 .f32) (h : Fin 8) : Memref sig .tc .hbm S1024x128 .f32 :=
  (M.slice (Rect.unit (s := S1x1024x32x128) (k0_off1 c (BitVec.ofNat 32 h.val)) S1x1024x1x128.size (k0_off1_inb c h)) (fun _ => rfl)).squeeze
    S1024x128 squeezes_S1x1024x1x128_S1024x128
/-- read at some share. -/
abbrev kH (h : Fin 8) : sProp 𝕄 := iprop(∃ q, owns (c : Thread nD τ) (headW c kHbm h) q (I.kC c h.val))
abbrev vH (h : Fin 8) : sProp 𝕄 := iprop(∃ q, owns (c : Thread nD τ) (headW c vHbm h) q (I.vC c h.val))
/-- Chunk windows of the running sums. -/
abbrev aA (k : ℕ) (X : S128x1024.Idx → Elt F .bf16) : sProp 𝕄 := own c (chW accM (chA c k) (chA_lt c k)) X
abbrev aB (k : ℕ) (X : S128x1024.Idx → Elt F .bf16) : sProp 𝕄 := own c (chW accM (chB c k) (chB_lt c k)) X
abbrev aAE (k : ℕ) : sProp 𝕄 := ownE c (chW accM (chA c k) (chA_lt c k))
abbrev aBE (k : ℕ) : sProp 𝕄 := ownE c (chW accM (chB c k) (chB_lt c k))
/-- The slots: arrived here; free at the neighbour. -/
abbrev sA (k : ℕ) (hk : k < 3) : sProp 𝕄 := own c (slotW rsaM k hk) (sumA I (lft c) k)
abbrev sB (k : ℕ) (hk : k < 3) : sProp 𝕄 := own c (slotW rsbM k hk) (sumB I (rgt c) k)
abbrev sAE (k : ℕ) (hk : k < 3) : sProp 𝕄 := ownE (F := F) (peer c false) (slotW rsaM k hk)
abbrev sBE (k : ℕ) (hk : k < 3) : sProp 𝕄 := ownE (F := F) (peer c true) (slotW rsbM k hk)
/-- The device's own finished chunks. -/
abbrev gAE : sProp 𝕄 := ownE (F := F) c (chW gathM (chA c 3) (chA_lt c 3))
abbrev gBE : sProp 𝕄 := ownE (F := F) c (chW gathM (chB c 3) (chB_lt c 3))
abbrev gA (k : ℕ) : sProp 𝕄 := own c (chW gathM (chA c k) (chA_lt c k)) (gC I (chA c k))
abbrev gB (k : ℕ) : sProp 𝕄 := own c (chW gathM (chB c k) (chB_lt c k)) (gC I (chB c k))
/-- A chunk at the kept half. -/
abbrev jA (k : ℕ) : sProp 𝕄 := owns (c : Thread nD τ) (chW gathM (chA c k) (chA_lt c k)) fullShare.right (gC I (chA c k))
abbrev jB (k : ℕ) : sProp 𝕄 := owns (c : Thread nD τ) (chW gathM (chB c k) (chB_lt c k)) fullShare.right (gC I (chB c k))
/-- Quarters: lent, kept, whole, free at the neighbour. -/
abbrev lA (k s : ℕ) (hs : s < 4) : sProp 𝕄 := owns (c : Thread nD τ) (subW gathM (chA c k) s (chA_lt c k) hs) fullShare.left (quarter s hs (gC I (chA c k)))
abbrev lB (k s : ℕ) (hs : s < 4) : sProp 𝕄 := owns (c : Thread nD τ) (subW gathM (chB c k) s (chB_lt c k) hs) fullShare.left (quarter s hs (gC I (chB c k)))
abbrev hA (k s : ℕ) (hs : s < 4) : sProp 𝕄 := owns (c : Thread nD τ) (subW gathM (chA c k) s (chA_lt c k) hs) fullShare.right (quarter s hs (gC I (chA c k)))
abbrev hB (k s : ℕ) (hs : s < 4) : sProp 𝕄 := owns (c : Thread nD τ) (subW gathM (chB c k) s (chB_lt c k) hs) fullShare.right (quarter s hs (gC I (chB c k)))
abbrev fA (k s : ℕ) (hs : s < 4) : sProp 𝕄 := own c (subW gathM (chA c k) s (chA_lt c k) hs) (quarter s hs (gC I (chA c k)))
abbrev fB (k s : ℕ) (hs : s < 4) : sProp 𝕄 := own c (subW gathM (chB c k) s (chB_lt c k) hs) (quarter s hs (gC I (chB c k)))
abbrev pA (k s : ℕ) (hs : s < 4) : sProp 𝕄 := ownE (F := F) (peer c false) (subW gathM (chA c k) s (chA_lt c k) hs)
abbrev pB (k s : ℕ) (hs : s < 4) : sProp 𝕄 := ownE (F := F) (peer c true) (subW gathM (chB c k) s (chB_lt c k) hs)
/-- Chunks of the output. -/
abbrev oA (k : ℕ) : sProp 𝕄 := own c (chW outM (chA c k) (chA_lt c k)) (fin I (chA c k))
abbrev oB (k : ℕ) : sProp 𝕄 := own c (chW outM (chB c k) (chB_lt c k)) (fin I (chB c k))
abbrev oAE (k : ℕ) : sProp 𝕄 := ownE (F := F) c (chW outM (chA c k) (chA_lt c k))
abbrev oBE (k : ℕ) : sProp 𝕄 := ownE (F := F) c (chW outM (chB c k) (chB_lt c k))
/-- A cell with its own token, before anything; a neighbour's token. -/
abbrev d0 (i : Fin 76) : sProp 𝕄 := iprop(at0 (F := F) c i ∗ tk (F := F) c i)

theorem payLA (i : Fin 76) (h s k : ℕ) (hh : h < 3) (hs : s < 4) (hk : k = h + 3) (hi : i.val = 28 + (4 * h + s)) : payD (cont I) c i.val = lA I c k s hs := by
  subst hk; exact payGASi (cont I) c i h s hh hs hi
theorem payPA (i : Fin 76) (h s k : ℕ) (hh : h < 3) (hs : s < 4) (hk : k = h + 3) (hi : i.val = 40 + (4 * h + s)) :
    payD (cont I) (peer c false) i.val = own (peer c false) (subW gathM (chA c k) s (chA_lt c k) hs) (quarter s hs (gC I (chA c k))) := by
  subst hk; exact payGARi' (cont I) c i h s hh hs hi
theorem payLB (i : Fin 76) (h s k : ℕ) (hh : h < 3) (hs : s < 4) (hk : k = h + 3) (hi : i.val = 52 + (4 * h + s)) : payD (cont I) c i.val = lB I c k s hs := by
  subst hk; exact payGBSi (cont I) c i h s hh hs hi
theorem payPB (i : Fin 76) (h s k : ℕ) (hh : h < 3) (hs : s < 4) (hk : k = h + 3) (hi : i.val = 64 + (4 * h + s)) :
    payD (cont I) (peer c true) i.val = own (peer c true) (subW gathM (chB c k) s (chB_lt c k) hs) (quarter s hs (gC I (chB c k))) := by
  subst hk; exact payGBRi' (cont I) c i h s hh hs hi

end Res

end Cert.Ring
-- ==== Proof.Windows.lean ====
/-
# Buffers as their windows

A 1024 × 1024 buffer is its eight chunks, in the order the ring meets them, or its eight heads; a landing buffer its three
slots; a chunk its four quarters; a share its two halves.
-/
module

public import proofs.«01_k».proof.Proof.Steps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The families of rectangles -/

abbrev rowsF (t : Fin 8) : Rect S1024x1024 := rowsR t.val t.isLt
abbrev colsF (t : Fin 8) : Rect S1024x1024 := colsR t.val t.isLt
abbrev slotF (t : Fin 3) : Rect S3x128x1024 := slotR t.val t.isLt
abbrev quarterF (t : Fin 4) : Rect S128x1024 := quarterR t.val t.isLt

theorem mem_rows (t : Fin 8) (i : S1024x1024.Idx) : i ∈ (rowsF t).set ↔ 128 * t.val ≤ (i 0).val ∧ (i 0).val < 128 * t.val + 128 := by
  rw [Rect.mem_set_unit]
  constructor
  · intro h; exact h 0
  · intro h a; fin_cases a
    · exact h
    · exact ⟨Nat.zero_le _, by have := (i 1).isLt; simpa using this⟩

theorem mem_cols (t : Fin 8) (i : S1024x1024.Idx) : i ∈ (colsF t).set ↔ 128 * t.val ≤ (i 1).val ∧ (i 1).val < 128 * t.val + 128 := by
  rw [Rect.mem_set_unit]
  constructor
  · intro h; exact h 1
  · intro h a; fin_cases a
    · exact ⟨Nat.zero_le _, by have := (i 0).isLt; simpa using this⟩
    · exact h

theorem mem_slot (t : Fin 3) (i : S3x128x1024.Idx) : i ∈ (slotF t).set ↔ (i 0).val = t.val := by
  rw [Rect.mem_set_unit]
  constructor
  · intro h; have := h 0; exact Nat.le_antisymm (Nat.lt_succ_iff.mp this.2) this.1
  · intro h a; fin_cases a
    · exact ⟨h.ge, by show (i 0).val < t.val + 1; omega⟩
    · exact ⟨Nat.zero_le _, by have := (i 1).isLt; simpa using this⟩
    · exact ⟨Nat.zero_le _, by have := (i 2).isLt; simpa using this⟩

theorem mem_quarter (t : Fin 4) (i : S128x1024.Idx) : i ∈ (quarterF t).set ↔ 32 * t.val ≤ (i 0).val ∧ (i 0).val < 32 * t.val + 32 := by
  rw [Rect.mem_set_unit]
  constructor
  · intro h; exact h 0
  · intro h a; fin_cases a
    · exact h
    · exact ⟨Nat.zero_le _, by have := (i 1).isLt; simpa using this⟩

theorem rows_disj (t t' : Fin 8) (h : t ≠ t') : Disjoint (rowsF t).set (rowsF t').set := by
  rw [Finset.disjoint_left]; intro i hi hi'; rw [mem_rows] at hi hi'
  exact h (Fin.ext (by omega))
theorem cols_disj (t t' : Fin 8) (h : t ≠ t') : Disjoint (colsF t).set (colsF t').set := by
  rw [Finset.disjoint_left]; intro i hi hi'; rw [mem_cols] at hi hi'
  exact h (Fin.ext (by omega))
theorem slot_disj (t t' : Fin 3) (h : t ≠ t') : Disjoint (slotF t).set (slotF t').set := by
  rw [Finset.disjoint_left]; intro i hi hi'; rw [mem_slot] at hi hi'
  exact h (Fin.ext (by omega))
theorem quarter_disj (t t' : Fin 4) (h : t ≠ t') : Disjoint (quarterF t).set (quarterF t').set := by
  rw [Finset.disjoint_left]; intro i hi hi'; rw [mem_quarter] at hi hi'
  exact h (Fin.ext (by omega))

theorem rows_cov : (Finset.univ : Finset (Fin 8)).biUnion (fun t => (rowsF t).set) = Finset.univ :=
  Finset.eq_univ_iff_forall.mpr fun i => Finset.mem_biUnion.mpr
    ⟨⟨(i 0).val / 128, by have : (i 0).val < 1024 := (i 0).isLt; omega⟩, Finset.mem_univ _, by rw [mem_rows]; dsimp only; omega⟩
theorem cols_cov : (Finset.univ : Finset (Fin 8)).biUnion (fun t => (colsF t).set) = Finset.univ :=
  Finset.eq_univ_iff_forall.mpr fun i => Finset.mem_biUnion.mpr
    ⟨⟨(i 1).val / 128, by have : (i 1).val < 1024 := (i 1).isLt; omega⟩, Finset.mem_univ _, by rw [mem_cols]; dsimp only; omega⟩
theorem slot_cov : (Finset.univ : Finset (Fin 3)).biUnion (fun t => (slotF t).set) = Finset.univ :=
  Finset.eq_univ_iff_forall.mpr fun i => Finset.mem_biUnion.mpr ⟨⟨(i 0).val, (i 0).isLt⟩, Finset.mem_univ _, by rw [mem_slot]⟩
theorem quarter_cov : (Finset.univ : Finset (Fin 4)).biUnion (fun t => (quarterF t).set) = Finset.univ :=
  Finset.eq_univ_iff_forall.mpr fun i => Finset.mem_biUnion.mpr
    ⟨⟨(i 0).val / 32, by have : (i 0).val < 128 := (i 0).isLt; omega⟩, Finset.mem_univ _, by rw [mem_quarter]; dsimp only; omega⟩

/-! ## The orders in which the parts are listed -/

abbrev fA8 (c : Dev nD) (k : ℕ) : Fin 8 := ⟨chA c k, chA_lt c k⟩
abbrev fB8 (c : Dev nD) (k : ℕ) : Fin 8 := ⟨chB c k, chB_lt c k⟩

theorem sep8 {M : Type} [URA M] (c : Dev nD) (Φ : Fin 8 → sProp M) :
    bigSep Finset.univ Φ = iprop(Φ (fA8 c 0) ∗ Φ (fA8 c 1) ∗ Φ (fA8 c 2) ∗ Φ (fA8 c 3) ∗ Φ (fB8 c 0) ∗ Φ (fB8 c 1) ∗ Φ (fB8 c 2) ∗ Φ (fB8 c 3)) :=
  bigSep_univ_eq_bigSepL [fA8 c 0, fA8 c 1, fA8 c 2, fA8 c 3, fB8 c 0, fB8 c 1, fB8 c 2, fB8 c 3]
    (by revert c; decide) (by revert c; decide) Φ
theorem sep8n {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem sep3n {M : Type} [URA M] (Φ : Fin 3 → sProp M) : bigSep Finset.univ Φ = iprop(Φ 0 ∗ Φ 1 ∗ Φ 2) :=
  bigSep_univ_eq_bigSepL [0, 1, 2] (by decide) (by decide) Φ
theorem sep4n {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-! ## A window of a window -/

section Sub
variable (c : Dev nD) {e : EltTy} (M : Memref sig .tc .vmem S1024x1024 e) (q : PosShare TreeShare)

theorem sub_emb (j s : ℕ) (h : j < 8) (hs : s < 4) (i : S32x1024.Idx) : (rowsR j h).emb ((quarterR s hs).emb i) = (subR j s h hs).emb i := by
  funext a; apply Fin.ext
  fin_cases a
  · show 128 * j + 1 * (32 * s + 1 * (i 0).val) = 128 * j + 32 * s + 1 * (i 0).val; omega
  · show 0 + 1 * (0 + 1 * (i 1).val) = 0 + 1 * (i 1).val; omega

theorem owns_sub (j s : ℕ) (h : j < 8) (hs : s < 4) (X : S32x1024.Idx → Elt F e) :
    (owns (c : Thread nD τ) ((chW M j h).slice (quarterR s hs) (fun _ => rfl)) q X : sProp 𝕄) = owns (c : Thread nD τ) (subW M j s h hs) q X := by
  have he : ((M.view.slice (rowsR j h)).slice (quarterR s hs)).emb = (M.view.slice (subR j s h hs)).emb := by
    ext i : 1
    show M.view.emb ((rowsR j h).emb ((quarterR s hs).emb i)) = M.view.emb ((subR j s h hs).emb i)
    rw [sub_emb]
  have hset : ((chW M j h).slice (quarterR s hs) (fun _ => rfl)).view.set = (subW M j s h hs).view.set := by
    show Finset.univ.map ((M.view.slice (rowsR j h)).slice (quarterR s hs)).emb = Finset.univ.map (M.view.slice (subR j s h hs)).emb
    rw [he]
  have hread : ∀ f, ((chW M j h).slice (quarterR s hs) (fun _ => rfl)).view.read (Elt F) f = (subW M j s h hs).view.read (Elt F) f := by
    intro f; funext i
    show M.view.read (Elt F) f ((rowsR j h).emb ((quarterR s hs).emb i)) = M.view.read (Elt F) f ((subR j s h hs).emb i)
    rw [sub_emb]
  show iprop(∃ f, ⌜((chW M j h).slice (quarterR s hs) (fun _ => rfl)).view.read (Elt F) f = X⌝
      ∗ ((subW M j s h hs).view.loc (c : Thread nD τ) ↦[((chW M j h).slice (quarterR s hs) (fun _ => rfl)).view.set]{q} f))
    = iprop(∃ f, ⌜(subW M j s h hs).view.read (Elt F) f = X⌝ ∗ ((subW M j s h hs).view.loc (c : Thread nD τ) ↦[(subW M j s h hs).view.set]{q} f))
  rw [hset]
  simp only [hread]

/-- A chunk as its quarters. -/
theorem quarters_eq (j : ℕ) (h : j < 8) (X : S128x1024.Idx → Elt F e) :
    (owns (c : Thread nD τ) (chW M j h) q X : sProp 𝕄) ⊢
      iprop(owns (c : Thread nD τ) (subW M j 0 h (by decide)) q (quarter 0 (by decide) X) ∗ owns (c : Thread nD τ) (subW M j 1 h (by decide)) q (quarter 1 (by decide) X)
        ∗ owns (c : Thread nD τ) (subW M j 2 h (by decide)) q (quarter 2 (by decide) X) ∗ owns (c : Thread nD τ) (subW M j 3 h (by decide)) q (quarter 3 (by decide) X)) := by
  refine (owns_rects (c : Thread nD τ) (chW M j h) q quarterF (fun _ _ => rfl) quarter_disj quarter_cov X).trans ?_
  rw [sep4n]
  rw [← owns_sub c M q j 0 h (by decide), ← owns_sub c M q j 1 h (by decide), ← owns_sub c M q j 2 h (by decide), ← owns_sub c M q j 3 h (by decide)]
  exact .rfl

theorem quarters_join (j : ℕ) (h : j < 8) (X : S128x1024.Idx → Elt F e) :
    iprop(owns (c : Thread nD τ) (subW M j 0 h (by decide)) q (quarter 0 (by decide) X) ∗ owns (c : Thread nD τ) (subW M j 1 h (by decide)) q (quarter 1 (by decide) X)
        ∗ owns (c : Thread nD τ) (subW M j 2 h (by decide)) q (quarter 2 (by decide) X) ∗ owns (c : Thread nD τ) (subW M j 3 h (by decide)) q (quarter 3 (by decide) X))
      ⊢ (owns (c : Thread nD τ) (chW M j h) q X : sProp 𝕄) := by
  refine BIBase.Entails.trans ?_ (owns_of_rects (c : Thread nD τ) (chW M j h) q quarterF (fun _ _ => rfl) quarter_disj quarter_cov X)
  rw [sep4n]
  rw [← owns_sub c M q j 0 h (by decide), ← owns_sub c M q j 1 h (by decide), ← owns_sub c M q j 2 h (by decide), ← owns_sub c M q j 3 h (by decide)]
  exact .rfl

theorem quarters_E (j : ℕ) (h : j < 8) :
    (ownE c (chW M j h) : sProp 𝕄) ⊢ iprop(ownE c (subW M j 0 h (by decide)) ∗ ownE c (subW M j 1 h (by decide))
        ∗ ownE c (subW M j 2 h (by decide)) ∗ ownE c (subW M j 3 h (by decide))) := by
  iintro ⟨%X, H⟩
  ihave H := (quarters_eq c M fullShare j h X) $$ H
  icases H with ⟨H0, H1, H2, H3⟩
  isplitl [H0]; · iexists _; iexact H0
  isplitl [H1]; · iexists _; iexact H1
  isplitl [H2]; · iexists _; iexact H2
  iexists _; iexact H3

/-! ## Whole buffers -/

/-- Rows of a buffer's contents. -/
abbrev rowsOf (j : ℕ) (h : j < 8) (X : S1024x1024.Idx → Elt F e) : S128x1024.Idx → Elt F e := fun i => X ((rowsR j h).emb i)

theorem chunks_split :
    (ownE c M : sProp 𝕄) ⊢ iprop(ownE c (chW M (chA c 0) (chA_lt c 0)) ∗ ownE c (chW M (chA c 1) (chA_lt c 1)) ∗ ownE c (chW M (chA c 2) (chA_lt c 2))
      ∗ ownE c (chW M (chA c 3) (chA_lt c 3)) ∗ ownE c (chW M (chB c 0) (chB_lt c 0)) ∗ ownE c (chW M (chB c 1) (chB_lt c 1))
      ∗ ownE c (chW M (chB c 2) (chB_lt c 2)) ∗ ownE c (chW M (chB c 3) (chB_lt c 3))) := by
  iintro ⟨%X, H⟩
  ihave H := ((owns_rects (c : Thread nD τ) M fullShare rowsF (fun _ _ => rfl) rows_disj rows_cov X).trans (Entails.of_eq (sep8 c _))) $$ H
  icases H with ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

theorem chunks_join (X : ∀ j : ℕ, S128x1024.Idx → Elt F e) :
    iprop(own c (chW M (chA c 0) (chA_lt c 0)) (X (chA c 0)) ∗ own c (chW M (chA c 1) (chA_lt c 1)) (X (chA c 1)) ∗ own c (chW M (chA c 2) (chA_lt c 2)) (X (chA c 2))
      ∗ own c (chW M (chA c 3) (chA_lt c 3)) (X (chA c 3)) ∗ own c (chW M (chB c 0) (chB_lt c 0)) (X (chB c 0)) ∗ own c (chW M (chB c 1) (chB_lt c 1)) (X (chB c 1))
      ∗ own c (chW M (chB c 2) (chB_lt c 2)) (X (chB c 2)) ∗ own c (chW M (chB c 3) (chB_lt c 3)) (X (chB c 3)))
      ⊢ (own c M (Rect.glue rowsF rows_cov fun t => X t.val) : sProp 𝕄) := by
  refine BIBase.Entails.trans ?_ (owns_of_rects (c : Thread nD τ) M fullShare rowsF (fun _ _ => rfl) rows_disj rows_cov _)
  rw [sep8 c]
  have hg (t : Fin 8) : (fun i => Rect.glue rowsF rows_cov (fun t : Fin 8 => X t.val) ((rowsF t).emb i)) = X t.val :=
    funext fun y => Rect.glue_emb rowsF rows_cov rows_disj _ t y
  simp only [hg]
  exact .rfl

theorem chunks_joinE :
    iprop(ownE c (chW M (chA c 0) (chA_lt c 0)) ∗ ownE c (chW M (chA c 1) (chA_lt c 1)) ∗ ownE c (chW M (chA c 2) (chA_lt c 2))
      ∗ ownE c (chW M (chA c 3) (chA_lt c 3)) ∗ ownE c (chW M (chB c 0) (chB_lt c 0)) ∗ ownE c (chW M (chB c 1) (chB_lt c 1))
      ∗ ownE c (chW M (chB c 2) (chB_lt c 2)) ∗ ownE c (chW M (chB c 3) (chB_lt c 3))) ⊢ (ownE c M : sProp 𝕄) := by
  refine BIBase.Entails.trans ?_ ((ownsSat_of_rects (c : Thread nD τ) M fullShare rowsF (fun _ _ => rfl) rows_disj rows_cov (fun _ _ => True)).trans (ownsSat_any _ _ _))
  rw [sep8 c]
  iintro ⟨H0, H1, H2, H3, H4, H5, H6, H7⟩
  isplitl [H0]; · iapply (ownsSat_true _ _ _).2; iexact H0
  isplitl [H1]; · iapply (ownsSat_true _ _ _).2; iexact H1
  isplitl [H2]; · iapply (ownsSat_true _ _ _).2; iexact H2
  isplitl [H3]; · iapply (ownsSat_true _ _ _).2; iexact H3
  isplitl [H4]; · iapply (ownsSat_true _ _ _).2; iexact H4
  isplitl [H5]; · iapply (ownsSat_true _ _ _).2; iexact H5
  isplitl [H6]; · iapply (ownsSat_true _ _ _).2; iexact H6
  iapply (ownsSat_true _ _ _).2; iexact H7

theorem heads_split (M : Memref sig .tc .vmem S1024x1024 .f32) :
    (ownE c M : sProp 𝕄) ⊢ iprop(ownE c (colW M 0 (by decide)) ∗ ownE c (colW M 1 (by decide)) ∗ ownE c (colW M 2 (by decide)) ∗ ownE c (colW M 3 (by decide))
      ∗ ownE c (colW M 4 (by decide)) ∗ ownE c (colW M 5 (by decide)) ∗ ownE c (colW M 6 (by decide)) ∗ ownE c (colW M 7 (by decide))) := by
  iintro ⟨%X, H⟩
  ihave H := ((owns_rects (c : Thread nD τ) M fullShare colsF (fun _ _ => rfl) cols_disj cols_cov X).trans (Entails.of_eq (sep8n _))) $$ H
  icases H with ⟨H0, H1, H2, H3, H4, H5, H6, H7⟩
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

theorem heads_join (M : Memref sig .tc .vmem S1024x1024 .f32) :
    iprop(ownE c (colW M 0 (by decide)) ∗ ownE c (colW M 1 (by decide)) ∗ ownE c (colW M 2 (by decide)) ∗ ownE c (colW M 3 (by decide))
      ∗ ownE c (colW M 4 (by decide)) ∗ ownE c (colW M 5 (by decide)) ∗ ownE c (colW M 6 (by decide)) ∗ ownE c (colW M 7 (by decide)))
      ⊢ (ownE c M : sProp 𝕄) := by
  refine BIBase.Entails.trans ?_ ((ownsSat_of_rects (c : Thread nD τ) M fullShare colsF (fun _ _ => rfl) cols_disj cols_cov (fun _ _ => True)).trans (ownsSat_any _ _ _))
  rw [sep8n]
  iintro ⟨H0, H1, H2, H3, H4, H5, H6, H7⟩
  isplitl [H0]; · iapply (ownsSat_true _ _ _).2; iexact H0
  isplitl [H1]; · iapply (ownsSat_true _ _ _).2; iexact H1
  isplitl [H2]; · iapply (ownsSat_true _ _ _).2; iexact H2
  isplitl [H3]; · iapply (ownsSat_true _ _ _).2; iexact H3
  isplitl [H4]; · iapply (ownsSat_true _ _ _).2; iexact H4
  isplitl [H5]; · iapply (ownsSat_true _ _ _).2; iexact H5
  isplitl [H6]; · iapply (ownsSat_true _ _ _).2; iexact H6
  iapply (ownsSat_true _ _ _).2; iexact H7

/-- A slot seen at either rank. -/
theorem slot_squeeze (M : Memref sig .tc .vmem S3x128x1024 .bf16) (k : ℕ) (hk : k < 3) :
    (ownE c (slot1W M k hk) : sProp 𝕄) ⊢ ownE c (slotW M k hk) := by
  unfold ownE owns
  iintro ⟨%X, %f, -, H⟩
  iexists _; iexists f; isplitr
  · ipureintro; exact rfl
  have e : (slotW M k hk).view.set = (slot1W M k hk).view.set := View.set_reshape (v := (slot1W M k hk).view) _
  rw [e]; iexact H
theorem slot_unsqueeze (M : Memref sig .tc .vmem S3x128x1024 .bf16) (k : ℕ) (hk : k < 3) :
    (ownE c (slotW M k hk) : sProp 𝕄) ⊢ ownE c (slot1W M k hk) := by
  unfold ownE owns
  iintro ⟨%X, %f, -, H⟩
  iexists _; iexists f; isplitr
  · ipureintro; exact rfl
  have e : (slotW M k hk).view.set = (slot1W M k hk).view.set := View.set_reshape (v := (slot1W M k hk).view) _
  rw [← e]; iexact H

theorem slots_split (M : Memref sig .tc .vmem S3x128x1024 .bf16) :
    (ownE c M : sProp 𝕄) ⊢ iprop(ownE c (slotW M 0 (by decide)) ∗ ownE c (slotW M 1 (by decide)) ∗ ownE c (slotW M 2 (by decide))) := by
  iintro ⟨%X, H⟩
  ihave H := ((owns_rects (c : Thread nD τ) M fullShare slotF (fun _ _ => rfl) slot_disj slot_cov X).trans (Entails.of_eq (sep3n _))) $$ H
  icases H with ⟨H0, H1, H2⟩
  isplitl [H0]; · iapply (slot_squeeze c M 0 _); iexists _; iexact H0
  isplitl [H1]; · iapply (slot_squeeze c M 1); iexists _; iexact H1
  iapply (slot_squeeze c M 2); iexists _; iexact H2

theorem slots_join (M : Memref sig .tc .vmem S3x128x1024 .bf16) :
    iprop(ownE c (slotW M 0 (by decide)) ∗ ownE c (slotW M 1 (by decide)) ∗ ownE c (slotW M 2 (by decide))) ⊢ (ownE c M : sProp 𝕄) := by
  refine BIBase.Entails.trans ?_ ((ownsSat_of_rects (c : Thread nD τ) M fullShare slotF (fun _ _ => rfl) slot_disj slot_cov (fun _ _ => True)).trans (ownsSat_any _ _ _))
  rw [sep3n]
  iintro ⟨H0, H1, H2⟩
  isplitl [H0]; · iapply (ownsSat_true _ _ _).2; iapply (slot_unsqueeze c M 0); iexact H0
  isplitl [H1]; · iapply (ownsSat_true _ _ _).2; iapply (slot_unsqueeze c M 1); iexact H1
  iapply (ownsSat_true _ _ _).2; iapply (slot_unsqueeze c M 2); iexact H2

end Sub

/-! ## Around the ring -/

theorem chA_4 (c : Dev nD) (k : ℕ) (h : k < 4) : chA c (k + 4) = chA c k := by
  revert c; interval_cases k <;> decide
theorem chB_4 (c : Dev nD) (k : ℕ) (h : k < 4) : chB c (k + 4) = chB c k := by
  revert c; interval_cases k <;> decide

theorem lent_congr (I : Inp F) (c : Dev nD) {j j' : ℕ} (e : j = j') (h : j < 8) (h' : j' < 8) (s : ℕ) (hs : s < 4) (q : PosShare TreeShare) :
    (owns (c : Thread nD τ) (subW gathM j s h hs) q (quarter s hs (gC I j)) : sProp 𝕄)
      = owns (c : Thread nD τ) (subW gathM j' s h' hs) q (quarter s hs (gC I j')) := by subst e; rfl
theorem chE_congr (n : Dev nD) {j j' : ℕ} (e : j = j') (h : j < 8) (h' : j' < 8) :
    (ownE n (chW gathM j h) : sProp 𝕄) = ownE n (chW gathM j' h') := by subst e; rfl

section Quarters
variable (I : Inp F) (c : Dev nD)

theorem lA_4 (k s : ℕ) (hs : s < 4) (hk : k < 4) : lA I c (k + 4) s hs = lA I c k s hs := by
  exact lent_congr I c (chA_4 c k hk) _ _ s hs fullShare.left

/-- A quarter received in full is one half to lend on and one to keep. -/
theorem split_fA (k s : ℕ) (hs : s < 4) (hk : k < 4) : fA I c k s hs ⊢ iprop(lA I c (k + 4) s hs ∗ hA I c k s hs) := by
  rw [lA_4 I c k s hs hk]
  exact (owns_halves (c : Thread nD τ) _ fullShare _).1

/-- A finished chunk as the quarters to lend and those to keep. -/
theorem split_gA (k : ℕ) : gA I c k ⊢ iprop((lA I c k 0 (by decide) ∗ lA I c k 1 (by decide) ∗ lA I c k 2 (by decide) ∗ lA I c k 3 (by decide)) ∗ jA I c k) := by
  iintro H
  ihave H := (owns_halves (c : Thread nD τ) _ fullShare _).1 $$ H
  icases H with ⟨Hl, Hr⟩
  isplitl [Hl]; · iapply (quarters_eq c gathM fullShare.left (chA c k) (chA_lt c k) (gC I (chA c k))); iexact Hl
  iexact Hr

theorem join_hA (k : ℕ) : iprop(hA I c k 0 (by decide) ∗ hA I c k 1 (by decide) ∗ hA I c k 2 (by decide) ∗ hA I c k 3 (by decide)) ⊢ jA I c k :=
  quarters_join c gathM fullShare.right (chA c k) (chA_lt c k) (gC I (chA c k))

theorem join_fA (k : ℕ) : iprop(fA I c k 0 (by decide) ∗ fA I c k 1 (by decide) ∗ fA I c k 2 (by decide) ∗ fA I c k 3 (by decide)) ⊢ gA I c k :=
  quarters_join c gathM fullShare (chA c k) (chA_lt c k) (gC I (chA c k))

/-- The lent quarters back, and the kept half of the chunk. -/
theorem join_gA (k : ℕ) : iprop((lA I c k 0 (by decide) ∗ lA I c k 1 (by decide) ∗ lA I c k 2 (by decide) ∗ lA I c k 3 (by decide)) ∗ jA I c k) ⊢ gA I c k := by
  iintro ⟨Hl, Hr⟩
  iapply (owns_halves (c : Thread nD τ) _ fullShare _).2
  isplitl [Hl]; · iapply (quarters_join c gathM fullShare.left (chA c k) (chA_lt c k) (gC I (chA c k))); iexact Hl
  iexact Hr

/-- The same, the quarters counted one round further on. -/
theorem join_gA4 (k : ℕ) (hk : k < 4) : iprop((lA I c (k + 4) 0 (by decide) ∗ lA I c (k + 4) 1 (by decide) ∗ lA I c (k + 4) 2 (by decide) ∗ lA I c (k + 4) 3 (by decide)) ∗ jA I c k) ⊢ gA I c k := by
  rw [lA_4 I c k 0 _ hk, lA_4 I c k 1 _ hk, lA_4 I c k 2 _ hk, lA_4 I c k 3 _ hk]
  exact join_gA I c k

theorem lB_4 (k s : ℕ) (hs : s < 4) (hk : k < 4) : lB I c (k + 4) s hs = lB I c k s hs := by
  exact lent_congr I c (chB_4 c k hk) _ _ s hs fullShare.left

/-- A quarter received in full is one half to lend on and one to keep. -/
theorem split_fB (k s : ℕ) (hs : s < 4) (hk : k < 4) : fB I c k s hs ⊢ iprop(lB I c (k + 4) s hs ∗ hB I c k s hs) := by
  rw [lB_4 I c k s hs hk]
  exact (owns_halves (c : Thread nD τ) _ fullShare _).1

/-- A finished chunk as the quarters to lend and those to keep. -/
theorem split_gB (k : ℕ) : gB I c k ⊢ iprop((lB I c k 0 (by decide) ∗ lB I c k 1 (by decide) ∗ lB I c k 2 (by decide) ∗ lB I c k 3 (by decide)) ∗ jB I c k) := by
  iintro H
  ihave H := (owns_halves (c : Thread nD τ) _ fullShare _).1 $$ H
  icases H with ⟨Hl, Hr⟩
  isplitl [Hl]; · iapply (quarters_eq c gathM fullShare.left (chB c k) (chB_lt c k) (gC I (chB c k))); iexact Hl
  iexact Hr

theorem join_hB (k : ℕ) : iprop(hB I c k 0 (by decide) ∗ hB I c k 1 (by decide) ∗ hB I c k 2 (by decide) ∗ hB I c k 3 (by decide)) ⊢ jB I c k :=
  quarters_join c gathM fullShare.right (chB c k) (chB_lt c k) (gC I (chB c k))

theorem join_fB (k : ℕ) : iprop(fB I c k 0 (by decide) ∗ fB I c k 1 (by decide) ∗ fB I c k 2 (by decide) ∗ fB I c k 3 (by decide)) ⊢ gB I c k :=
  quarters_join c gathM fullShare (chB c k) (chB_lt c k) (gC I (chB c k))

/-- The lent quarters back, and the kept half of the chunk. -/
theorem join_gB (k : ℕ) : iprop((lB I c k 0 (by decide) ∗ lB I c k 1 (by decide) ∗ lB I c k 2 (by decide) ∗ lB I c k 3 (by decide)) ∗ jB I c k) ⊢ gB I c k := by
  iintro ⟨Hl, Hr⟩
  iapply (owns_halves (c : Thread nD τ) _ fullShare _).2
  isplitl [Hl]; · iapply (quarters_join c gathM fullShare.left (chB c k) (chB_lt c k) (gC I (chB c k))); iexact Hl
  iexact Hr

/-- The same, the quarters counted one round further on. -/
theorem join_gB4 (k : ℕ) (hk : k < 4) : iprop((lB I c (k + 4) 0 (by decide) ∗ lB I c (k + 4) 1 (by decide) ∗ lB I c (k + 4) 2 (by decide) ∗ lB I c (k + 4) 3 (by decide)) ∗ jB I c k) ⊢ gB I c k := by
  rw [lB_4 I c k 0 _ hk, lB_4 I c k 1 _ hk, lB_4 I c k 2 _ hk, lB_4 I c k 3 _ hk]
  exact join_gB I c k

/-- The slots and chunks of the device after, in the sender's terms. -/
theorem unpackA : (recvA (rgt c) : sProp 𝕄) ⊢ iprop((sAE c 0 (by decide) ∗ sAE c 1 (by decide) ∗ sAE c 2 (by decide))
    ∗ (pA c 3 0 (by decide) ∗ pA c 3 1 (by decide) ∗ pA c 3 2 (by decide) ∗ pA c 3 3 (by decide))
    ∗ (pA c 4 0 (by decide) ∗ pA c 4 1 (by decide) ∗ pA c 4 2 (by decide) ∗ pA c 4 3 (by decide))
    ∗ (pA c 5 0 (by decide) ∗ pA c 5 1 (by decide) ∗ pA c 5 2 (by decide) ∗ pA c 5 3 (by decide))) := by
  unfold recvA
  rw [chE_congr (j := chA (rgt c) 0) (j' := chA c 3) (rgt c) (chA_rgt c 0) (chA_lt _ _) (chA_lt _ _), chE_congr (j := chA (rgt c) 1) (j' := chA c 4) (rgt c) (chA_rgt c 1) (chA_lt _ _) (chA_lt _ _),
    chE_congr (j := chA (rgt c) 2) (j' := chA c 5) (rgt c) (chA_rgt c 2) (chA_lt _ _) (chA_lt _ _)]
  iintro ⟨Hs, H0, H1, H2⟩
  isplitl [Hs]; · iexact Hs
  isplitl [H0]; · iapply (quarters_E (rgt c) gathM (chA c 3) (chA_lt c 3)); iexact H0
  isplitl [H1]; · iapply (quarters_E (rgt c) gathM (chA c 4) (chA_lt c 4)); iexact H1
  iapply (quarters_E (rgt c) gathM (chA c 5) (chA_lt c 5)); iexact H2

theorem unpackB : (recvB (lft c) : sProp 𝕄) ⊢ iprop((sBE c 0 (by decide) ∗ sBE c 1 (by decide) ∗ sBE c 2 (by decide))
    ∗ (pB c 3 0 (by decide) ∗ pB c 3 1 (by decide) ∗ pB c 3 2 (by decide) ∗ pB c 3 3 (by decide))
    ∗ (pB c 4 0 (by decide) ∗ pB c 4 1 (by decide) ∗ pB c 4 2 (by decide) ∗ pB c 4 3 (by decide))
    ∗ (pB c 5 0 (by decide) ∗ pB c 5 1 (by decide) ∗ pB c 5 2 (by decide) ∗ pB c 5 3 (by decide))) := by
  unfold recvB
  rw [chE_congr (j := chB (lft c) 0) (j' := chB c 3) (lft c) (chB_lft c 0) (chB_lt _ _) (chB_lt _ _), chE_congr (j := chB (lft c) 1) (j' := chB c 4) (lft c) (chB_lft c 1) (chB_lt _ _) (chB_lt _ _),
    chE_congr (j := chB (lft c) 2) (j' := chB c 5) (lft c) (chB_lft c 2) (chB_lt _ _) (chB_lt _ _)]
  iintro ⟨Hs, H0, H1, H2⟩
  isplitl [Hs]; · iexact Hs
  isplitl [H0]; · iapply (quarters_E (lft c) gathM (chB c 3) (chB_lt c 3)); iexact H0
  isplitl [H1]; · iapply (quarters_E (lft c) gathM (chB c 4) (chB_lt c 4)); iexact H1
  iapply (quarters_E (lft c) gathM (chB c 5) (chB_lt c 5)); iexact H2

end Quarters

end Cert.Ring
-- ==== Proof.Parts0.lean ====
module

public import proofs.«01_k».proof.Proof.Windows

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 77 → ℕ) (c : Dev nD)

abbrev p1 := k0_part1 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part1 {Q : _ → sProp 𝕄} :
    ctx (cont I) K ⊢ iprop((d0 c 0 ∗ kE c 0 (by decide) ∗ kH I c 0 ∗ d0 c 8 ∗ vE c 0 (by decide) ∗ vH I c 0)
      -∗ ((wt c 0 ∗ wt c 8)
      -∗ Q ⟨c, w_2 I c, w_5 I c, w_7 I c⟩) -∗ WP c (p1) Q) := by
  unfold p1; rw [k0_part1_eq_skeleton]; unfold k0_part1_skel
  simp only [semSignalWord, semWaitWord, Prog.lift, Prog.bind_op, Prog.bind_ret, Prog.pure_eq_ret, wp_deviceId]
  iintro #Hc ⟨Hd0, Hk0, HkH0, Hd8, Hv0, HvH0⟩ Hk
  icases Hd0 with ⟨Hat, Htk⟩
  icases HkH0 with ⟨%q0, HkH0⟩
  iapply (st_copy (cont I) K c 0 rfl (crK 0 (by decide)) (payKi (cont I) c 0 0 (by decide) rfl)) $$ Hc [Hat Htk Hk0 HkH0]
  · isplitl [Hat]; · iexact Hat
    isplitl [Htk]; · iexact Htk
    isplitl [Hk0]; · iexact Hk0
    iexact HkH0
  iintro Hd0
  icases Hd8 with ⟨Hat, Htk⟩
  icases HvH0 with ⟨%q8, HvH0⟩
  iapply (st_copy (cont I) K c 8 rfl (crV 8 (by decide)) (payVi (cont I) c 8 0 (by decide) rfl)) $$ Hc [Hat Htk Hv0 HvH0]
  · isplitl [Hat]; · iexact Hat
    isplitl [Htk]; · iexact Htk
    isplitl [Hv0]; · iexact Hv0
    iexact HvH0
  iintro Hd8
  iapply (st_ret (Q := Q) c ⟨c, w_2 I c, w_5 I c, w_7 I c⟩ rfl)
  iapply Hk
  isplitl [Hd0]; · iexact Hd0
  iexact Hd8

abbrev p2 := k0_part2 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part2 {Q : _ → sProp 𝕄} :
    ctx (cont I) K ⊢ iprop((d0 c 1 ∗ kE c 1 (by decide) ∗ kH I c 1 ∗ d0 c 9 ∗ vE c 1 (by decide) ∗ vH I c 1 ∗ d0 c 2 ∗ kE c 2 (by decide) ∗ kH I c 2 ∗ d0 c 10 ∗ vE c 2 (by decide) ∗ vH I c 2)
      -∗ ((wt c 1 ∗ wt c 9 ∗ wt c 2 ∗ wt c 10)
      -∗ Q (w_50 I c)) -∗ WP c (p2 c (w_2 I c)) Q) := by
  unfold p2; rw [k0_part2_eq_skeleton]; unfold k0_part2_skel
  simp only [semSignalWord, semWaitWord, Prog.lift, Prog.bind_op, Prog.bind_ret, Prog.pure_eq_ret, wp_deviceId]
  iintro #Hc ⟨Hd1, Hk1, HkH1, Hd9, Hv1, HvH1, Hd2, Hk2, HkH2, Hd10, Hv2, HvH2⟩ Hk
  icases Hd1 with ⟨Hat, Htk⟩
  icases HkH1 with ⟨%q1, HkH1⟩
  iapply (st_copy (cont I) K c 1 rfl (crK 1 (by decide)) (payKi (cont I) c 1 1 (by decide) rfl)) $$ Hc [Hat Htk Hk1 HkH1]
  · isplitl [Hat]; · iexact Hat
    isplitl [Htk]; · iexact Htk
    isplitl [Hk1]; · iexact Hk1
    iexact HkH1
  iintro Hd1
  icases Hd9 with ⟨Hat, Htk⟩
  icases HvH1 with ⟨%q9, HvH1⟩
  iapply (st_copy (cont I) K c 9 rfl (crV 9 (by decide)) (payVi (cont I) c 9 1 (by decide) rfl)) $$ Hc [Hat Htk Hv1 HvH1]
  · isplitl [Hat]; · iexact Hat
    isplitl [Htk]; · iexact Htk
    isplitl [Hv1]; · iexact Hv1
    iexact HvH1
  iintro Hd9
  icases Hd2 with ⟨Hat, Htk⟩
  icases HkH2 with ⟨%q2, HkH2⟩
  iapply (st_copy (cont I) K c 2 rfl (crK 2 (by decide)) (payKi (cont I) c 2 2 (by decide) rfl)) $$ Hc [Hat Htk Hk2 HkH2]
  · isplitl [Hat]; · iexact Hat
    isplitl [Htk]; · iexact Htk
    isplitl [Hk2]; · iexact Hk2
    iexact HkH2
  iintro Hd2
  icases Hd10 with ⟨Hat, Htk⟩
  icases HvH2 with ⟨%q10, HvH2⟩
  iapply (st_copy (cont I) K c 10 rfl (crV 10 (by decide)) (payVi (cont I) c 10 2 (by decide) rfl)) $$ Hc [Hat Htk Hv2 HvH2]
  · isplitl [Hat]; · iexact Hat
    isplitl [Htk]; · iexact Htk
    isplitl [Hv2]; · iexact Hv2
    iexact HvH2
  iintro Hd10
  iapply (st_ret (Q := Q) c (w_50 I c) rfl)
  iapply Hk
  isplitl [Hd1]; · iexact Hd1
  isplitl [Hd9]; · iexact Hd9
  isplitl [Hd2]; · iexact Hd2
  iexact Hd10

abbrev p3 := k0_part3 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part3 {Q : PUnit → sProp 𝕄} :
    ctx (cont I) K ⊢ iprop((d0 c 3 ∗ kE c 3 (by decide) ∗ kH I c 3 ∗ d0 c 11 ∗ vE c 3 (by decide) ∗ vH I c 3 ∗ d0 c 4 ∗ kE c 4 (by decide) ∗ kH I c 4)
      -∗ ((wt c 3 ∗ wt c 11 ∗ wt c 4)
      -∗ Q ⟨⟩) -∗ WP c (p3 c (w_2 I c) (w_50 I c)) Q) := by
  unfold p3; rw [k0_part3_eq_skeleton]; unfold k0_part3_skel
  simp only [semSignalWord, semWaitWord, Prog.lift, Prog.bind_op, Prog.bind_ret, Prog.pure_eq_ret, wp_deviceId]
  iintro #Hc ⟨Hd3, Hk3, HkH3, Hd11, Hv3, HvH3, Hd4, Hk4, HkH4⟩ Hk
  icases Hd3 with ⟨Hat, Htk⟩
  icases HkH3 with ⟨%q3, HkH3⟩
  iapply (st_copy (cont I) K c 3 rfl (crK 3 (by decide)) (payKi (cont I) c 3 3 (by decide) rfl)) $$ Hc [Hat Htk Hk3 HkH3]
  · isplitl [Hat]; · iexact Hat
    isplitl [Htk]; · iexact Htk
    isplitl [Hk3]; · iexact Hk3
    iexact HkH3
  iintro Hd3
  icases Hd11 with ⟨Hat, Htk⟩
  icases HvH3 with ⟨%q11, HvH3⟩
  iapply (st_copy (cont I) K c 11 rfl (crV 11 (by decide)) (payVi (cont I) c 11 3 (by decide) rfl)) $$ Hc [Hat Htk Hv3 HvH3]
  · isplitl [Hat]; · iexact Hat
    isplitl [Htk]; · iexact Htk
    isplitl [Hv3]; · iexact Hv3
    iexact HvH3
  iintro Hd11
  icases Hd4 with ⟨Hat, Htk⟩
  icases HkH4 with ⟨%q4, HkH4⟩
  iapply (st_copy (cont I) K c 4 rfl (crK 4 (by decide)) (payKi (cont I) c 4 4 (by decide) rfl)) $$ Hc [Hat Htk Hk4 HkH4]
  · isplitl [Hat]; · iexact Hat
    isplitl [Htk]; · iexact Htk
    isplitl [Hk4]; · iexact Hk4
    iexact HkH4
  iintro Hd4
  iapply (st_ret (Q := Q) c ⟨⟩ rfl)
  iapply Hk
  isplitl [Hd3]; · iexact Hd3
  isplitl [Hd11]; · iexact Hd11
  iexact Hd4

abbrev p4 := k0_part4 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part4 {Q : _ → sProp 𝕄} :
    ctx (cont I) K ⊢ iprop((d0 c 12 ∗ vE c 4 (by decide) ∗ vH I c 4 ∗ d0 c 5 ∗ kE c 5 (by decide) ∗ kH I c 5 ∗ d0 c 13 ∗ vE c 5 (by decide) ∗ vH I c 5 ∗ d0 c 6 ∗ kE c 6 (by decide) ∗ kH I c 6)
      -∗ ((wt c 12 ∗ wt c 5 ∗ wt c 13 ∗ wt c 6)
      -∗ Q ⟨w_99 I c, w_c6_i32_111 I c⟩) -∗ WP c (p4 c (w_2 I c)) Q) := by
  unfold p4; rw [k0_part4_eq_skeleton]; unfold k0_part4_skel
  simp only [semSignalWord, semWaitWord, Prog.lift, Prog.bind_op, Prog.bind_ret, Prog.pure_eq_ret, wp_deviceId]
  iintro #Hc ⟨Hd12, Hv4, HvH4, Hd5, Hk5, HkH5, Hd13, Hv5, HvH5, Hd6, Hk6, HkH6⟩ Hk
  icases Hd12 with ⟨Hat, Htk⟩
  icases HvH4 with ⟨%q12, HvH4⟩
  iapply (st_copy (cont I) K c 12 rfl (crV 12 (by decide)) (payVi (cont I) c 12 4 (by decide) rfl)) $$ Hc [Hat Htk Hv4 HvH4]
  · isplitl [Hat]; · iexact Hat
    isplitl [Htk]; · iexact Htk
    isplitl [Hv4]; · iexact Hv4
    iexact HvH4
  iintro Hd12
  icases Hd5 with ⟨Hat, Htk⟩
  icases HkH5 with ⟨%q5, HkH5⟩
  iapply (st_copy (cont I) K c 5 rfl (crK 5 (by decide)) (payKi (cont I) c 5 5 (by decide) rfl)) $$ Hc [Hat Htk Hk5 HkH5]
  · isplitl [Hat]; · iexact Hat
    isplitl [Htk]; · iexact Htk
    isplitl [Hk5]; · iexact Hk5
    iexact HkH5
  iintro Hd5
  icases Hd13 with ⟨Hat, Htk⟩
  icases HvH5 with ⟨%q13, HvH5⟩
  iapply (st_copy (cont I) K c 13 rfl (crV 13 (by decide)) (payVi (cont I) c 13 5 (by decide) rfl)) $$ Hc [Hat Htk Hv5 HvH5]
  · isplitl [Hat]; · iexact Hat
    isplitl [Htk]; · iexact Htk
    isplitl [Hv5]; · iexact Hv5
    iexact HvH5
  iintro Hd13
  icases Hd6 with ⟨Hat, Htk⟩
  icases HkH6 with ⟨%q6, HkH6⟩
  iapply (st_copy (cont I) K c 6 rfl (crK 6 (by decide)) (payKi (cont I) c 6 6 (by decide) rfl)) $$ Hc [Hat Htk Hk6 HkH6]
  · isplitl [Hat]; · iexact Hat
    isplitl [Htk]; · iexact Htk
    isplitl [Hk6]; · iexact Hk6
    iexact HkH6
  iintro Hd6
  iapply (st_ret (Q := Q) c ⟨w_99 I c, w_c6_i32_111 I c⟩ rfl)
  iapply Hk
  isplitl [Hd12]; · iexact Hd12
  isplitl [Hd5]; · iexact Hd5
  isplitl [Hd13]; · iexact Hd13
  iexact Hd6

abbrev p5 := k0_part5 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part5 {Q : _ → sProp 𝕄} :
    ctx (cont I) K ⊢ iprop((d0 c 14 ∗ vE c 6 (by decide) ∗ vH I c 6 ∗ d0 c 7 ∗ kE c 7 (by decide) ∗ kH I c 7 ∗ d0 c 15 ∗ vE c 7 (by decide) ∗ vH I c 7 ∗ dutyTok ER (barCell (peer c true)) 0 false ∗ recvA c ∗ ow c 0)
      -∗ ((wt c 14 ∗ wt c 7 ∗ wt c 15 ∗ ow c 1)
      -∗ Q (w_120 I c)) -∗ WP c (p5 c (w_2 I c) (w_5 I c) (w_7 I c) (w_99 I c) (w_c6_i32_111 I c)) Q) := by
  unfold p5; rw [k0_part5_eq_skeleton]; unfold k0_part5_skel
  simp only [semSignalWord, semWaitWord, Prog.lift, Prog.bind_op, Prog.bind_ret, Prog.pure_eq_ret, wp_deviceId]
  iintro #Hc ⟨Hd14, Hv6, HvH6, Hd7, Hk7, HkH7, Hd15, Hv7, HvH7, Hbf, Hra, How⟩ Hk
  icases Hd14 with ⟨Hat, Htk⟩
  icases HvH6 with ⟨%q14, HvH6⟩
  iapply (st_copy (cont I) K c 14 rfl (crV 14 (by decide)) (payVi (cont I) c 14 6 (by decide) rfl)) $$ Hc [Hat Htk Hv6 HvH6]
  · isplitl [Hat]; · iexact Hat
    isplitl [Htk]; · iexact Htk
    isplitl [Hv6]; · iexact Hv6
    iexact HvH6
  iintro Hd14
  icases Hd7 with ⟨Hat, Htk⟩
  icases HkH7 with ⟨%q7, HkH7⟩
  iapply (st_copy (cont I) K c 7 rfl (crK 7 (by decide)) (payKi (cont I) c 7 7 (by decide) rfl)) $$ Hc [Hat Htk Hk7 HkH7]
  · isplitl [Hat]; · iexact Hat
    isplitl [Htk]; · iexact Htk
    isplitl [Hk7]; · iexact Hk7
    iexact HkH7
  iintro Hd7
  icases Hd15 with ⟨Hat, Htk⟩
  icases HvH7 with ⟨%q15, HvH7⟩
  iapply (st_copy (cont I) K c 15 rfl (crV 15 (by decide)) (payVi (cont I) c 15 7 (by decide) rfl)) $$ Hc [Hat Htk Hv7 HvH7]
  · isplitl [Hat]; · iexact Hat
    isplitl [Htk]; · iexact Htk
    isplitl [Hv7]; · iexact Hv7
    iexact HvH7
  iintro Hd15
  iapply (st_signal (cont I) K c 0 true false (dev1E c) rfl rfl (O_bar c 0 true rfl) (barPay_l c)) $$ Hc Hbf Hra How
  iintro How
  iapply (st_ret (Q := Q) c (w_120 I c) rfl)
  iapply Hk
  isplitl [Hd14]; · iexact Hd14
  isplitl [Hd7]; · iexact Hd7
  isplitl [Hd15]; · iexact Hd15
  iexact How

abbrev p6 := k0_part6 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part6 {Q : _ → sProp 𝕄} :
    ctx (cont I) K ⊢ iprop((dutyTok ER (barCell (peer c false)) 0 true ∗ recvB c ∗ ow c 1 ∗ iprop(atPos ER (barCell c) 0 ∅ 0 ∗ cred (tallyAt (barCell c) () 2)) ∗ xR I c ∗ wqR I c ∗ wt c 0)
      -∗ ((ow c 2 ∗ atPos ER (barCell c) (0 + 1) ∅ 0 ∗ recvA (rgt c) ∗ recvB (lft c) ∗ xR I c ∗ wqR I c ∗ dn c 0 ∗ kR I c 0 (by decide))
      -∗ Q ⟨w_130 I c, w_132 I c, w_144 I c⟩) -∗ WP c (p6 c (w_2 I c) (w_120 I c)) Q) := by
  unfold p6; rw [k0_part6_eq_skeleton]; unfold k0_part6_skel
  simp only [semSignalWord, semWaitWord, Prog.lift, Prog.bind_op, Prog.bind_ret, Prog.pure_eq_ret, wp_deviceId]
  iintro #Hc ⟨Hbt, Hrb, How, Hbar, Hx, Hwq, Hd0⟩ Hk
  iapply (st_signal (cont I) K c 1 false true (dev2E c) rfl rfl (O_bar c 1 false rfl) (barPay_r c)) $$ Hc Hbt Hrb How
  iintro How
  iapply (st_barrier (cont I) K c 2 rfl rfl (by decide)) $$ Hc Hbar How
  iintro ⟨Hbar, How, HRa, HRb⟩
  iapply (st_load_in c) $$ Hx
  iintro Hx
  iapply (st_load_in c) $$ Hx
  iintro Hx
  iapply (st_load_in c) $$ Hwq
  iintro Hwq
  iapply (st_wait (cont I) K c 0 2 (P := kR I c 0 (by decide)) (payKi (cont I) c 0 0 (by decide) rfl) rfl (crK 0 (by decide)) (by decide)) $$ Hc Hd0 How
  iintro ⟨Hd0, How, Hk0⟩
  iapply (st_ret (Q := Q) c ⟨w_130 I c, w_132 I c, w_144 I c⟩ rfl)
  iapply Hk
  isplitl [How]; · iexact How
  isplitl [Hbar]; · iexact Hbar
  isplitl [HRa]; · iexact HRa
  isplitl [HRb]; · iexact HRb
  isplitl [Hx]; · iexact Hx
  isplitl [Hwq]; · iexact Hwq
  isplitl [Hd0]; · iexact Hd0
  iexact Hk0

abbrev p7 := k0_part7 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part7 {Q : PUnit → sProp 𝕄} :
    ctx (cont I) K ⊢ iprop((wt c 8 ∗ ow c 2 ∗ wt c 1 ∗ wt c 9 ∗ wt c 2 ∗ wt c 10)
      -∗ ((dn c 8 ∗ ow c 2 ∗ vR I c 0 (by decide) ∗ dn c 1 ∗ kR I c 1 (by decide) ∗ dn c 9 ∗ vR I c 1 (by decide) ∗ dn c 2 ∗ kR I c 2 (by decide) ∗ dn c 10 ∗ vR I c 2 (by decide))
      -∗ Q ⟨⟩) -∗ WP c (p7 c) Q) := by
  unfold p7; rw [k0_part7_eq_skeleton]; unfold k0_part7_skel
  simp only [semSignalWord, semWaitWord, Prog.lift, Prog.bind_op, Prog.bind_ret, Prog.pure_eq_ret, wp_deviceId]
  iintro #Hc ⟨Hd8, How, Hd1, Hd9, Hd2, Hd10⟩ Hk
  iapply (st_wait (cont I) K c 8 2 (P := vR I c 0 (by decide)) (payVi (cont I) c 8 0 (by decide) rfl) rfl (crV 8 (by decide)) (by decide)) $$ Hc Hd8 How
  iintro ⟨Hd8, How, Hv0⟩
  iapply (st_wait (cont I) K c 1 2 (P := kR I c 1 (by decide)) (payKi (cont I) c 1 1 (by decide) rfl) rfl (crK 1 (by decide)) (by decide)) $$ Hc Hd1 How
  iintro ⟨Hd1, How, Hk1⟩
  iapply (st_wait (cont I) K c 9 2 (P := vR I c 1 (by decide)) (payVi (cont I) c 9 1 (by decide) rfl) rfl (crV 9 (by decide)) (by decide)) $$ Hc Hd9 How
  iintro ⟨Hd9, How, Hv1⟩
  iapply (st_wait (cont I) K c 2 2 (P := kR I c 2 (by decide)) (payKi (cont I) c 2 2 (by decide) rfl) rfl (crK 2 (by decide)) (by decide)) $$ Hc Hd2 How
  iintro ⟨Hd2, How, Hk2⟩
  iapply (st_wait (cont I) K c 10 2 (P := vR I c 2 (by decide)) (payVi (cont I) c 10 2 (by decide) rfl) rfl (crV 10 (by decide)) (by decide)) $$ Hc Hd10 How
  iintro ⟨Hd10, How, Hv2⟩
  iapply (st_ret (Q := Q) c ⟨⟩ rfl)
  iapply Hk
  isplitl [Hd8]; · iexact Hd8
  isplitl [How]; · iexact How
  isplitl [Hv0]; · iexact Hv0
  isplitl [Hd1]; · iexact Hd1
  isplitl [Hk1]; · iexact Hk1
  isplitl [Hd9]; · iexact Hd9
  isplitl [Hv1]; · iexact Hv1
  isplitl [Hd2]; · iexact Hd2
  isplitl [Hk2]; · iexact Hk2
  isplitl [Hd10]; · iexact Hd10
  iexact Hv2

abbrev p8 := k0_part8 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part8 {Q : PUnit → sProp 𝕄} :
    ctx (cont I) K ⊢ iprop((wt c 3 ∗ ow c 2 ∗ wt c 11 ∗ wt c 4 ∗ wt c 12)
      -∗ ((dn c 3 ∗ ow c 2 ∗ kR I c 3 (by decide) ∗ dn c 11 ∗ vR I c 3 (by decide) ∗ dn c 4 ∗ kR I c 4 (by decide) ∗ dn c 12 ∗ vR I c 4 (by decide))
      -∗ Q ⟨⟩) -∗ WP c (p8 c) Q) := by
  unfold p8; rw [k0_part8_eq_skeleton]; unfold k0_part8_skel
  simp only [semSignalWord, semWaitWord, Prog.lift, Prog.bind_op, Prog.bind_ret, Prog.pure_eq_ret, wp_deviceId]
  iintro #Hc ⟨Hd3, How, Hd11, Hd4, Hd12⟩ Hk
  iapply (st_wait (cont I) K c 3 2 (P := kR I c 3 (by decide)) (payKi (cont I) c 3 3 (by decide) rfl) rfl (crK 3 (by decide)) (by decide)) $$ Hc Hd3 How
  iintro ⟨Hd3, How, Hk3⟩
  iapply (st_wait (cont I) K c 11 2 (P := vR I c 3 (by decide)) (payVi (cont I) c 11 3 (by decide) rfl) rfl (crV 11 (by decide)) (by decide)) $$ Hc Hd11 How
  iintro ⟨Hd11, How, Hv3⟩
  iapply (st_wait (cont I) K c 4 2 (P := kR I c 4 (by decide)) (payKi (cont I) c 4 4 (by decide) rfl) rfl (crK 4 (by decide)) (by decide)) $$ Hc Hd4 How
  iintro ⟨Hd4, How, Hk4⟩
  iapply (st_wait (cont I) K c 12 2 (P := vR I c 4 (by decide)) (payVi (cont I) c 12 4 (by decide) rfl) rfl (crV 12 (by decide)) (by decide)) $$ Hc Hd12 How
  iintro ⟨Hd12, How, Hv4⟩
  iapply (st_ret (Q := Q) c ⟨⟩ rfl)
  iapply Hk
  isplitl [Hd3]; · iexact Hd3
  isplitl [How]; · iexact How
  isplitl [Hk3]; · iexact Hk3
  isplitl [Hd11]; · iexact Hd11
  isplitl [Hv3]; · iexact Hv3
  isplitl [Hd4]; · iexact Hd4
  isplitl [Hk4]; · iexact Hk4
  isplitl [Hd12]; · iexact Hd12
  iexact Hv4

abbrev p9 := k0_part9 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part9 {Q : PUnit → sProp 𝕄} :
    ctx (cont I) K ⊢ iprop((wt c 5 ∗ ow c 2 ∗ wt c 13 ∗ wt c 6 ∗ wt c 14 ∗ wt c 7)
      -∗ ((dn c 5 ∗ ow c 2 ∗ kR I c 5 (by decide) ∗ dn c 13 ∗ vR I c 5 (by decide) ∗ dn c 6 ∗ kR I c 6 (by decide) ∗ dn c 14 ∗ vR I c 6 (by decide) ∗ dn c 7 ∗ kR I c 7 (by decide))
      -∗ Q ⟨⟩) -∗ WP c (p9 c) Q) := by
  unfold p9; rw [k0_part9_eq_skeleton]; unfold k0_part9_skel
  simp only [semSignalWord, semWaitWord, Prog.lift, Prog.bind_op, Prog.bind_ret, Prog.pure_eq_ret, wp_deviceId]
  iintro #Hc ⟨Hd5, How, Hd13, Hd6, Hd14, Hd7⟩ Hk
  iapply (st_wait (cont I) K c 5 2 (P := kR I c 5 (by decide)) (payKi (cont I) c 5 5 (by decide) rfl) rfl (crK 5 (by decide)) (by decide)) $$ Hc Hd5 How
  iintro ⟨Hd5, How, Hk5⟩
  iapply (st_wait (cont I) K c 13 2 (P := vR I c 5 (by decide)) (payVi (cont I) c 13 5 (by decide) rfl) rfl (crV 13 (by decide)) (by decide)) $$ Hc Hd13 How
  iintro ⟨Hd13, How, Hv5⟩
  iapply (st_wait (cont I) K c 6 2 (P := kR I c 6 (by decide)) (payKi (cont I) c 6 6 (by decide) rfl) rfl (crK 6 (by decide)) (by decide)) $$ Hc Hd6 How
  iintro ⟨Hd6, How, Hk6⟩
  iapply (st_wait (cont I) K c 14 2 (P := vR I c 6 (by decide)) (payVi (cont I) c 14 6 (by decide) rfl) rfl (crV 14 (by decide)) (by decide)) $$ Hc Hd14 How
  iintro ⟨Hd14, How, Hv6⟩
  iapply (st_wait (cont I) K c 7 2 (P := kR I c 7 (by decide)) (payKi (cont I) c 7 7 (by decide) rfl) rfl (crK 7 (by decide)) (by decide)) $$ Hc Hd7 How
  iintro ⟨Hd7, How, Hk7⟩
  iapply (st_ret (Q := Q) c ⟨⟩ rfl)
  iapply Hk
  isplitl [Hd5]; · iexact Hd5
  isplitl [How]; · iexact How
  isplitl [Hk5]; · iexact Hk5
  isplitl [Hd13]; · iexact Hd13
  isplitl [Hv5]; · iexact Hv5
  isplitl [Hd6]; · iexact Hd6
  isplitl [Hk6]; · iexact Hk6
  isplitl [Hd14]; · iexact Hd14
  isplitl [Hv6]; · iexact Hv6
  isplitl [Hd7]; · iexact Hd7
  iexact Hk7

abbrev p10 := k0_part10 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part10 {Q : _ → sProp 𝕄} :
    ctx (cont I) K ⊢ iprop((wt c 15 ∗ ow c 2)
      -∗ ((dn c 15 ∗ ow c 2 ∗ vR I c 7 (by decide))
      -∗ Q ⟨w_235 I c, w_259 I c, w_c64_i32_274 I c, w_261 I c, w_264 I c, w_266 I c⟩) -∗ WP c (p10 c (w_130 I c) (w_132 I c)) Q) := by
  unfold p10; rw [k0_part10_eq_skeleton]; unfold k0_part10_skel
  simp only [semSignalWord, semWaitWord, Prog.lift, Prog.bind_op, Prog.bind_ret, Prog.pure_eq_ret, wp_deviceId]
  iintro #Hc ⟨Hd15, How⟩ Hk
  iapply (st_wait (cont I) K c 15 2 (P := vR I c 7 (by decide)) (payVi (cont I) c 15 7 (by decide) rfl) rfl (crV 15 (by decide)) (by decide)) $$ Hc Hd15 How
  iintro ⟨Hd15, How, Hv7⟩
  iapply (st_ret (Q := Q) c ⟨w_235 I c, w_259 I c, w_c64_i32_274 I c, w_261 I c, w_264 I c, w_266 I c⟩ rfl)
  iapply Hk
  isplitl [Hd15]; · iexact Hd15
  isplitl [How]; · iexact How
  iexact Hv7

end Cert.Ring
-- ==== Proof.Parts1.lean ====
module

public import proofs.«01_k».proof.Proof.Windows

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 77 → ℕ) (c : Dev nD)

abbrev p11 := k0_part11 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part11 {Q : _ → sProp 𝕄} :
    ctx (cont I) K ⊢ iprop((kR I c 0 (by decide) ∗ vR I c 0 (by decide))
      -∗ ((kR I c 0 (by decide) ∗ vR I c 0 (by decide))
      -∗ Q ⟨w_296 I c, w_307 I c, w_308 I c⟩) -∗ WP c (p11 (w_144 I c) (w_235 I c) (w_259 I c) (w_c64_i32_274 I c) (w_261 I c) (w_264 I c) (w_266 I c)) Q) := by
  unfold p11; rw [k0_part11_eq_skeleton]; unfold k0_part11_skel
  simp only [semSignalWord, semWaitWord, Prog.lift, Prog.bind_op, Prog.bind_ret, Prog.pure_eq_ret, wp_deviceId]
  iintro #Hc ⟨Hk0, Hv0⟩ Hk
  iapply (st_load c (cols_inb (h := 0) (by decide)) rfl) $$ Hk0
  iintro Hk0
  iapply (st_load c (cols_inb (h := 0) (by decide)) rfl) $$ Hv0
  iintro Hv0
  iapply (st_ret (Q := Q) c ⟨w_296 I c, w_307 I c, w_308 I c⟩ rfl)
  iapply Hk
  isplitl [Hk0]; · iexact Hk0
  iexact Hv0

abbrev p12 := k0_part12 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part12 {Q : _ → sProp 𝕄} :
    ctx (cont I) K ⊢ iprop((kR I c 1 (by decide) ∗ vR I c 1 (by decide) ∗ kR I c 2 (by decide) ∗ vR I c 2 (by decide) ∗ kR I c 3 (by decide) ∗ vR I c 3 (by decide) ∗ kR I c 4 (by decide))
      -∗ ((kR I c 1 (by decide) ∗ vR I c 1 (by decide) ∗ kR I c 2 (by decide) ∗ vR I c 2 (by decide) ∗ kR I c 3 (by decide) ∗ vR I c 3 (by decide) ∗ kR I c 4 (by decide))
      -∗ Q ⟨w_318 I c, w_329 I c, w_340 I c, w_345 I c⟩) -∗ WP c (p12 (w_144 I c) (w_296 I c) (w_308 I c)) Q) := by
  unfold p12; rw [k0_part12_eq_skeleton]; unfold k0_part12_skel
  simp only [semSignalWord, semWaitWord, Prog.lift, Prog.bind_op, Prog.bind_ret, Prog.pure_eq_ret, wp_deviceId]
  iintro #Hc ⟨Hk1, Hv1, Hk2, Hv2, Hk3, Hv3, Hk4⟩ Hk
  iapply (st_load c (cols_inb (h := 1) (by decide)) rfl) $$ Hk1
  iintro Hk1
  iapply (st_load c (cols_inb (h := 1) (by decide)) rfl) $$ Hv1
  iintro Hv1
  iapply (st_load c (cols_inb (h := 2) (by decide)) rfl) $$ Hk2
  iintro Hk2
  iapply (st_load c (cols_inb (h := 2) (by decide)) rfl) $$ Hv2
  iintro Hv2
  iapply (st_load c (cols_inb (h := 3) (by decide)) rfl) $$ Hk3
  iintro Hk3
  iapply (st_load c (cols_inb (h := 3) (by decide)) rfl) $$ Hv3
  iintro Hv3
  iapply (st_load c (cols_inb (h := 4) (by decide)) rfl) $$ Hk4
  iintro Hk4
  iapply (st_ret (Q := Q) c ⟨w_318 I c, w_329 I c, w_340 I c, w_345 I c⟩ rfl)
  iapply Hk
  isplitl [Hk1]; · iexact Hk1
  isplitl [Hv1]; · iexact Hv1
  isplitl [Hk2]; · iexact Hk2
  isplitl [Hv2]; · iexact Hv2
  isplitl [Hk3]; · iexact Hk3
  isplitl [Hv3]; · iexact Hv3
  iexact Hk4

abbrev p13 := k0_part13 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part13 {Q : _ → sProp 𝕄} :
    ctx (cont I) K ⊢ iprop((vR I c 4 (by decide) ∗ kR I c 5 (by decide) ∗ vR I c 5 (by decide) ∗ kR I c 6 (by decide) ∗ vR I c 6 (by decide) ∗ kR I c 7 (by decide) ∗ vR I c 7 (by decide))
      -∗ ((vR I c 4 (by decide) ∗ kR I c 5 (by decide) ∗ vR I c 5 (by decide) ∗ kR I c 6 (by decide) ∗ vR I c 6 (by decide) ∗ kR I c 7 (by decide) ∗ vR I c 7 (by decide))
      -∗ Q ⟨w_351 I c, w_362 I c, w_373 I c, w_378 I c, w_380 I c, w_381 I c, w_cst_334 I c⟩) -∗ WP c (p13 (w_144 I c) (w_296 I c) (w_345 I c)) Q) := by
  unfold p13; rw [k0_part13_eq_skeleton]; unfold k0_part13_skel
  simp only [semSignalWord, semWaitWord, Prog.lift, Prog.bind_op, Prog.bind_ret, Prog.pure_eq_ret, wp_deviceId]
  iintro #Hc ⟨Hv4, Hk5, Hv5, Hk6, Hv6, Hk7, Hv7⟩ Hk
  iapply (st_load c (cols_inb (h := 4) (by decide)) rfl) $$ Hv4
  iintro Hv4
  iapply (st_load c (cols_inb (h := 5) (by decide)) rfl) $$ Hk5
  iintro Hk5
  iapply (st_load c (cols_inb (h := 5) (by decide)) rfl) $$ Hv5
  iintro Hv5
  iapply (st_load c (cols_inb (h := 6) (by decide)) rfl) $$ Hk6
  iintro Hk6
  iapply (st_load c (cols_inb (h := 6) (by decide)) rfl) $$ Hv6
  iintro Hv6
  iapply (st_load c (cols_inb (h := 7) (by decide)) rfl) $$ Hk7
  iintro Hk7
  iapply (st_load c (cols_inb (h := 7) (by decide)) rfl) $$ Hv7
  iintro Hv7
  iapply (st_ret (Q := Q) c ⟨w_351 I c, w_362 I c, w_373 I c, w_378 I c, w_380 I c, w_381 I c, w_cst_334 I c⟩ rfl)
  iapply Hk
  isplitl [Hv4]; · iexact Hv4
  isplitl [Hk5]; · iexact Hk5
  isplitl [Hv5]; · iexact Hv5
  isplitl [Hk6]; · iexact Hk6
  isplitl [Hv6]; · iexact Hv6
  isplitl [Hk7]; · iexact Hk7
  iexact Hv7

abbrev p14 := k0_part14 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part14 {Q : PUnit → sProp 𝕄} :
    ctx (cont I) K ⊢ iprop((woR I c ∗ aAE c 0 ∗ aBE c 0 ∗ d0 c 16 ∗ tk (peer c false) 19 ∗ sAE c 0 (by decide) ∗ ow c 2)
      -∗ ((woR I c ∗ aB c 0 (sumB I c 0) ∗ wt c 16 ∗ ow c 3)
      -∗ Q ⟨⟩) -∗ WP c (p14 c (w_5 I c) (w_7 I c) (w_130 I c) (w_132 I c) (w_307 I c) (w_318 I c) (w_329 I c) (w_340 I c) (w_351 I c) (w_362 I c) (w_373 I c) (w_378 I c) (w_380 I c) (w_381 I c) (w_cst_334 I c)) Q) := by
  unfold p14; rw [k0_part14_eq_skeleton]; unfold k0_part14_skel
  simp only [semSignalWord, semWaitWord, Prog.lift, Prog.bind_op, Prog.bind_ret, Prog.pure_eq_ret, wp_deviceId]
  iintro #Hc ⟨Hwo, HaA0, HaB0, Hd16, Hp19, HeA0, How⟩ Hk
  iapply (st_load_in c) $$ Hwo
  iintro Hwo
  icases HaA0 with ⟨%XaA0, HaA0⟩
  iapply (st_load c (rows_inb (chA_lt c 0)) (off2E c 0)) $$ HaA0
  iintro HaA0
  iapply (st_store2 c accM (chA c 0) (chA_lt c 0) (off2E c 0) (sumA I c 0) rfl) $$ HaA0
  iintro HaA0
  icases HaB0 with ⟨%XaB0, HaB0⟩
  iapply (st_load c (rows_inb (chB_lt c 0)) (off3E c 0)) $$ HaB0
  iintro HaB0
  iapply (st_store2 c accM (chB c 0) (chB_lt c 0) (off3E c 0) (sumB I c 0) rfl) $$ HaB0
  iintro HaB0
  icases Hd16 with ⟨Hat, Htk⟩
  iapply (st_send (cont I) K c 16 19 2 false (X := sumA I c 0) (dev3E c) (O_dma c 2 false 19 rfl) rfl rfl (crSA 16 (by decide)) rfl (slice_congr _ (off4E c 0)) rfl (payASi (cont I) c 16 0 (by decide) rfl) (payARi' (cont I) c 19 0 (by decide) rfl)) $$ Hc [Hat Htk Hp19] HaA0 HeA0 How
  · isplitl [Hat]; · iexact Hat
    isplitl [Htk]; · iexact Htk
    iexact Hp19
  iintro ⟨Hd16, How⟩
  iapply (st_ret (Q := Q) c ⟨⟩ rfl)
  iapply Hk
  isplitl [Hwo]; · iexact Hwo
  isplitl [HaB0]; · iexact HaB0
  isplitl [Hd16]; · iexact Hd16
  iexact How

abbrev p15 := k0_part15 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part15 {Q : _ → sProp 𝕄} :
    ctx (cont I) K ⊢ iprop((d0 c 22 ∗ tk (peer c true) 25 ∗ aB c 0 (sumB I c 0) ∗ sBE c 0 (by decide) ∗ ow c 3 ∗ xR I c ∗ wqR I c)
      -∗ ((wt c 22 ∗ ow c 4 ∗ xR I c ∗ wqR I c)
      -∗ Q ⟨w_423 I c, w_425 I c, w_437 I c, w_447 I c, w_448 I c, w_c64_i32_372 I c, w_450 I c, w_457 I c⟩) -∗ WP c (p15 c (w_2 I c)) Q) := by
  unfold p15; rw [k0_part15_eq_skeleton]; unfold k0_part15_skel
  simp only [semSignalWord, semWaitWord, Prog.lift, Prog.bind_op, Prog.bind_ret, Prog.pure_eq_ret, wp_deviceId]
  iintro #Hc ⟨Hd22, Hp25, HaB0, HeB0, How, Hx, Hwq⟩ Hk
  icases Hd22 with ⟨Hat, Htk⟩
  iapply (st_send (cont I) K c 22 25 3 true (X := sumB I c 0) (dev4E c) (O_dma c 3 true 25 rfl) rfl rfl (crSB 22 (by decide)) rfl (slice_congr _ (off5E c 0)) rfl (payBSi (cont I) c 22 0 (by decide) rfl) (payBRi' (cont I) c 25 0 (by decide) rfl)) $$ Hc [Hat Htk Hp25] HaB0 HeB0 How
  · isplitl [Hat]; · iexact Hat
    isplitl [Htk]; · iexact Htk
    iexact Hp25
  iintro ⟨Hd22, How⟩
  iapply (st_load_in c) $$ Hx
  iintro Hx
  iapply (st_load_in c) $$ Hx
  iintro Hx
  iapply (st_load_in c) $$ Hwq
  iintro Hwq
  iapply (st_ret (Q := Q) c ⟨w_423 I c, w_425 I c, w_437 I c, w_447 I c, w_448 I c, w_c64_i32_372 I c, w_450 I c, w_457 I c⟩ rfl)
  iapply Hk
  isplitl [Hd22]; · iexact Hd22
  isplitl [How]; · iexact How
  isplitl [Hx]; · iexact Hx
  iexact Hwq

abbrev p16 := k0_part16 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part16 {Q : _ → sProp 𝕄} :
    ctx (cont I) K ⊢ iprop((Q ⟨w_500 I c, w_503 I c, w_c0_i32_388 I c⟩) -∗ WP c (p16 (w_447 I c) (w_448 I c) (w_c64_i32_372 I c) (w_450 I c) (w_457 I c)) Q) := by
  unfold p16; rw [k0_part16_eq_skeleton]; unfold k0_part16_skel
  simp only [semSignalWord, semWaitWord, Prog.lift, Prog.bind_op, Prog.bind_ret, Prog.pure_eq_ret, wp_deviceId]
  iintro #Hc Hk
  iapply (st_ret (Q := Q) c ⟨w_500 I c, w_503 I c, w_c0_i32_388 I c⟩ rfl)
  iexact Hk

abbrev p17 := k0_part17 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part17 {Q : _ → sProp 𝕄} :
    ctx (cont I) K ⊢ iprop((kR I c 0 (by decide) ∗ vR I c 0 (by decide) ∗ kR I c 1 (by decide) ∗ vR I c 1 (by decide) ∗ kR I c 2 (by decide) ∗ vR I c 2 (by decide))
      -∗ ((kR I c 0 (by decide) ∗ vR I c 0 (by decide) ∗ kR I c 1 (by decide) ∗ vR I c 1 (by decide) ∗ kR I c 2 (by decide) ∗ vR I c 2 (by decide))
      -∗ Q ⟨w_509 I c, w_520 I c, w_531 I c, w_538 I c, w_540 I c⟩) -∗ WP c (p17 (w_437 I c) (w_500 I c) (w_503 I c) (w_c0_i32_388 I c)) Q) := by
  unfold p17; rw [k0_part17_eq_skeleton]; unfold k0_part17_skel
  simp only [semSignalWord, semWaitWord, Prog.lift, Prog.bind_op, Prog.bind_ret, Prog.pure_eq_ret, wp_deviceId]
  iintro #Hc ⟨Hk0, Hv0, Hk1, Hv1, Hk2, Hv2⟩ Hk
  iapply (st_load c (cols_inb (h := 0) (by decide)) rfl) $$ Hk0
  iintro Hk0
  iapply (st_load c (cols_inb (h := 0) (by decide)) rfl) $$ Hv0
  iintro Hv0
  iapply (st_load c (cols_inb (h := 1) (by decide)) rfl) $$ Hk1
  iintro Hk1
  iapply (st_load c (cols_inb (h := 1) (by decide)) rfl) $$ Hv1
  iintro Hv1
  iapply (st_load c (cols_inb (h := 2) (by decide)) rfl) $$ Hk2
  iintro Hk2
  iapply (st_load c (cols_inb (h := 2) (by decide)) rfl) $$ Hv2
  iintro Hv2
  iapply (st_ret (Q := Q) c ⟨w_509 I c, w_520 I c, w_531 I c, w_538 I c, w_540 I c⟩ rfl)
  iapply Hk
  isplitl [Hk0]; · iexact Hk0
  isplitl [Hv0]; · iexact Hv0
  isplitl [Hk1]; · iexact Hk1
  isplitl [Hv1]; · iexact Hv1
  isplitl [Hk2]; · iexact Hk2
  iexact Hv2

abbrev p18 := k0_part18 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part18 {Q : _ → sProp 𝕄} :
    ctx (cont I) K ⊢ iprop((kR I c 3 (by decide) ∗ vR I c 3 (by decide) ∗ kR I c 4 (by decide) ∗ vR I c 4 (by decide) ∗ kR I c 5 (by decide) ∗ vR I c 5 (by decide) ∗ kR I c 6 (by decide))
      -∗ ((kR I c 3 (by decide) ∗ vR I c 3 (by decide) ∗ kR I c 4 (by decide) ∗ vR I c 4 (by decide) ∗ kR I c 5 (by decide) ∗ vR I c 5 (by decide) ∗ kR I c 6 (by decide))
      -∗ Q ⟨w_542 I c, w_553 I c, w_564 I c, w_575 I c, w_576 I c, w_577 I c⟩) -∗ WP c (p18 (w_437 I c) (w_509 I c) (w_538 I c) (w_540 I c)) Q) := by
  unfold p18; rw [k0_part18_eq_skeleton]; unfold k0_part18_skel
  simp only [semSignalWord, semWaitWord, Prog.lift, Prog.bind_op, Prog.bind_ret, Prog.pure_eq_ret, wp_deviceId]
  iintro #Hc ⟨Hk3, Hv3, Hk4, Hv4, Hk5, Hv5, Hk6⟩ Hk
  iapply (st_load c (cols_inb (h := 3) (by decide)) rfl) $$ Hk3
  iintro Hk3
  iapply (st_load c (cols_inb (h := 3) (by decide)) rfl) $$ Hv3
  iintro Hv3
  iapply (st_load c (cols_inb (h := 4) (by decide)) rfl) $$ Hk4
  iintro Hk4
  iapply (st_load c (cols_inb (h := 4) (by decide)) rfl) $$ Hv4
  iintro Hv4
  iapply (st_load c (cols_inb (h := 5) (by decide)) rfl) $$ Hk5
  iintro Hk5
  iapply (st_load c (cols_inb (h := 5) (by decide)) rfl) $$ Hv5
  iintro Hv5
  iapply (st_load c (cols_inb (h := 6) (by decide)) rfl) $$ Hk6
  iintro Hk6
  iapply (st_ret (Q := Q) c ⟨w_542 I c, w_553 I c, w_564 I c, w_575 I c, w_576 I c, w_577 I c⟩ rfl)
  iapply Hk
  isplitl [Hk3]; · iexact Hk3
  isplitl [Hv3]; · iexact Hv3
  isplitl [Hk4]; · iexact Hk4
  isplitl [Hv4]; · iexact Hv4
  isplitl [Hk5]; · iexact Hk5
  isplitl [Hv5]; · iexact Hv5
  iexact Hk6

abbrev p19 := k0_part19 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part19 {Q : _ → sProp 𝕄} :
    ctx (cont I) K ⊢ iprop((vR I c 6 (by decide) ∗ kR I c 7 (by decide) ∗ vR I c 7 (by decide) ∗ woR I c ∗ aAE c 1 ∗ aBE c 1)
      -∗ ((vR I c 6 (by decide) ∗ kR I c 7 (by decide) ∗ vR I c 7 (by decide) ∗ woR I c ∗ aA c 1 (st41 I c) ∗ aB c 1 (st42 I c))
      -∗ Q ⟨w_613 I c, w_c0_i32_456 I c⟩) -∗ WP c (p19 c (w_7 I c) (w_423 I c) (w_425 I c) (w_437 I c) (w_509 I c) (w_520 I c) (w_531 I c) (w_542 I c) (w_553 I c) (w_564 I c) (w_575 I c) (w_576 I c) (w_577 I c)) Q) := by
  unfold p19; rw [k0_part19_eq_skeleton]; unfold k0_part19_skel
  simp only [semSignalWord, semWaitWord, Prog.lift, Prog.bind_op, Prog.bind_ret, Prog.pure_eq_ret, wp_deviceId]
  iintro #Hc ⟨Hv6, Hk7, Hv7, Hwo, HaA1, HaB1⟩ Hk
  iapply (st_load c (cols_inb (h := 6) (by decide)) rfl) $$ Hv6
  iintro Hv6
  iapply (st_load c (cols_inb (h := 7) (by decide)) rfl) $$ Hk7
  iintro Hk7
  iapply (st_load c (cols_inb (h := 7) (by decide)) rfl) $$ Hv7
  iintro Hv7
  iapply (st_load_in c) $$ Hwo
  iintro Hwo
  icases HaA1 with ⟨%XaA1, HaA1⟩
  iapply (st_load c (rows_inb (chA_lt c 1)) (off2E c 1)) $$ HaA1
  iintro HaA1
  iapply (st_store2 c accM (chA c 1) (chA_lt c 1) (off2E c 1) (st41 I c) rfl) $$ HaA1
  iintro HaA1
  icases HaB1 with ⟨%XaB1, HaB1⟩
  iapply (st_load c (rows_inb (chB_lt c 1)) (off3E c 1)) $$ HaB1
  iintro HaB1
  iapply (st_store2 c accM (chB c 1) (chB_lt c 1) (off3E c 1) (st42 I c) rfl) $$ HaB1
  iintro HaB1
  iapply (st_ret (Q := Q) c ⟨w_613 I c, w_c0_i32_456 I c⟩ rfl)
  iapply Hk
  isplitl [Hv6]; · iexact Hv6
  isplitl [Hk7]; · iexact Hk7
  isplitl [Hv7]; · iexact Hv7
  isplitl [Hwo]; · iexact Hwo
  isplitl [HaA1]; · iexact HaA1
  iexact HaB1

abbrev p20 := k0_part20 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part20 {Q : PUnit → sProp 𝕄} :
    ctx (cont I) K ⊢ iprop((wt c 19 ∗ ow c 4 ∗ aA c 1 (st41 I c) ∗ d0 c 17 ∗ tk (peer c false) 20 ∗ sAE c 1 (by decide) ∗ wt c 25)
      -∗ ((dn c 19 ∗ ow c 5 ∗ sA I c 0 (by decide) ∗ wt c 17 ∗ dn c 25 ∗ sB I c 0 (by decide))
      -∗ Q ⟨⟩) -∗ WP c (p20 c (w_5 I c) (w_7 I c) (w_423 I c) (w_425 I c) (w_613 I c) (w_c0_i32_456 I c)) Q) := by
  unfold p20; rw [k0_part20_eq_skeleton]; unfold k0_part20_skel
  simp only [semSignalWord, semWaitWord, Prog.lift, Prog.bind_op, Prog.bind_ret, Prog.pure_eq_ret, wp_deviceId]
  iintro #Hc ⟨Hd19, How, HaA1, Hd17, Hp20, HeA1, Hd25⟩ Hk
  iapply (st_wait (cont I) K c 19 4 (P := sA I c 0 (by decide)) (payARi (cont I) c 19 0 (by decide) rfl) rfl (crSA 19 (by decide)) (by decide)) $$ Hc Hd19 How
  iintro ⟨Hd19, How, HsA0⟩
  iapply (st_load c (rows_inb (chA_lt c 1)) (off2E c 1)) $$ HaA1
  iintro HaA1
  iapply (st_load_slot c (n := 0) rfl) $$ HsA0
  iintro HsA0
  iapply (st_load c (rows_inb (chA_lt c 1)) (off2E c 1)) $$ HaA1
  iintro HaA1
  iapply (st_store2 c accM (chA c 1) (chA_lt c 1) (off2E c 1) (sumA I c 1) rfl) $$ HaA1
  iintro HaA1
  icases Hd17 with ⟨Hat, Htk⟩
  iapply (st_send (cont I) K c 17 20 4 false (X := sumA I c 1) (dev5E c) (O_dma c 4 false 20 rfl) rfl rfl (crSA 17 (by decide)) rfl (slice_congr _ (off4E c 1)) rfl (payASi (cont I) c 17 1 (by decide) rfl) (payARi' (cont I) c 20 1 (by decide) rfl)) $$ Hc [Hat Htk Hp20] HaA1 HeA1 How
  · isplitl [Hat]; · iexact Hat
    isplitl [Htk]; · iexact Htk
    iexact Hp20
  iintro ⟨Hd17, How⟩
  iapply (st_wait (cont I) K c 25 5 (P := sB I c 0 (by decide)) (payBRi (cont I) c 25 0 (by decide) rfl) rfl (crSB 25 (by decide)) (by decide)) $$ Hc Hd25 How
  iintro ⟨Hd25, How, HsB0⟩
  iapply (st_ret (Q := Q) c ⟨⟩ rfl)
  iapply Hk
  isplitl [Hd19]; · iexact Hd19
  isplitl [How]; · iexact How
  isplitl [HsA0]; · iexact HsA0
  isplitl [Hd17]; · iexact Hd17
  isplitl [Hd25]; · iexact Hd25
  iexact HsB0

end Cert.Ring
-- ==== Proof.Parts2.lean ====
module

public import proofs.«01_k».proof.Proof.Windows

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 77 → ℕ) (c : Dev nD)

abbrev p21 := k0_part21 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part21 {Q : _ → sProp 𝕄} :
    ctx (cont I) K ⊢ iprop((aB c 1 (st42 I c) ∗ sB I c 0 (by decide) ∗ d0 c 23 ∗ tk (peer c true) 26 ∗ sBE c 1 (by decide) ∗ ow c 5 ∗ xR I c ∗ wqR I c)
      -∗ ((sB I c 0 (by decide) ∗ wt c 23 ∗ ow c 6 ∗ xR I c ∗ wqR I c)
      -∗ Q ⟨w_668 I c, w_670 I c, w_677 I c, w_678 I c⟩) -∗ WP c (p21 c (w_2 I c) (w_5 I c) (w_425 I c)) Q) := by
  unfold p21; rw [k0_part21_eq_skeleton]; unfold k0_part21_skel
  simp only [semSignalWord, semWaitWord, Prog.lift, Prog.bind_op, Prog.bind_ret, Prog.pure_eq_ret, wp_deviceId]
  iintro #Hc ⟨HaB1, HsB0, Hd23, Hp26, HeB1, How, Hx, Hwq⟩ Hk
  iapply (st_load c (rows_inb (chB_lt c 1)) (off3E c 1)) $$ HaB1
  iintro HaB1
  iapply (st_load_slot c (n := 0) rfl) $$ HsB0
  iintro HsB0
  iapply (st_load c (rows_inb (chB_lt c 1)) (off3E c 1)) $$ HaB1
  iintro HaB1
  iapply (st_store2 c accM (chB c 1) (chB_lt c 1) (off3E c 1) (sumB I c 1) rfl) $$ HaB1
  iintro HaB1
  icases Hd23 with ⟨Hat, Htk⟩
  iapply (st_send (cont I) K c 23 26 5 true (X := sumB I c 1) (dev6E c) (O_dma c 5 true 26 rfl) rfl rfl (crSB 23 (by decide)) rfl (slice_congr _ (off5E c 1)) rfl (payBSi (cont I) c 23 1 (by decide) rfl) (payBRi' (cont I) c 26 1 (by decide) rfl)) $$ Hc [Hat Htk Hp26] HaB1 HeB1 How
  · isplitl [Hat]; · iexact Hat
    isplitl [Htk]; · iexact Htk
    iexact Hp26
  iintro ⟨Hd23, How⟩
  iapply (st_load_in c) $$ Hx
  iintro Hx
  iapply (st_load_in c) $$ Hx
  iintro Hx
  iapply (st_load_in c) $$ Hwq
  iintro Hwq
  iapply (st_ret (Q := Q) c ⟨w_668 I c, w_670 I c, w_677 I c, w_678 I c⟩ rfl)
  iapply Hk
  isplitl [HsB0]; · iexact HsB0
  isplitl [Hd23]; · iexact Hd23
  isplitl [How]; · iexact How
  isplitl [Hx]; · iexact Hx
  iexact Hwq

abbrev p22 := k0_part22 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part22 {Q : _ → sProp 𝕄} :
    ctx (cont I) K ⊢ iprop((Q ⟨w_682 I c, w_693 I c, w_717 I c, w_c64_i32_517 I c, w_719 I c, w_722 I c, w_724 I c⟩) -∗ WP c (p22 (w_668 I c) (w_670 I c) (w_677 I c) (w_678 I c)) Q) := by
  unfold p22; rw [k0_part22_eq_skeleton]; unfold k0_part22_skel
  simp only [semSignalWord, semWaitWord, Prog.lift, Prog.bind_op, Prog.bind_ret, Prog.pure_eq_ret, wp_deviceId]
  iintro #Hc Hk
  iapply (st_ret (Q := Q) c ⟨w_682 I c, w_693 I c, w_717 I c, w_c64_i32_517 I c, w_719 I c, w_722 I c, w_724 I c⟩ rfl)
  iexact Hk

abbrev p23 := k0_part23 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part23 {Q : _ → sProp 𝕄} :
    ctx (cont I) K ⊢ iprop((kR I c 0 (by decide) ∗ vR I c 0 (by decide))
      -∗ ((kR I c 0 (by decide) ∗ vR I c 0 (by decide))
      -∗ Q ⟨w_754 I c, w_765 I c, w_766 I c⟩) -∗ WP c (p23 (w_682 I c) (w_693 I c) (w_717 I c) (w_c64_i32_517 I c) (w_719 I c) (w_722 I c) (w_724 I c)) Q) := by
  unfold p23; rw [k0_part23_eq_skeleton]; unfold k0_part23_skel
  simp only [semSignalWord, semWaitWord, Prog.lift, Prog.bind_op, Prog.bind_ret, Prog.pure_eq_ret, wp_deviceId]
  iintro #Hc ⟨Hk0, Hv0⟩ Hk
  iapply (st_load c (cols_inb (h := 0) (by decide)) rfl) $$ Hk0
  iintro Hk0
  iapply (st_load c (cols_inb (h := 0) (by decide)) rfl) $$ Hv0
  iintro Hv0
  iapply (st_ret (Q := Q) c ⟨w_754 I c, w_765 I c, w_766 I c⟩ rfl)
  iapply Hk
  isplitl [Hk0]; · iexact Hk0
  iexact Hv0

abbrev p24 := k0_part24 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part24 {Q : _ → sProp 𝕄} :
    ctx (cont I) K ⊢ iprop((kR I c 1 (by decide) ∗ vR I c 1 (by decide) ∗ kR I c 2 (by decide) ∗ vR I c 2 (by decide) ∗ kR I c 3 (by decide) ∗ vR I c 3 (by decide) ∗ kR I c 4 (by decide))
      -∗ ((kR I c 1 (by decide) ∗ vR I c 1 (by decide) ∗ kR I c 2 (by decide) ∗ vR I c 2 (by decide) ∗ kR I c 3 (by decide) ∗ vR I c 3 (by decide) ∗ kR I c 4 (by decide))
      -∗ Q ⟨w_776 I c, w_787 I c, w_798 I c, w_803 I c⟩) -∗ WP c (p24 (w_682 I c) (w_754 I c) (w_766 I c)) Q) := by
  unfold p24; rw [k0_part24_eq_skeleton]; unfold k0_part24_skel
  simp only [semSignalWord, semWaitWord, Prog.lift, Prog.bind_op, Prog.bind_ret, Prog.pure_eq_ret, wp_deviceId]
  iintro #Hc ⟨Hk1, Hv1, Hk2, Hv2, Hk3, Hv3, Hk4⟩ Hk
  iapply (st_load c (cols_inb (h := 1) (by decide)) rfl) $$ Hk1
  iintro Hk1
  iapply (st_load c (cols_inb (h := 1) (by decide)) rfl) $$ Hv1
  iintro Hv1
  iapply (st_load c (cols_inb (h := 2) (by decide)) rfl) $$ Hk2
  iintro Hk2
  iapply (st_load c (cols_inb (h := 2) (by decide)) rfl) $$ Hv2
  iintro Hv2
  iapply (st_load c (cols_inb (h := 3) (by decide)) rfl) $$ Hk3
  iintro Hk3
  iapply (st_load c (cols_inb (h := 3) (by decide)) rfl) $$ Hv3
  iintro Hv3
  iapply (st_load c (cols_inb (h := 4) (by decide)) rfl) $$ Hk4
  iintro Hk4
  iapply (st_ret (Q := Q) c ⟨w_776 I c, w_787 I c, w_798 I c, w_803 I c⟩ rfl)
  iapply Hk
  isplitl [Hk1]; · iexact Hk1
  isplitl [Hv1]; · iexact Hv1
  isplitl [Hk2]; · iexact Hk2
  isplitl [Hv2]; · iexact Hv2
  isplitl [Hk3]; · iexact Hk3
  isplitl [Hv3]; · iexact Hv3
  iexact Hk4

abbrev p25 := k0_part25 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part25 {Q : _ → sProp 𝕄} :
    ctx (cont I) K ⊢ iprop((vR I c 4 (by decide) ∗ kR I c 5 (by decide) ∗ vR I c 5 (by decide) ∗ kR I c 6 (by decide) ∗ vR I c 6 (by decide) ∗ kR I c 7 (by decide) ∗ vR I c 7 (by decide))
      -∗ ((vR I c 4 (by decide) ∗ kR I c 5 (by decide) ∗ vR I c 5 (by decide) ∗ kR I c 6 (by decide) ∗ vR I c 6 (by decide) ∗ kR I c 7 (by decide) ∗ vR I c 7 (by decide))
      -∗ Q ⟨w_809 I c, w_820 I c, w_831 I c, w_836 I c, w_838 I c, w_839 I c, w_cst_584 I c⟩) -∗ WP c (p25 (w_682 I c) (w_754 I c) (w_803 I c)) Q) := by
  unfold p25; rw [k0_part25_eq_skeleton]; unfold k0_part25_skel
  simp only [semSignalWord, semWaitWord, Prog.lift, Prog.bind_op, Prog.bind_ret, Prog.pure_eq_ret, wp_deviceId]
  iintro #Hc ⟨Hv4, Hk5, Hv5, Hk6, Hv6, Hk7, Hv7⟩ Hk
  iapply (st_load c (cols_inb (h := 4) (by decide)) rfl) $$ Hv4
  iintro Hv4
  iapply (st_load c (cols_inb (h := 5) (by decide)) rfl) $$ Hk5
  iintro Hk5
  iapply (st_load c (cols_inb (h := 5) (by decide)) rfl) $$ Hv5
  iintro Hv5
  iapply (st_load c (cols_inb (h := 6) (by decide)) rfl) $$ Hk6
  iintro Hk6
  iapply (st_load c (cols_inb (h := 6) (by decide)) rfl) $$ Hv6
  iintro Hv6
  iapply (st_load c (cols_inb (h := 7) (by decide)) rfl) $$ Hk7
  iintro Hk7
  iapply (st_load c (cols_inb (h := 7) (by decide)) rfl) $$ Hv7
  iintro Hv7
  iapply (st_ret (Q := Q) c ⟨w_809 I c, w_820 I c, w_831 I c, w_836 I c, w_838 I c, w_839 I c, w_cst_584 I c⟩ rfl)
  iapply Hk
  isplitl [Hv4]; · iexact Hv4
  isplitl [Hk5]; · iexact Hk5
  isplitl [Hv5]; · iexact Hv5
  isplitl [Hk6]; · iexact Hk6
  isplitl [Hv6]; · iexact Hv6
  isplitl [Hk7]; · iexact Hk7
  iexact Hv7

abbrev p26 := k0_part26 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part26 {Q : _ → sProp 𝕄} :
    ctx (cont I) K ⊢ iprop((woR I c ∗ aAE c 2 ∗ aBE c 2 ∗ wt c 20 ∗ ow c 6)
      -∗ ((woR I c ∗ aA c 2 (sumA I c 2) ∗ aB c 2 (st65 I c) ∗ dn c 20 ∗ ow c 6 ∗ sA I c 1 (by decide))
      -∗ Q (w_c1_i32_605 I c)) -∗ WP c (p26 c (w_7 I c) (w_668 I c) (w_670 I c) (w_765 I c) (w_776 I c) (w_787 I c) (w_798 I c) (w_809 I c) (w_820 I c) (w_831 I c) (w_836 I c) (w_838 I c) (w_839 I c) (w_cst_584 I c)) Q) := by
  unfold p26; rw [k0_part26_eq_skeleton]; unfold k0_part26_skel
  simp only [semSignalWord, semWaitWord, Prog.lift, Prog.bind_op, Prog.bind_ret, Prog.pure_eq_ret, wp_deviceId]
  iintro #Hc ⟨Hwo, HaA2, HaB2, Hd20, How⟩ Hk
  iapply (st_load_in c) $$ Hwo
  iintro Hwo
  icases HaA2 with ⟨%XaA2, HaA2⟩
  iapply (st_load c (rows_inb (chA_lt c 2)) (off2E c 2)) $$ HaA2
  iintro HaA2
  iapply (st_store2 c accM (chA c 2) (chA_lt c 2) (off2E c 2) (st64 I c) rfl) $$ HaA2
  iintro HaA2
  icases HaB2 with ⟨%XaB2, HaB2⟩
  iapply (st_load c (rows_inb (chB_lt c 2)) (off3E c 2)) $$ HaB2
  iintro HaB2
  iapply (st_store2 c accM (chB c 2) (chB_lt c 2) (off3E c 2) (st65 I c) rfl) $$ HaB2
  iintro HaB2
  iapply (st_wait (cont I) K c 20 6 (P := sA I c 1 (by decide)) (payARi (cont I) c 20 1 (by decide) rfl) rfl (crSA 20 (by decide)) (by decide)) $$ Hc Hd20 How
  iintro ⟨Hd20, How, HsA1⟩
  iapply (st_load c (rows_inb (chA_lt c 2)) (off2E c 2)) $$ HaA2
  iintro HaA2
  iapply (st_load_slot c (n := 1) rfl) $$ HsA1
  iintro HsA1
  iapply (st_load c (rows_inb (chA_lt c 2)) (off2E c 2)) $$ HaA2
  iintro HaA2
  iapply (st_store2 c accM (chA c 2) (chA_lt c 2) (off2E c 2) (sumA I c 2) rfl) $$ HaA2
  iintro HaA2
  iapply (st_ret (Q := Q) c (w_c1_i32_605 I c) rfl)
  iapply Hk
  isplitl [Hwo]; · iexact Hwo
  isplitl [HaA2]; · iexact HaA2
  isplitl [HaB2]; · iexact HaB2
  isplitl [Hd20]; · iexact Hd20
  isplitl [How]; · iexact How
  iexact HsA1

abbrev p27 := k0_part27 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part27 {Q : PUnit → sProp 𝕄} :
    ctx (cont I) K ⊢ iprop((d0 c 18 ∗ tk (peer c false) 21 ∗ aA c 2 (sumA I c 2) ∗ sAE c 2 (by decide) ∗ ow c 6 ∗ wt c 26 ∗ aB c 2 (st65 I c))
      -∗ ((wt c 18 ∗ ow c 7 ∗ dn c 26 ∗ sB I c 1 (by decide) ∗ aB c 2 (sumB I c 2))
      -∗ Q ⟨⟩) -∗ WP c (p27 c (w_5 I c) (w_7 I c) (w_670 I c) (w_c1_i32_605 I c)) Q) := by
  unfold p27; rw [k0_part27_eq_skeleton]; unfold k0_part27_skel
  simp only [semSignalWord, semWaitWord, Prog.lift, Prog.bind_op, Prog.bind_ret, Prog.pure_eq_ret, wp_deviceId]
  iintro #Hc ⟨Hd18, Hp21, HaA2, HeA2, How, Hd26, HaB2⟩ Hk
  icases Hd18 with ⟨Hat, Htk⟩
  iapply (st_send (cont I) K c 18 21 6 false (X := sumA I c 2) (dev7E c) (O_dma c 6 false 21 rfl) rfl rfl (crSA 18 (by decide)) rfl (slice_congr _ (off4E c 2)) rfl (payASi (cont I) c 18 2 (by decide) rfl) (payARi' (cont I) c 21 2 (by decide) rfl)) $$ Hc [Hat Htk Hp21] HaA2 HeA2 How
  · isplitl [Hat]; · iexact Hat
    isplitl [Htk]; · iexact Htk
    iexact Hp21
  iintro ⟨Hd18, How⟩
  iapply (st_wait (cont I) K c 26 7 (P := sB I c 1 (by decide)) (payBRi (cont I) c 26 1 (by decide) rfl) rfl (crSB 26 (by decide)) (by decide)) $$ Hc Hd26 How
  iintro ⟨Hd26, How, HsB1⟩
  iapply (st_load c (rows_inb (chB_lt c 2)) (off3E c 2)) $$ HaB2
  iintro HaB2
  iapply (st_load_slot c (n := 1) rfl) $$ HsB1
  iintro HsB1
  iapply (st_load c (rows_inb (chB_lt c 2)) (off3E c 2)) $$ HaB2
  iintro HaB2
  iapply (st_store2 c accM (chB c 2) (chB_lt c 2) (off3E c 2) (sumB I c 2) rfl) $$ HaB2
  iintro HaB2
  iapply (st_ret (Q := Q) c ⟨⟩ rfl)
  iapply Hk
  isplitl [Hd18]; · iexact Hd18
  isplitl [How]; · iexact How
  isplitl [Hd26]; · iexact Hd26
  isplitl [HsB1]; · iexact HsB1
  iexact HaB2

abbrev p28 := k0_part28 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part28 {Q : _ → sProp 𝕄} :
    ctx (cont I) K ⊢ iprop((d0 c 24 ∗ tk (peer c true) 27 ∗ aB c 2 (sumB I c 2) ∗ sBE c 2 (by decide) ∗ ow c 7 ∗ xR I c ∗ wqR I c)
      -∗ ((wt c 24 ∗ ow c 8 ∗ xR I c ∗ wqR I c)
      -∗ Q ⟨w_913 I c, w_915 I c, w_927 I c, w_937 I c, w_938 I c, w_c64_i32_647 I c, w_940 I c, w_943 I c, w_945 I c⟩) -∗ WP c (p28 c (w_2 I c)) Q) := by
  unfold p28; rw [k0_part28_eq_skeleton]; unfold k0_part28_skel
  simp only [semSignalWord, semWaitWord, Prog.lift, Prog.bind_op, Prog.bind_ret, Prog.pure_eq_ret, wp_deviceId]
  iintro #Hc ⟨Hd24, Hp27, HaB2, HeB2, How, Hx, Hwq⟩ Hk
  icases Hd24 with ⟨Hat, Htk⟩
  iapply (st_send (cont I) K c 24 27 7 true (X := sumB I c 2) (dev8E c) (O_dma c 7 true 27 rfl) rfl rfl (crSB 24 (by decide)) rfl (slice_congr _ (off5E c 2)) rfl (payBSi (cont I) c 24 2 (by decide) rfl) (payBRi' (cont I) c 27 2 (by decide) rfl)) $$ Hc [Hat Htk Hp27] HaB2 HeB2 How
  · isplitl [Hat]; · iexact Hat
    isplitl [Htk]; · iexact Htk
    iexact Hp27
  iintro ⟨Hd24, How⟩
  iapply (st_load_in c) $$ Hx
  iintro Hx
  iapply (st_load_in c) $$ Hx
  iintro Hx
  iapply (st_load_in c) $$ Hwq
  iintro Hwq
  iapply (st_ret (Q := Q) c ⟨w_913 I c, w_915 I c, w_927 I c, w_937 I c, w_938 I c, w_c64_i32_647 I c, w_940 I c, w_943 I c, w_945 I c⟩ rfl)
  iapply Hk
  isplitl [Hd24]; · iexact Hd24
  isplitl [How]; · iexact How
  isplitl [Hx]; · iexact Hx
  iexact Hwq

abbrev p29 := k0_part29 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part29 {Q : _ → sProp 𝕄} :
    ctx (cont I) K ⊢ iprop((Q ⟨w_990 I c, w_991 I c, w_992 I c⟩) -∗ WP c (p29 (w_937 I c) (w_938 I c) (w_c64_i32_647 I c) (w_940 I c) (w_943 I c) (w_945 I c)) Q) := by
  unfold p29; rw [k0_part29_eq_skeleton]; unfold k0_part29_skel
  simp only [semSignalWord, semWaitWord, Prog.lift, Prog.bind_op, Prog.bind_ret, Prog.pure_eq_ret, wp_deviceId]
  iintro #Hc Hk
  iapply (st_ret (Q := Q) c ⟨w_990 I c, w_991 I c, w_992 I c⟩ rfl)
  iexact Hk

abbrev p30 := k0_part30 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part30 {Q : _ → sProp 𝕄} :
    ctx (cont I) K ⊢ iprop((kR I c 0 (by decide) ∗ vR I c 0 (by decide) ∗ kR I c 1 (by decide) ∗ vR I c 1 (by decide) ∗ kR I c 2 (by decide) ∗ vR I c 2 (by decide))
      -∗ ((kR I c 0 (by decide) ∗ vR I c 0 (by decide) ∗ kR I c 1 (by decide) ∗ vR I c 1 (by decide) ∗ kR I c 2 (by decide) ∗ vR I c 2 (by decide))
      -∗ Q ⟨w_999 I c, w_1010 I c, w_1021 I c, w_1026 I c, w_1028 I c, w_1029 I c⟩) -∗ WP c (p30 (w_927 I c) (w_990 I c) (w_991 I c) (w_992 I c)) Q) := by
  unfold p30; rw [k0_part30_eq_skeleton]; unfold k0_part30_skel
  simp only [semSignalWord, semWaitWord, Prog.lift, Prog.bind_op, Prog.bind_ret, Prog.pure_eq_ret, wp_deviceId]
  iintro #Hc ⟨Hk0, Hv0, Hk1, Hv1, Hk2, Hv2⟩ Hk
  iapply (st_load c (cols_inb (h := 0) (by decide)) rfl) $$ Hk0
  iintro Hk0
  iapply (st_load c (cols_inb (h := 0) (by decide)) rfl) $$ Hv0
  iintro Hv0
  iapply (st_load c (cols_inb (h := 1) (by decide)) rfl) $$ Hk1
  iintro Hk1
  iapply (st_load c (cols_inb (h := 1) (by decide)) rfl) $$ Hv1
  iintro Hv1
  iapply (st_load c (cols_inb (h := 2) (by decide)) rfl) $$ Hk2
  iintro Hk2
  iapply (st_load c (cols_inb (h := 2) (by decide)) rfl) $$ Hv2
  iintro Hv2
  iapply (st_ret (Q := Q) c ⟨w_999 I c, w_1010 I c, w_1021 I c, w_1026 I c, w_1028 I c, w_1029 I c⟩ rfl)
  iapply Hk
  isplitl [Hk0]; · iexact Hk0
  isplitl [Hv0]; · iexact Hv0
  isplitl [Hk1]; · iexact Hk1
  isplitl [Hv1]; · iexact Hv1
  isplitl [Hk2]; · iexact Hk2
  iexact Hv2

end Cert.Ring
-- ==== Proof.Parts3.lean ====
module

public import proofs.«01_k».proof.Proof.Windows

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 77 → ℕ) (c : Dev nD)

abbrev p31 := k0_part31 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part31 {Q : _ → sProp 𝕄} :
    ctx (cont I) K ⊢ iprop((kR I c 3 (by decide) ∗ vR I c 3 (by decide) ∗ kR I c 4 (by decide) ∗ vR I c 4 (by decide) ∗ kR I c 5 (by decide) ∗ vR I c 5 (by decide))
      -∗ ((kR I c 3 (by decide) ∗ vR I c 3 (by decide) ∗ kR I c 4 (by decide) ∗ vR I c 4 (by decide) ∗ kR I c 5 (by decide) ∗ vR I c 5 (by decide))
      -∗ Q ⟨w_1032 I c, w_1043 I c, w_1054 I c, w_1065 I c, w_1066 I c⟩) -∗ WP c (p31 (w_927 I c) (w_999 I c) (w_1026 I c) (w_1028 I c) (w_1029 I c)) Q) := by
  unfold p31; rw [k0_part31_eq_skeleton]; unfold k0_part31_skel
  simp only [semSignalWord, semWaitWord, Prog.lift, Prog.bind_op, Prog.bind_ret, Prog.pure_eq_ret, wp_deviceId]
  iintro #Hc ⟨Hk3, Hv3, Hk4, Hv4, Hk5, Hv5⟩ Hk
  iapply (st_load c (cols_inb (h := 3) (by decide)) rfl) $$ Hk3
  iintro Hk3
  iapply (st_load c (cols_inb (h := 3) (by decide)) rfl) $$ Hv3
  iintro Hv3
  iapply (st_load c (cols_inb (h := 4) (by decide)) rfl) $$ Hk4
  iintro Hk4
  iapply (st_load c (cols_inb (h := 4) (by decide)) rfl) $$ Hv4
  iintro Hv4
  iapply (st_load c (cols_inb (h := 5) (by decide)) rfl) $$ Hk5
  iintro Hk5
  iapply (st_load c (cols_inb (h := 5) (by decide)) rfl) $$ Hv5
  iintro Hv5
  iapply (st_ret (Q := Q) c ⟨w_1032 I c, w_1043 I c, w_1054 I c, w_1065 I c, w_1066 I c⟩ rfl)
  iapply Hk
  isplitl [Hk3]; · iexact Hk3
  isplitl [Hv3]; · iexact Hv3
  isplitl [Hk4]; · iexact Hk4
  isplitl [Hv4]; · iexact Hv4
  isplitl [Hk5]; · iexact Hk5
  iexact Hv5

abbrev p32 := k0_part32 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part32 {Q : _ → sProp 𝕄} :
    ctx (cont I) K ⊢ iprop((kR I c 6 (by decide) ∗ vR I c 6 (by decide) ∗ kR I c 7 (by decide) ∗ vR I c 7 (by decide) ∗ woR I c ∗ aAE c 3 ∗ aBE c 3)
      -∗ ((kR I c 6 (by decide) ∗ vR I c 6 (by decide) ∗ kR I c 7 (by decide) ∗ vR I c 7 (by decide) ∗ woR I c ∗ aA c 3 (st89 I c) ∗ aB c 3 (st90 I c))
      -∗ Q (w_c1_i32_730 I c)) -∗ WP c (p32 c (w_913 I c) (w_915 I c) (w_927 I c) (w_999 I c) (w_1010 I c) (w_1021 I c) (w_1032 I c) (w_1043 I c) (w_1054 I c) (w_1065 I c) (w_1066 I c)) Q) := by
  unfold p32; rw [k0_part32_eq_skeleton]; unfold k0_part32_skel
  simp only [semSignalWord, semWaitWord, Prog.lift, Prog.bind_op, Prog.bind_ret, Prog.pure_eq_ret, wp_deviceId]
  iintro #Hc ⟨Hk6, Hv6, Hk7, Hv7, Hwo, HaA3, HaB3⟩ Hk
  iapply (st_load c (cols_inb (h := 6) (by decide)) rfl) $$ Hk6
  iintro Hk6
  iapply (st_load c (cols_inb (h := 6) (by decide)) rfl) $$ Hv6
  iintro Hv6
  iapply (st_load c (cols_inb (h := 7) (by decide)) rfl) $$ Hk7
  iintro Hk7
  iapply (st_load c (cols_inb (h := 7) (by decide)) rfl) $$ Hv7
  iintro Hv7
  iapply (st_load_in c) $$ Hwo
  iintro Hwo
  icases HaA3 with ⟨%XaA3, HaA3⟩
  iapply (st_load c (rows_inb (chA_lt c 3)) (off2E c 3)) $$ HaA3
  iintro HaA3
  iapply (st_store2 c accM (chA c 3) (chA_lt c 3) (off2E c 3) (st89 I c) rfl) $$ HaA3
  iintro HaA3
  icases HaB3 with ⟨%XaB3, HaB3⟩
  iapply (st_load c (rows_inb (chB_lt c 3)) (off3E c 3)) $$ HaB3
  iintro HaB3
  iapply (st_store2 c accM (chB c 3) (chB_lt c 3) (off3E c 3) (st90 I c) rfl) $$ HaB3
  iintro HaB3
  iapply (st_ret (Q := Q) c (w_c1_i32_730 I c) rfl)
  iapply Hk
  isplitl [Hk6]; · iexact Hk6
  isplitl [Hv6]; · iexact Hv6
  isplitl [Hk7]; · iexact Hk7
  isplitl [Hv7]; · iexact Hv7
  isplitl [Hwo]; · iexact Hwo
  isplitl [HaA3]; · iexact HaA3
  iexact HaB3

abbrev p33 := k0_part33 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part33 {Q : _ → sProp 𝕄} :
    ctx (cont I) K ⊢ iprop((wt c 21 ∗ ow c 8 ∗ aA c 3 (st89 I c) ∗ wt c 27 ∗ aB c 3 (st90 I c))
      -∗ ((dn c 21 ∗ ow c 8 ∗ sA I c 2 (by decide) ∗ aA c 3 (sumA I c 3) ∗ dn c 27 ∗ sB I c 2 (by decide) ∗ aB c 3 (sumB I c 3))
      -∗ Q (w_1135 I c)) -∗ WP c (p33 c (w_2 I c) (w_5 I c) (w_7 I c) (w_913 I c) (w_915 I c) (w_c1_i32_730 I c)) Q) := by
  unfold p33; rw [k0_part33_eq_skeleton]; unfold k0_part33_skel
  simp only [semSignalWord, semWaitWord, Prog.lift, Prog.bind_op, Prog.bind_ret, Prog.pure_eq_ret, wp_deviceId]
  iintro #Hc ⟨Hd21, How, HaA3, Hd27, HaB3⟩ Hk
  iapply (st_wait (cont I) K c 21 8 (P := sA I c 2 (by decide)) (payARi (cont I) c 21 2 (by decide) rfl) rfl (crSA 21 (by decide)) (by decide)) $$ Hc Hd21 How
  iintro ⟨Hd21, How, HsA2⟩
  iapply (st_load c (rows_inb (chA_lt c 3)) (off2E c 3)) $$ HaA3
  iintro HaA3
  iapply (st_load_slot c (n := 2) rfl) $$ HsA2
  iintro HsA2
  iapply (st_load c (rows_inb (chA_lt c 3)) (off2E c 3)) $$ HaA3
  iintro HaA3
  iapply (st_store2 c accM (chA c 3) (chA_lt c 3) (off2E c 3) (sumA I c 3) rfl) $$ HaA3
  iintro HaA3
  iapply (st_wait (cont I) K c 27 8 (P := sB I c 2 (by decide)) (payBRi (cont I) c 27 2 (by decide) rfl) rfl (crSB 27 (by decide)) (by decide)) $$ Hc Hd27 How
  iintro ⟨Hd27, How, HsB2⟩
  iapply (st_load c (rows_inb (chB_lt c 3)) (off3E c 3)) $$ HaB3
  iintro HaB3
  iapply (st_load_slot c (n := 2) rfl) $$ HsB2
  iintro HsB2
  iapply (st_load c (rows_inb (chB_lt c 3)) (off3E c 3)) $$ HaB3
  iintro HaB3
  iapply (st_store2 c accM (chB c 3) (chB_lt c 3) (off3E c 3) (sumB I c 3) rfl) $$ HaB3
  iintro HaB3
  iapply (st_ret (Q := Q) c (w_1135 I c) rfl)
  iapply Hk
  isplitl [Hd21]; · iexact Hd21
  isplitl [How]; · iexact How
  isplitl [HsA2]; · iexact HsA2
  isplitl [HaA3]; · iexact HaA3
  isplitl [Hd27]; · iexact Hd27
  isplitl [HsB2]; · iexact HsB2
  iexact HaB3

abbrev p34 := k0_part34 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part34 {Q : _ → sProp 𝕄} :
    ctx (cont I) K ⊢ iprop((aA c 3 (sumA I c 3) ∗ gAE c ∗ aB c 3 (sumB I c 3) ∗ gBE c)
      -∗ ((aA c 3 (sumA I c 3) ∗ gA I c 3 ∗ aB c 3 (sumB I c 3) ∗ gB I c 3)
      -∗ Q ⟨w_1136 I c, w_1139 I c, w_1140 I c, w_1142 I c, w_1157 I c, w_1159 I c, w_1163 I c, w_1166 I c, w_1167 I c⟩) -∗ WP c (p34 c (w_2 I c) (w_1135 I c)) Q) := by
  unfold p34; rw [k0_part34_eq_skeleton]; unfold k0_part34_skel
  simp only [semSignalWord, semWaitWord, Prog.lift, Prog.bind_op, Prog.bind_ret, Prog.pure_eq_ret, wp_deviceId]
  iintro #Hc ⟨HaA3, HgA3, HaB3, HgB3⟩ Hk
  iapply (st_load c (rows_inb (chA_lt c 3)) (off6E c)) $$ HaA3
  iintro HaA3
  icases HgA3 with ⟨%XgA3, HgA3⟩
  iapply (st_load c (rows_inb (chA_lt c 3)) (off6E c)) $$ HgA3
  iintro HgA3
  iapply (st_store2 c gathM (chA c 3) (chA_lt c 3) (off6E c) (gC I (chA c 3)) (gC_A I c).symm) $$ HgA3
  iintro HgA3
  iapply (st_load c (rows_inb (chB_lt c 3)) (off7E c)) $$ HaB3
  iintro HaB3
  icases HgB3 with ⟨%XgB3, HgB3⟩
  iapply (st_load c (rows_inb (chB_lt c 3)) (off7E c)) $$ HgB3
  iintro HgB3
  iapply (st_store2 c gathM (chB c 3) (chB_lt c 3) (off7E c) (gC I (chB c 3)) (gC_B I c).symm) $$ HgB3
  iintro HgB3
  iapply (st_ret (Q := Q) c ⟨w_1136 I c, w_1139 I c, w_1140 I c, w_1142 I c, w_1157 I c, w_1159 I c, w_1163 I c, w_1166 I c, w_1167 I c⟩ rfl)
  iapply Hk
  isplitl [HaA3]; · iexact HaA3
  isplitl [HgA3]; · iexact HgA3
  isplitl [HaB3]; · iexact HaB3
  iexact HgB3

abbrev p35 := k0_part35 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part35 {Q : _ → sProp 𝕄} :
    ctx (cont I) K ⊢ iprop((d0 c 28 ∗ tk (peer c false) 40 ∗ lA I c 3 0 (by decide) ∗ pA c 3 0 (by decide) ∗ ow c 8 ∗ d0 c 52 ∗ tk (peer c true) 64 ∗ lB I c 3 0 (by decide) ∗ pB c 3 0 (by decide))
      -∗ ((wt c 28 ∗ ow c 10 ∗ wt c 52)
      -∗ Q (w_1197 I c)) -∗ WP c (p35 c (w_5 I c) (w_7 I c) (w_1157 I c) (w_1159 I c) (w_1163 I c) (w_1166 I c) (w_1167 I c)) Q) := by
  unfold p35; rw [k0_part35_eq_skeleton]; unfold k0_part35_skel
  simp only [semSignalWord, semWaitWord, Prog.lift, Prog.bind_op, Prog.bind_ret, Prog.pure_eq_ret, wp_deviceId]
  iintro #Hc ⟨Hd28, Hp40, HlA3_0, HpA3_0, How, Hd52, Hp64, HlB3_0, HpB3_0⟩ Hk
  icases Hd28 with ⟨Hat, Htk⟩
  iapply (st_send (cont I) K c 28 40 8 false (X := quarter 0 _ (gC I (chA c 3))) (q := fullShare.left) (dev9E c) (O_dma c 8 false 40 rfl) rfl rfl (crG 28 (by decide)) rfl (src' := subW gathM (chA c 3) 0 (chA_lt c 3) _) (slice_congr _ (off8i c 0 0 3 (by decide) (by decide) rfl rfl rfl)) (dst' := subW gathM (chA c 3) 0 (chA_lt c 3) _) (slice_congr _ (off8i c 0 0 3 (by decide) (by decide) rfl rfl rfl)) (payLA I c 28 0 0 3 (by decide) _ rfl rfl) (payPA I c 40 0 0 3 (by decide) _ rfl rfl)) $$ Hc [Hat Htk Hp40] HlA3_0 HpA3_0 How
  · isplitl [Hat]; · iexact Hat
    isplitl [Htk]; · iexact Htk
    iexact Hp40
  iintro ⟨Hd28, How⟩
  icases Hd52 with ⟨Hat, Htk⟩
  iapply (st_send (cont I) K c 52 64 9 true (X := quarter 0 _ (gC I (chB c 3))) (q := fullShare.left) (dev10E c) (O_dma c 9 true 64 rfl) rfl rfl (crG 52 (by decide)) rfl (src' := subW gathM (chB c 3) 0 (chB_lt c 3) _) (slice_congr _ (off9i c 0 0 3 (by decide) (by decide) rfl rfl rfl)) (dst' := subW gathM (chB c 3) 0 (chB_lt c 3) _) (slice_congr _ (off9i c 0 0 3 (by decide) (by decide) rfl rfl rfl)) (payLB I c 52 0 0 3 (by decide) _ rfl rfl) (payPB I c 64 0 0 3 (by decide) _ rfl rfl)) $$ Hc [Hat Htk Hp64] HlB3_0 HpB3_0 How
  · isplitl [Hat]; · iexact Hat
    isplitl [Htk]; · iexact Htk
    iexact Hp64
  iintro ⟨Hd52, How⟩
  iapply (st_ret (Q := Q) c (w_1197 I c) rfl)
  iapply Hk
  isplitl [Hd28]; · iexact Hd28
  isplitl [How]; · iexact How
  iexact Hd52

abbrev p36 := k0_part36 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part36 {Q : PUnit → sProp 𝕄} :
    ctx (cont I) K ⊢ iprop((d0 c 29 ∗ tk (peer c false) 41 ∗ lA I c 3 1 (by decide) ∗ pA c 3 1 (by decide) ∗ ow c 10 ∗ d0 c 53 ∗ tk (peer c true) 65 ∗ lB I c 3 1 (by decide) ∗ pB c 3 1 (by decide))
      -∗ ((wt c 29 ∗ ow c 12 ∗ wt c 53)
      -∗ Q ⟨⟩) -∗ WP c (p36 c (w_5 I c) (w_7 I c) (w_1159 I c) (w_1163 I c) (w_1166 I c) (w_1197 I c)) Q) := by
  unfold p36; rw [k0_part36_eq_skeleton]; unfold k0_part36_skel
  simp only [semSignalWord, semWaitWord, Prog.lift, Prog.bind_op, Prog.bind_ret, Prog.pure_eq_ret, wp_deviceId]
  iintro #Hc ⟨Hd29, Hp41, HlA3_1, HpA3_1, How, Hd53, Hp65, HlB3_1, HpB3_1⟩ Hk
  icases Hd29 with ⟨Hat, Htk⟩
  iapply (st_send (cont I) K c 29 41 10 false (X := quarter 1 _ (gC I (chA c 3))) (q := fullShare.left) (dev11E c) (O_dma c 10 false 41 rfl) rfl rfl (crG 29 (by decide)) rfl (src' := subW gathM (chA c 3) 1 (chA_lt c 3) _) (slice_congr _ (off8i c 0 1 3 (by decide) (by decide) rfl rfl rfl)) (dst' := subW gathM (chA c 3) 1 (chA_lt c 3) _) (slice_congr _ (off8i c 0 1 3 (by decide) (by decide) rfl rfl rfl)) (payLA I c 29 0 1 3 (by decide) _ rfl rfl) (payPA I c 41 0 1 3 (by decide) _ rfl rfl)) $$ Hc [Hat Htk Hp41] HlA3_1 HpA3_1 How
  · isplitl [Hat]; · iexact Hat
    isplitl [Htk]; · iexact Htk
    iexact Hp41
  iintro ⟨Hd29, How⟩
  icases Hd53 with ⟨Hat, Htk⟩
  iapply (st_send (cont I) K c 53 65 11 true (X := quarter 1 _ (gC I (chB c 3))) (q := fullShare.left) (dev12E c) (O_dma c 11 true 65 rfl) rfl rfl (crG 53 (by decide)) rfl (src' := subW gathM (chB c 3) 1 (chB_lt c 3) _) (slice_congr _ (off9i c 0 1 3 (by decide) (by decide) rfl rfl rfl)) (dst' := subW gathM (chB c 3) 1 (chB_lt c 3) _) (slice_congr _ (off9i c 0 1 3 (by decide) (by decide) rfl rfl rfl)) (payLB I c 53 0 1 3 (by decide) _ rfl rfl) (payPB I c 65 0 1 3 (by decide) _ rfl rfl)) $$ Hc [Hat Htk Hp65] HlB3_1 HpB3_1 How
  · isplitl [Hat]; · iexact Hat
    isplitl [Htk]; · iexact Htk
    iexact Hp65
  iintro ⟨Hd53, How⟩
  iapply (st_ret (Q := Q) c ⟨⟩ rfl)
  iapply Hk
  isplitl [Hd29]; · iexact Hd29
  isplitl [How]; · iexact How
  iexact Hd53

abbrev p37 := k0_part37 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part37 {Q : _ → sProp 𝕄} :
    ctx (cont I) K ⊢ iprop((d0 c 30 ∗ tk (peer c false) 42 ∗ lA I c 3 2 (by decide) ∗ pA c 3 2 (by decide) ∗ ow c 12 ∗ d0 c 54 ∗ tk (peer c true) 66 ∗ lB I c 3 2 (by decide) ∗ pB c 3 2 (by decide))
      -∗ ((wt c 30 ∗ ow c 14 ∗ wt c 54)
      -∗ Q (w_1254 I c)) -∗ WP c (p37 c (w_5 I c) (w_7 I c) (w_1157 I c) (w_1159 I c) (w_1163 I c) (w_1166 I c)) Q) := by
  unfold p37; rw [k0_part37_eq_skeleton]; unfold k0_part37_skel
  simp only [semSignalWord, semWaitWord, Prog.lift, Prog.bind_op, Prog.bind_ret, Prog.pure_eq_ret, wp_deviceId]
  iintro #Hc ⟨Hd30, Hp42, HlA3_2, HpA3_2, How, Hd54, Hp66, HlB3_2, HpB3_2⟩ Hk
  icases Hd30 with ⟨Hat, Htk⟩
  iapply (st_send (cont I) K c 30 42 12 false (X := quarter 2 _ (gC I (chA c 3))) (q := fullShare.left) (dev13E c) (O_dma c 12 false 42 rfl) rfl rfl (crG 30 (by decide)) rfl (src' := subW gathM (chA c 3) 2 (chA_lt c 3) _) (slice_congr _ (off8i c 0 2 3 (by decide) (by decide) rfl rfl rfl)) (dst' := subW gathM (chA c 3) 2 (chA_lt c 3) _) (slice_congr _ (off8i c 0 2 3 (by decide) (by decide) rfl rfl rfl)) (payLA I c 30 0 2 3 (by decide) _ rfl rfl) (payPA I c 42 0 2 3 (by decide) _ rfl rfl)) $$ Hc [Hat Htk Hp42] HlA3_2 HpA3_2 How
  · isplitl [Hat]; · iexact Hat
    isplitl [Htk]; · iexact Htk
    iexact Hp42
  iintro ⟨Hd30, How⟩
  icases Hd54 with ⟨Hat, Htk⟩
  iapply (st_send (cont I) K c 54 66 13 true (X := quarter 2 _ (gC I (chB c 3))) (q := fullShare.left) (dev14E c) (O_dma c 13 true 66 rfl) rfl rfl (crG 54 (by decide)) rfl (src' := subW gathM (chB c 3) 2 (chB_lt c 3) _) (slice_congr _ (off9i c 0 2 3 (by decide) (by decide) rfl rfl rfl)) (dst' := subW gathM (chB c 3) 2 (chB_lt c 3) _) (slice_congr _ (off9i c 0 2 3 (by decide) (by decide) rfl rfl rfl)) (payLB I c 54 0 2 3 (by decide) _ rfl rfl) (payPB I c 66 0 2 3 (by decide) _ rfl rfl)) $$ Hc [Hat Htk Hp66] HlB3_2 HpB3_2 How
  · isplitl [Hat]; · iexact Hat
    isplitl [Htk]; · iexact Htk
    iexact Hp66
  iintro ⟨Hd54, How⟩
  iapply (st_ret (Q := Q) c (w_1254 I c) rfl)
  iapply Hk
  isplitl [Hd30]; · iexact Hd30
  isplitl [How]; · iexact How
  iexact Hd54

abbrev p38 := k0_part38 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part38 {Q : _ → sProp 𝕄} :
    ctx (cont I) K ⊢ iprop((d0 c 31 ∗ tk (peer c false) 43 ∗ lA I c 3 3 (by decide) ∗ pA c 3 3 (by decide) ∗ ow c 14 ∗ d0 c 55 ∗ tk (peer c true) 67 ∗ lB I c 3 3 (by decide) ∗ pB c 3 3 (by decide))
      -∗ ((wt c 31 ∗ ow c 16 ∗ wt c 55)
      -∗ Q (w_1284 I c)) -∗ WP c (p38 c (w_5 I c) (w_7 I c) (w_1157 I c) (w_1159 I c) (w_1163 I c) (w_1166 I c) (w_1254 I c)) Q) := by
  unfold p38; rw [k0_part38_eq_skeleton]; unfold k0_part38_skel
  simp only [semSignalWord, semWaitWord, Prog.lift, Prog.bind_op, Prog.bind_ret, Prog.pure_eq_ret, wp_deviceId]
  iintro #Hc ⟨Hd31, Hp43, HlA3_3, HpA3_3, How, Hd55, Hp67, HlB3_3, HpB3_3⟩ Hk
  icases Hd31 with ⟨Hat, Htk⟩
  iapply (st_send (cont I) K c 31 43 14 false (X := quarter 3 _ (gC I (chA c 3))) (q := fullShare.left) (dev15E c) (O_dma c 14 false 43 rfl) rfl rfl (crG 31 (by decide)) rfl (src' := subW gathM (chA c 3) 3 (chA_lt c 3) _) (slice_congr _ (off8i c 0 3 3 (by decide) (by decide) rfl rfl rfl)) (dst' := subW gathM (chA c 3) 3 (chA_lt c 3) _) (slice_congr _ (off8i c 0 3 3 (by decide) (by decide) rfl rfl rfl)) (payLA I c 31 0 3 3 (by decide) _ rfl rfl) (payPA I c 43 0 3 3 (by decide) _ rfl rfl)) $$ Hc [Hat Htk Hp43] HlA3_3 HpA3_3 How
  · isplitl [Hat]; · iexact Hat
    isplitl [Htk]; · iexact Htk
    iexact Hp43
  iintro ⟨Hd31, How⟩
  icases Hd55 with ⟨Hat, Htk⟩
  iapply (st_send (cont I) K c 55 67 15 true (X := quarter 3 _ (gC I (chB c 3))) (q := fullShare.left) (dev16E c) (O_dma c 15 true 67 rfl) rfl rfl (crG 55 (by decide)) rfl (src' := subW gathM (chB c 3) 3 (chB_lt c 3) _) (slice_congr _ (off9i c 0 3 3 (by decide) (by decide) rfl rfl rfl)) (dst' := subW gathM (chB c 3) 3 (chB_lt c 3) _) (slice_congr _ (off9i c 0 3 3 (by decide) (by decide) rfl rfl rfl)) (payLB I c 55 0 3 3 (by decide) _ rfl rfl) (payPB I c 67 0 3 3 (by decide) _ rfl rfl)) $$ Hc [Hat Htk Hp67] HlB3_3 HpB3_3 How
  · isplitl [Hat]; · iexact Hat
    isplitl [Htk]; · iexact Htk
    iexact Hp67
  iintro ⟨Hd55, How⟩
  iapply (st_ret (Q := Q) c (w_1284 I c) rfl)
  iapply Hk
  isplitl [Hd31]; · iexact Hd31
  isplitl [How]; · iexact How
  iexact Hd55

abbrev p39 := k0_part39 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part39 {Q : _ → sProp 𝕄} :
    ctx (cont I) K ⊢ iprop((wt c 40 ∗ ow c 16)
      -∗ ((dn c 40 ∗ ow c 16 ∗ lA I c 4 0 (by decide) ∗ hA I c 0 0 (by decide))
      -∗ Q ⟨w_1289 I c, w_1291 I c, w_1295 I c, w_1298 I c⟩) -∗ WP c (p39 c (w_5 I c) (w_7 I c) (w_1136 I c) (w_1139 I c) (w_1284 I c)) Q) := by
  unfold p39; rw [k0_part39_eq_skeleton]; unfold k0_part39_skel
  simp only [semSignalWord, semWaitWord, Prog.lift, Prog.bind_op, Prog.bind_ret, Prog.pure_eq_ret, wp_deviceId]
  iintro #Hc ⟨Hd40, How⟩ Hk
  iapply (st_wait (cont I) K c 40 16 (P := fA I c 0 0 (by decide)) (payGARi (cont I) c 40 0 0 (by decide) (by decide) rfl) rfl (crG 40 (by decide)) (by decide)) $$ Hc Hd40 How
  iintro ⟨Hd40, How, HfA0_0⟩
  icases (split_fA I c 0 0 _ (by decide)) $$ HfA0_0 with ⟨HlA4_0, HhA0_0⟩
  iapply (st_ret (Q := Q) c ⟨w_1289 I c, w_1291 I c, w_1295 I c, w_1298 I c⟩ rfl)
  iapply Hk
  isplitl [Hd40]; · iexact Hd40
  isplitl [How]; · iexact How
  isplitl [HlA4_0]; · iexact HlA4_0
  iexact HhA0_0

abbrev p40 := k0_part40 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part40 {Q : PUnit → sProp 𝕄} :
    ctx (cont I) K ⊢ iprop((d0 c 32 ∗ tk (peer c false) 44 ∗ lA I c 4 0 (by decide) ∗ pA c 4 0 (by decide) ∗ ow c 16 ∗ wt c 64 ∗ d0 c 56 ∗ tk (peer c true) 68 ∗ pB c 4 0 (by decide))
      -∗ ((wt c 32 ∗ ow c 18 ∗ dn c 64 ∗ hB I c 0 0 (by decide) ∗ wt c 56)
      -∗ Q ⟨⟩) -∗ WP c (p40 c (w_5 I c) (w_7 I c) (w_1291 I c) (w_1295 I c) (w_1298 I c)) Q) := by
  unfold p40; rw [k0_part40_eq_skeleton]; unfold k0_part40_skel
  simp only [semSignalWord, semWaitWord, Prog.lift, Prog.bind_op, Prog.bind_ret, Prog.pure_eq_ret, wp_deviceId]
  iintro #Hc ⟨Hd32, Hp44, HlA4_0, HpA4_0, How, Hd64, Hd56, Hp68, HpB4_0⟩ Hk
  icases Hd32 with ⟨Hat, Htk⟩
  iapply (st_send (cont I) K c 32 44 16 false (X := quarter 0 _ (gC I (chA c 4))) (q := fullShare.left) (dev17E c) (O_dma c 16 false 44 rfl) rfl rfl (crG 32 (by decide)) rfl (src' := subW gathM (chA c 4) 0 (chA_lt c 4) _) (slice_congr _ (off8i c 1 0 4 (by decide) (by decide) rfl rfl rfl)) (dst' := subW gathM (chA c 4) 0 (chA_lt c 4) _) (slice_congr _ (off8i c 1 0 4 (by decide) (by decide) rfl rfl rfl)) (payLA I c 32 1 0 4 (by decide) _ rfl rfl) (payPA I c 44 1 0 4 (by decide) _ rfl rfl)) $$ Hc [Hat Htk Hp44] HlA4_0 HpA4_0 How
  · isplitl [Hat]; · iexact Hat
    isplitl [Htk]; · iexact Htk
    iexact Hp44
  iintro ⟨Hd32, How⟩
  iapply (st_wait (cont I) K c 64 17 (P := fB I c 0 0 (by decide)) (payGBRi (cont I) c 64 0 0 (by decide) (by decide) rfl) rfl (crG 64 (by decide)) (by decide)) $$ Hc Hd64 How
  iintro ⟨Hd64, How, HfB0_0⟩
  icases (split_fB I c 0 0 _ (by decide)) $$ HfB0_0 with ⟨HlB4_0, HhB0_0⟩
  icases Hd56 with ⟨Hat, Htk⟩
  iapply (st_send (cont I) K c 56 68 17 true (X := quarter 0 _ (gC I (chB c 4))) (q := fullShare.left) (dev18E c) (O_dma c 17 true 68 rfl) rfl rfl (crG 56 (by decide)) rfl (src' := subW gathM (chB c 4) 0 (chB_lt c 4) _) (slice_congr _ (off9i c 1 0 4 (by decide) (by decide) rfl rfl rfl)) (dst' := subW gathM (chB c 4) 0 (chB_lt c 4) _) (slice_congr _ (off9i c 1 0 4 (by decide) (by decide) rfl rfl rfl)) (payLB I c 56 1 0 4 (by decide) _ rfl rfl) (payPB I c 68 1 0 4 (by decide) _ rfl rfl)) $$ Hc [Hat Htk Hp68] HlB4_0 HpB4_0 How
  · isplitl [Hat]; · iexact Hat
    isplitl [Htk]; · iexact Htk
    iexact Hp68
  iintro ⟨Hd56, How⟩
  iapply (st_ret (Q := Q) c ⟨⟩ rfl)
  iapply Hk
  isplitl [Hd32]; · iexact Hd32
  isplitl [How]; · iexact How
  isplitl [Hd64]; · iexact Hd64
  isplitl [HhB0_0]; · iexact HhB0_0
  iexact Hd56

end Cert.Ring
-- ==== Proof.Parts4.lean ====
module

public import proofs.«01_k».proof.Proof.Windows

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 77 → ℕ) (c : Dev nD)

abbrev p41 := k0_part41 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part41 {Q : _ → sProp 𝕄} :
    ctx (cont I) K ⊢ iprop((wt c 41 ∗ ow c 18 ∗ d0 c 33 ∗ tk (peer c false) 45 ∗ pA c 4 1 (by decide) ∗ wt c 65)
      -∗ ((dn c 41 ∗ ow c 19 ∗ hA I c 0 1 (by decide) ∗ wt c 33 ∗ dn c 65 ∗ lB I c 4 1 (by decide) ∗ hB I c 0 1 (by decide))
      -∗ Q (w_c4_i32_982 I c)) -∗ WP c (p41 c (w_5 I c) (w_7 I c) (w_1289 I c) (w_1295 I c)) Q) := by
  unfold p41; rw [k0_part41_eq_skeleton]; unfold k0_part41_skel
  simp only [semSignalWord, semWaitWord, Prog.lift, Prog.bind_op, Prog.bind_ret, Prog.pure_eq_ret, wp_deviceId]
  iintro #Hc ⟨Hd41, How, Hd33, Hp45, HpA4_1, Hd65⟩ Hk
  iapply (st_wait (cont I) K c 41 18 (P := fA I c 0 1 (by decide)) (payGARi (cont I) c 41 0 1 (by decide) (by decide) rfl) rfl (crG 41 (by decide)) (by decide)) $$ Hc Hd41 How
  iintro ⟨Hd41, How, HfA0_1⟩
  icases (split_fA I c 0 1 _ (by decide)) $$ HfA0_1 with ⟨HlA4_1, HhA0_1⟩
  icases Hd33 with ⟨Hat, Htk⟩
  iapply (st_send (cont I) K c 33 45 18 false (X := quarter 1 _ (gC I (chA c 4))) (q := fullShare.left) (dev19E c) (O_dma c 18 false 45 rfl) rfl rfl (crG 33 (by decide)) rfl (src' := subW gathM (chA c 4) 1 (chA_lt c 4) _) (slice_congr _ (off8i c 1 1 4 (by decide) (by decide) rfl rfl rfl)) (dst' := subW gathM (chA c 4) 1 (chA_lt c 4) _) (slice_congr _ (off8i c 1 1 4 (by decide) (by decide) rfl rfl rfl)) (payLA I c 33 1 1 4 (by decide) _ rfl rfl) (payPA I c 45 1 1 4 (by decide) _ rfl rfl)) $$ Hc [Hat Htk Hp45] HlA4_1 HpA4_1 How
  · isplitl [Hat]; · iexact Hat
    isplitl [Htk]; · iexact Htk
    iexact Hp45
  iintro ⟨Hd33, How⟩
  iapply (st_wait (cont I) K c 65 19 (P := fB I c 0 1 (by decide)) (payGBRi (cont I) c 65 0 1 (by decide) (by decide) rfl) rfl (crG 65 (by decide)) (by decide)) $$ Hc Hd65 How
  iintro ⟨Hd65, How, HfB0_1⟩
  icases (split_fB I c 0 1 _ (by decide)) $$ HfB0_1 with ⟨HlB4_1, HhB0_1⟩
  iapply (st_ret (Q := Q) c (w_c4_i32_982 I c) rfl)
  iapply Hk
  isplitl [Hd41]; · iexact Hd41
  isplitl [How]; · iexact How
  isplitl [HhA0_1]; · iexact HhA0_1
  isplitl [Hd33]; · iexact Hd33
  isplitl [Hd65]; · iexact Hd65
  isplitl [HlB4_1]; · iexact HlB4_1
  iexact HhB0_1

abbrev p42 := k0_part42 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part42 {Q : _ → sProp 𝕄} :
    ctx (cont I) K ⊢ iprop((d0 c 57 ∗ tk (peer c true) 69 ∗ lB I c 4 1 (by decide) ∗ pB c 4 1 (by decide) ∗ ow c 19 ∗ wt c 42)
      -∗ ((wt c 57 ∗ ow c 20 ∗ dn c 42 ∗ lA I c 4 2 (by decide) ∗ hA I c 0 2 (by decide))
      -∗ Q ⟨w_1392 I c, w_c0_i32_1014 I c⟩) -∗ WP c (p42 c (w_5 I c) (w_7 I c) (w_1289 I c) (w_1291 I c) (w_1298 I c) (w_c4_i32_982 I c)) Q) := by
  unfold p42; rw [k0_part42_eq_skeleton]; unfold k0_part42_skel
  simp only [semSignalWord, semWaitWord, Prog.lift, Prog.bind_op, Prog.bind_ret, Prog.pure_eq_ret, wp_deviceId]
  iintro #Hc ⟨Hd57, Hp69, HlB4_1, HpB4_1, How, Hd42⟩ Hk
  icases Hd57 with ⟨Hat, Htk⟩
  iapply (st_send (cont I) K c 57 69 19 true (X := quarter 1 _ (gC I (chB c 4))) (q := fullShare.left) (dev20E c) (O_dma c 19 true 69 rfl) rfl rfl (crG 57 (by decide)) rfl (src' := subW gathM (chB c 4) 1 (chB_lt c 4) _) (slice_congr _ (off9i c 1 1 4 (by decide) (by decide) rfl rfl rfl)) (dst' := subW gathM (chB c 4) 1 (chB_lt c 4) _) (slice_congr _ (off9i c 1 1 4 (by decide) (by decide) rfl rfl rfl)) (payLB I c 57 1 1 4 (by decide) _ rfl rfl) (payPB I c 69 1 1 4 (by decide) _ rfl rfl)) $$ Hc [Hat Htk Hp69] HlB4_1 HpB4_1 How
  · isplitl [Hat]; · iexact Hat
    isplitl [Htk]; · iexact Htk
    iexact Hp69
  iintro ⟨Hd57, How⟩
  iapply (st_wait (cont I) K c 42 20 (P := fA I c 0 2 (by decide)) (payGARi (cont I) c 42 0 2 (by decide) (by decide) rfl) rfl (crG 42 (by decide)) (by decide)) $$ Hc Hd42 How
  iintro ⟨Hd42, How, HfA0_2⟩
  icases (split_fA I c 0 2 _ (by decide)) $$ HfA0_2 with ⟨HlA4_2, HhA0_2⟩
  iapply (st_ret (Q := Q) c ⟨w_1392 I c, w_c0_i32_1014 I c⟩ rfl)
  iapply Hk
  isplitl [Hd57]; · iexact Hd57
  isplitl [How]; · iexact How
  isplitl [Hd42]; · iexact Hd42
  isplitl [HlA4_2]; · iexact HlA4_2
  iexact HhA0_2

abbrev p43 := k0_part43 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part43 {Q : _ → sProp 𝕄} :
    ctx (cont I) K ⊢ iprop((d0 c 34 ∗ tk (peer c false) 46 ∗ lA I c 4 2 (by decide) ∗ pA c 4 2 (by decide) ∗ ow c 20 ∗ wt c 66 ∗ d0 c 58 ∗ tk (peer c true) 70 ∗ pB c 4 2 (by decide))
      -∗ ((wt c 34 ∗ ow c 22 ∗ dn c 66 ∗ hB I c 0 2 (by decide) ∗ wt c 58)
      -∗ Q (w_1422 I c)) -∗ WP c (p43 c (w_5 I c) (w_7 I c) (w_1291 I c) (w_1295 I c) (w_1298 I c) (w_1392 I c) (w_c0_i32_1014 I c)) Q) := by
  unfold p43; rw [k0_part43_eq_skeleton]; unfold k0_part43_skel
  simp only [semSignalWord, semWaitWord, Prog.lift, Prog.bind_op, Prog.bind_ret, Prog.pure_eq_ret, wp_deviceId]
  iintro #Hc ⟨Hd34, Hp46, HlA4_2, HpA4_2, How, Hd66, Hd58, Hp70, HpB4_2⟩ Hk
  icases Hd34 with ⟨Hat, Htk⟩
  iapply (st_send (cont I) K c 34 46 20 false (X := quarter 2 _ (gC I (chA c 4))) (q := fullShare.left) (dev21E c) (O_dma c 20 false 46 rfl) rfl rfl (crG 34 (by decide)) rfl (src' := subW gathM (chA c 4) 2 (chA_lt c 4) _) (slice_congr _ (off8i c 1 2 4 (by decide) (by decide) rfl rfl rfl)) (dst' := subW gathM (chA c 4) 2 (chA_lt c 4) _) (slice_congr _ (off8i c 1 2 4 (by decide) (by decide) rfl rfl rfl)) (payLA I c 34 1 2 4 (by decide) _ rfl rfl) (payPA I c 46 1 2 4 (by decide) _ rfl rfl)) $$ Hc [Hat Htk Hp46] HlA4_2 HpA4_2 How
  · isplitl [Hat]; · iexact Hat
    isplitl [Htk]; · iexact Htk
    iexact Hp46
  iintro ⟨Hd34, How⟩
  iapply (st_wait (cont I) K c 66 21 (P := fB I c 0 2 (by decide)) (payGBRi (cont I) c 66 0 2 (by decide) (by decide) rfl) rfl (crG 66 (by decide)) (by decide)) $$ Hc Hd66 How
  iintro ⟨Hd66, How, HfB0_2⟩
  icases (split_fB I c 0 2 _ (by decide)) $$ HfB0_2 with ⟨HlB4_2, HhB0_2⟩
  icases Hd58 with ⟨Hat, Htk⟩
  iapply (st_send (cont I) K c 58 70 21 true (X := quarter 2 _ (gC I (chB c 4))) (q := fullShare.left) (dev22E c) (O_dma c 21 true 70 rfl) rfl rfl (crG 58 (by decide)) rfl (src' := subW gathM (chB c 4) 2 (chB_lt c 4) _) (slice_congr _ (off9i c 1 2 4 (by decide) (by decide) rfl rfl rfl)) (dst' := subW gathM (chB c 4) 2 (chB_lt c 4) _) (slice_congr _ (off9i c 1 2 4 (by decide) (by decide) rfl rfl rfl)) (payLB I c 58 1 2 4 (by decide) _ rfl rfl) (payPB I c 70 1 2 4 (by decide) _ rfl rfl)) $$ Hc [Hat Htk Hp70] HlB4_2 HpB4_2 How
  · isplitl [Hat]; · iexact Hat
    isplitl [Htk]; · iexact Htk
    iexact Hp70
  iintro ⟨Hd58, How⟩
  iapply (st_ret (Q := Q) c (w_1422 I c) rfl)
  iapply Hk
  isplitl [Hd34]; · iexact Hd34
  isplitl [How]; · iexact How
  isplitl [Hd66]; · iexact Hd66
  isplitl [HhB0_2]; · iexact HhB0_2
  iexact Hd58

abbrev p44 := k0_part44 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part44 {Q : PUnit → sProp 𝕄} :
    ctx (cont I) K ⊢ iprop((wt c 43 ∗ ow c 22 ∗ d0 c 35 ∗ tk (peer c false) 47 ∗ pA c 4 3 (by decide))
      -∗ ((dn c 43 ∗ ow c 23 ∗ hA I c 0 3 (by decide) ∗ wt c 35)
      -∗ Q ⟨⟩) -∗ WP c (p44 c (w_5 I c) (w_7 I c) (w_1289 I c) (w_1295 I c) (w_1422 I c)) Q) := by
  unfold p44; rw [k0_part44_eq_skeleton]; unfold k0_part44_skel
  simp only [semSignalWord, semWaitWord, Prog.lift, Prog.bind_op, Prog.bind_ret, Prog.pure_eq_ret, wp_deviceId]
  iintro #Hc ⟨Hd43, How, Hd35, Hp47, HpA4_3⟩ Hk
  iapply (st_wait (cont I) K c 43 22 (P := fA I c 0 3 (by decide)) (payGARi (cont I) c 43 0 3 (by decide) (by decide) rfl) rfl (crG 43 (by decide)) (by decide)) $$ Hc Hd43 How
  iintro ⟨Hd43, How, HfA0_3⟩
  icases (split_fA I c 0 3 _ (by decide)) $$ HfA0_3 with ⟨HlA4_3, HhA0_3⟩
  icases Hd35 with ⟨Hat, Htk⟩
  iapply (st_send (cont I) K c 35 47 22 false (X := quarter 3 _ (gC I (chA c 4))) (q := fullShare.left) (dev23E c) (O_dma c 22 false 47 rfl) rfl rfl (crG 35 (by decide)) rfl (src' := subW gathM (chA c 4) 3 (chA_lt c 4) _) (slice_congr _ (off8i c 1 3 4 (by decide) (by decide) rfl rfl rfl)) (dst' := subW gathM (chA c 4) 3 (chA_lt c 4) _) (slice_congr _ (off8i c 1 3 4 (by decide) (by decide) rfl rfl rfl)) (payLA I c 35 1 3 4 (by decide) _ rfl rfl) (payPA I c 47 1 3 4 (by decide) _ rfl rfl)) $$ Hc [Hat Htk Hp47] HlA4_3 HpA4_3 How
  · isplitl [Hat]; · iexact Hat
    isplitl [Htk]; · iexact Htk
    iexact Hp47
  iintro ⟨Hd35, How⟩
  iapply (st_ret (Q := Q) c ⟨⟩ rfl)
  iapply Hk
  isplitl [Hd43]; · iexact Hd43
  isplitl [How]; · iexact How
  isplitl [HhA0_3]; · iexact HhA0_3
  iexact Hd35

abbrev p45 := k0_part45 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part45 {Q : _ → sProp 𝕄} :
    ctx (cont I) K ⊢ iprop((wt c 67 ∗ ow c 23 ∗ d0 c 59 ∗ tk (peer c true) 71 ∗ pB c 4 3 (by decide) ∗ hA I c 0 0 (by decide) ∗ hA I c 0 1 (by decide) ∗ hA I c 0 2 (by decide) ∗ hA I c 0 3 (by decide) ∗ oAE c 0 ∗ hB I c 0 0 (by decide) ∗ hB I c 0 1 (by decide) ∗ hB I c 0 2 (by decide) ∗ oBE c 0)
      -∗ ((dn c 67 ∗ ow c 24 ∗ wt c 59 ∗ jA I c 0 ∗ oA I c 0 ∗ jB I c 0 ∗ oB I c 0)
      -∗ Q (w_1480 I c)) -∗ WP c (p45 c (w_5 I c) (w_1136 I c) (w_1289 I c) (w_1291 I c) (w_1298 I c)) Q) := by
  unfold p45; rw [k0_part45_eq_skeleton]; unfold k0_part45_skel
  simp only [semSignalWord, semWaitWord, Prog.lift, Prog.bind_op, Prog.bind_ret, Prog.pure_eq_ret, wp_deviceId]
  iintro #Hc ⟨Hd67, How, Hd59, Hp71, HpB4_3, HhA0_0, HhA0_1, HhA0_2, HhA0_3, HoA0, HhB0_0, HhB0_1, HhB0_2, HoB0⟩ Hk
  iapply (st_wait (cont I) K c 67 23 (P := fB I c 0 3 (by decide)) (payGBRi (cont I) c 67 0 3 (by decide) (by decide) rfl) rfl (crG 67 (by decide)) (by decide)) $$ Hc Hd67 How
  iintro ⟨Hd67, How, HfB0_3⟩
  icases (split_fB I c 0 3 _ (by decide)) $$ HfB0_3 with ⟨HlB4_3, HhB0_3⟩
  icases Hd59 with ⟨Hat, Htk⟩
  iapply (st_send (cont I) K c 59 71 23 true (X := quarter 3 _ (gC I (chB c 4))) (q := fullShare.left) (dev24E c) (O_dma c 23 true 71 rfl) rfl rfl (crG 59 (by decide)) rfl (src' := subW gathM (chB c 4) 3 (chB_lt c 4) _) (slice_congr _ (off9i c 1 3 4 (by decide) (by decide) rfl rfl rfl)) (dst' := subW gathM (chB c 4) 3 (chB_lt c 4) _) (slice_congr _ (off9i c 1 3 4 (by decide) (by decide) rfl rfl rfl)) (payLB I c 59 1 3 4 (by decide) _ rfl rfl) (payPB I c 71 1 3 4 (by decide) _ rfl rfl)) $$ Hc [Hat Htk Hp71] HlB4_3 HpB4_3 How
  · isplitl [Hat]; · iexact Hat
    isplitl [Htk]; · iexact Htk
    iexact Hp71
  iintro ⟨Hd59, How⟩
  ihave HjA0 := (join_hA I c 0) $$ [HhA0_0 HhA0_1 HhA0_2 HhA0_3]
  · isplitl [HhA0_0]; · iexact HhA0_0
    isplitl [HhA0_1]; · iexact HhA0_1
    isplitl [HhA0_2]; · iexact HhA0_2
    iexact HhA0_3
  iapply (st_load c (rows_inb (chA_lt c 0)) (off12E c 0)) $$ HjA0
  iintro HjA0
  icases HoA0 with ⟨%XoA0, HoA0⟩
  iapply (st_load c (rows_inb (chA_lt c 0)) (off12E c 0)) $$ HoA0
  iintro HoA0
  iapply (st_store2 c outM (chA c 0) (chA_lt c 0) (off12E c 0) (fin I (chA c 0)) rfl) $$ HoA0
  iintro HoA0
  ihave HjB0 := (join_hB I c 0) $$ [HhB0_0 HhB0_1 HhB0_2 HhB0_3]
  · isplitl [HhB0_0]; · iexact HhB0_0
    isplitl [HhB0_1]; · iexact HhB0_1
    isplitl [HhB0_2]; · iexact HhB0_2
    iexact HhB0_3
  iapply (st_load c (rows_inb (chB_lt c 0)) (off13E c 0)) $$ HjB0
  iintro HjB0
  icases HoB0 with ⟨%XoB0, HoB0⟩
  iapply (st_load c (rows_inb (chB_lt c 0)) (off13E c 0)) $$ HoB0
  iintro HoB0
  iapply (st_store2 c outM (chB c 0) (chB_lt c 0) (off13E c 0) (fin I (chB c 0)) rfl) $$ HoB0
  iintro HoB0
  iapply (st_ret (Q := Q) c (w_1480 I c) rfl)
  iapply Hk
  isplitl [Hd67]; · iexact Hd67
  isplitl [How]; · iexact How
  isplitl [Hd59]; · iexact Hd59
  isplitl [HjA0]; · iexact HjA0
  isplitl [HoA0]; · iexact HoA0
  isplitl [HjB0]; · iexact HjB0
  iexact HoB0

abbrev p46 := k0_part46 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part46 {Q : _ → sProp 𝕄} :
    ctx (cont I) K ⊢ iprop((wt c 44 ∗ ow c 24 ∗ d0 c 36 ∗ tk (peer c false) 48 ∗ pA c 5 0 (by decide))
      -∗ ((dn c 44 ∗ ow c 25 ∗ hA I c 1 0 (by decide) ∗ wt c 36)
      -∗ Q ⟨w_1482 I c, w_1484 I c, w_1488 I c, w_1491 I c⟩) -∗ WP c (p46 c (w_5 I c) (w_7 I c) (w_1136 I c) (w_1139 I c) (w_1480 I c)) Q) := by
  unfold p46; rw [k0_part46_eq_skeleton]; unfold k0_part46_skel
  simp only [semSignalWord, semWaitWord, Prog.lift, Prog.bind_op, Prog.bind_ret, Prog.pure_eq_ret, wp_deviceId]
  iintro #Hc ⟨Hd44, How, Hd36, Hp48, HpA5_0⟩ Hk
  iapply (st_wait (cont I) K c 44 24 (P := fA I c 1 0 (by decide)) (payGARi (cont I) c 44 1 0 (by decide) (by decide) rfl) rfl (crG 44 (by decide)) (by decide)) $$ Hc Hd44 How
  iintro ⟨Hd44, How, HfA1_0⟩
  icases (split_fA I c 1 0 _ (by decide)) $$ HfA1_0 with ⟨HlA5_0, HhA1_0⟩
  icases Hd36 with ⟨Hat, Htk⟩
  iapply (st_send (cont I) K c 36 48 24 false (X := quarter 0 _ (gC I (chA c 5))) (q := fullShare.left) (dev25E c) (O_dma c 24 false 48 rfl) rfl rfl (crG 36 (by decide)) rfl (src' := subW gathM (chA c 5) 0 (chA_lt c 5) _) (slice_congr _ (off8i c 2 0 5 (by decide) (by decide) rfl rfl rfl)) (dst' := subW gathM (chA c 5) 0 (chA_lt c 5) _) (slice_congr _ (off8i c 2 0 5 (by decide) (by decide) rfl rfl rfl)) (payLA I c 36 2 0 5 (by decide) _ rfl rfl) (payPA I c 48 2 0 5 (by decide) _ rfl rfl)) $$ Hc [Hat Htk Hp48] HlA5_0 HpA5_0 How
  · isplitl [Hat]; · iexact Hat
    isplitl [Htk]; · iexact Htk
    iexact Hp48
  iintro ⟨Hd36, How⟩
  iapply (st_ret (Q := Q) c ⟨w_1482 I c, w_1484 I c, w_1488 I c, w_1491 I c⟩ rfl)
  iapply Hk
  isplitl [Hd44]; · iexact Hd44
  isplitl [How]; · iexact How
  isplitl [HhA1_0]; · iexact HhA1_0
  iexact Hd36

abbrev p47 := k0_part47 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part47 {Q : _ → sProp 𝕄} :
    ctx (cont I) K ⊢ iprop((wt c 68 ∗ ow c 25 ∗ d0 c 60 ∗ tk (peer c true) 72 ∗ pB c 5 0 (by decide))
      -∗ ((dn c 68 ∗ ow c 26 ∗ hB I c 1 0 (by decide) ∗ wt c 60)
      -∗ Q (w_1534 I c)) -∗ WP c (p47 c (w_5 I c) (w_7 I c) (w_1484 I c) (w_1488 I c) (w_1491 I c)) Q) := by
  unfold p47; rw [k0_part47_eq_skeleton]; unfold k0_part47_skel
  simp only [semSignalWord, semWaitWord, Prog.lift, Prog.bind_op, Prog.bind_ret, Prog.pure_eq_ret, wp_deviceId]
  iintro #Hc ⟨Hd68, How, Hd60, Hp72, HpB5_0⟩ Hk
  iapply (st_wait (cont I) K c 68 25 (P := fB I c 1 0 (by decide)) (payGBRi (cont I) c 68 1 0 (by decide) (by decide) rfl) rfl (crG 68 (by decide)) (by decide)) $$ Hc Hd68 How
  iintro ⟨Hd68, How, HfB1_0⟩
  icases (split_fB I c 1 0 _ (by decide)) $$ HfB1_0 with ⟨HlB5_0, HhB1_0⟩
  icases Hd60 with ⟨Hat, Htk⟩
  iapply (st_send (cont I) K c 60 72 25 true (X := quarter 0 _ (gC I (chB c 5))) (q := fullShare.left) (dev26E c) (O_dma c 25 true 72 rfl) rfl rfl (crG 60 (by decide)) rfl (src' := subW gathM (chB c 5) 0 (chB_lt c 5) _) (slice_congr _ (off9i c 2 0 5 (by decide) (by decide) rfl rfl rfl)) (dst' := subW gathM (chB c 5) 0 (chB_lt c 5) _) (slice_congr _ (off9i c 2 0 5 (by decide) (by decide) rfl rfl rfl)) (payLB I c 60 2 0 5 (by decide) _ rfl rfl) (payPB I c 72 2 0 5 (by decide) _ rfl rfl)) $$ Hc [Hat Htk Hp72] HlB5_0 HpB5_0 How
  · isplitl [Hat]; · iexact Hat
    isplitl [Htk]; · iexact Htk
    iexact Hp72
  iintro ⟨Hd60, How⟩
  iapply (st_ret (Q := Q) c (w_1534 I c) rfl)
  iapply Hk
  isplitl [Hd68]; · iexact Hd68
  isplitl [How]; · iexact How
  isplitl [HhB1_0]; · iexact HhB1_0
  iexact Hd60

abbrev p48 := k0_part48 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part48 {Q : _ → sProp 𝕄} :
    ctx (cont I) K ⊢ iprop((wt c 45 ∗ ow c 26 ∗ d0 c 37 ∗ tk (peer c false) 49 ∗ pA c 5 1 (by decide) ∗ wt c 69)
      -∗ ((dn c 45 ∗ ow c 27 ∗ hA I c 1 1 (by decide) ∗ wt c 37 ∗ dn c 69 ∗ lB I c 5 1 (by decide) ∗ hB I c 1 1 (by decide))
      -∗ Q ⟨w_1561 I c, w_c32_i32_1188 I c⟩) -∗ WP c (p48 c (w_7 I c) (w_1482 I c) (w_1484 I c) (w_1488 I c) (w_1534 I c)) Q) := by
  unfold p48; rw [k0_part48_eq_skeleton]; unfold k0_part48_skel
  simp only [semSignalWord, semWaitWord, Prog.lift, Prog.bind_op, Prog.bind_ret, Prog.pure_eq_ret, wp_deviceId]
  iintro #Hc ⟨Hd45, How, Hd37, Hp49, HpA5_1, Hd69⟩ Hk
  iapply (st_wait (cont I) K c 45 26 (P := fA I c 1 1 (by decide)) (payGARi (cont I) c 45 1 1 (by decide) (by decide) rfl) rfl (crG 45 (by decide)) (by decide)) $$ Hc Hd45 How
  iintro ⟨Hd45, How, HfA1_1⟩
  icases (split_fA I c 1 1 _ (by decide)) $$ HfA1_1 with ⟨HlA5_1, HhA1_1⟩
  icases Hd37 with ⟨Hat, Htk⟩
  iapply (st_send (cont I) K c 37 49 26 false (X := quarter 1 _ (gC I (chA c 5))) (q := fullShare.left) (dev27E c) (O_dma c 26 false 49 rfl) rfl rfl (crG 37 (by decide)) rfl (src' := subW gathM (chA c 5) 1 (chA_lt c 5) _) (slice_congr _ (off8i c 2 1 5 (by decide) (by decide) rfl rfl rfl)) (dst' := subW gathM (chA c 5) 1 (chA_lt c 5) _) (slice_congr _ (off8i c 2 1 5 (by decide) (by decide) rfl rfl rfl)) (payLA I c 37 2 1 5 (by decide) _ rfl rfl) (payPA I c 49 2 1 5 (by decide) _ rfl rfl)) $$ Hc [Hat Htk Hp49] HlA5_1 HpA5_1 How
  · isplitl [Hat]; · iexact Hat
    isplitl [Htk]; · iexact Htk
    iexact Hp49
  iintro ⟨Hd37, How⟩
  iapply (st_wait (cont I) K c 69 27 (P := fB I c 1 1 (by decide)) (payGBRi (cont I) c 69 1 1 (by decide) (by decide) rfl) rfl (crG 69 (by decide)) (by decide)) $$ Hc Hd69 How
  iintro ⟨Hd69, How, HfB1_1⟩
  icases (split_fB I c 1 1 _ (by decide)) $$ HfB1_1 with ⟨HlB5_1, HhB1_1⟩
  iapply (st_ret (Q := Q) c ⟨w_1561 I c, w_c32_i32_1188 I c⟩ rfl)
  iapply Hk
  isplitl [Hd45]; · iexact Hd45
  isplitl [How]; · iexact How
  isplitl [HhA1_1]; · iexact HhA1_1
  isplitl [Hd37]; · iexact Hd37
  isplitl [Hd69]; · iexact Hd69
  isplitl [HlB5_1]; · iexact HlB5_1
  iexact HhB1_1

abbrev p49 := k0_part49 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part49 {Q : PUnit → sProp 𝕄} :
    ctx (cont I) K ⊢ iprop((d0 c 61 ∗ tk (peer c true) 73 ∗ lB I c 5 1 (by decide) ∗ pB c 5 1 (by decide) ∗ ow c 27 ∗ wt c 46)
      -∗ ((wt c 61 ∗ ow c 28 ∗ dn c 46 ∗ lA I c 5 2 (by decide) ∗ hA I c 1 2 (by decide))
      -∗ Q ⟨⟩) -∗ WP c (p49 c (w_5 I c) (w_7 I c) (w_1482 I c) (w_1491 I c) (w_1561 I c) (w_c32_i32_1188 I c)) Q) := by
  unfold p49; rw [k0_part49_eq_skeleton]; unfold k0_part49_skel
  simp only [semSignalWord, semWaitWord, Prog.lift, Prog.bind_op, Prog.bind_ret, Prog.pure_eq_ret, wp_deviceId]
  iintro #Hc ⟨Hd61, Hp73, HlB5_1, HpB5_1, How, Hd46⟩ Hk
  icases Hd61 with ⟨Hat, Htk⟩
  iapply (st_send (cont I) K c 61 73 27 true (X := quarter 1 _ (gC I (chB c 5))) (q := fullShare.left) (dev28E c) (O_dma c 27 true 73 rfl) rfl rfl (crG 61 (by decide)) rfl (src' := subW gathM (chB c 5) 1 (chB_lt c 5) _) (slice_congr _ (off9i c 2 1 5 (by decide) (by decide) rfl rfl rfl)) (dst' := subW gathM (chB c 5) 1 (chB_lt c 5) _) (slice_congr _ (off9i c 2 1 5 (by decide) (by decide) rfl rfl rfl)) (payLB I c 61 2 1 5 (by decide) _ rfl rfl) (payPB I c 73 2 1 5 (by decide) _ rfl rfl)) $$ Hc [Hat Htk Hp73] HlB5_1 HpB5_1 How
  · isplitl [Hat]; · iexact Hat
    isplitl [Htk]; · iexact Htk
    iexact Hp73
  iintro ⟨Hd61, How⟩
  iapply (st_wait (cont I) K c 46 28 (P := fA I c 1 2 (by decide)) (payGARi (cont I) c 46 1 2 (by decide) (by decide) rfl) rfl (crG 46 (by decide)) (by decide)) $$ Hc Hd46 How
  iintro ⟨Hd46, How, HfA1_2⟩
  icases (split_fA I c 1 2 _ (by decide)) $$ HfA1_2 with ⟨HlA5_2, HhA1_2⟩
  iapply (st_ret (Q := Q) c ⟨⟩ rfl)
  iapply Hk
  isplitl [Hd61]; · iexact Hd61
  isplitl [How]; · iexact How
  isplitl [Hd46]; · iexact Hd46
  isplitl [HlA5_2]; · iexact HlA5_2
  iexact HhA1_2

abbrev p50 := k0_part50 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part50 {Q : PUnit → sProp 𝕄} :
    ctx (cont I) K ⊢ iprop((d0 c 38 ∗ tk (peer c false) 50 ∗ lA I c 5 2 (by decide) ∗ pA c 5 2 (by decide) ∗ ow c 28 ∗ wt c 70 ∗ d0 c 62 ∗ tk (peer c true) 74 ∗ pB c 5 2 (by decide))
      -∗ ((wt c 38 ∗ ow c 30 ∗ dn c 70 ∗ hB I c 1 2 (by decide) ∗ wt c 62)
      -∗ Q ⟨⟩) -∗ WP c (p50 c (w_5 I c) (w_7 I c) (w_1484 I c) (w_1488 I c) (w_1491 I c)) Q) := by
  unfold p50; rw [k0_part50_eq_skeleton]; unfold k0_part50_skel
  simp only [semSignalWord, semWaitWord, Prog.lift, Prog.bind_op, Prog.bind_ret, Prog.pure_eq_ret, wp_deviceId]
  iintro #Hc ⟨Hd38, Hp50, HlA5_2, HpA5_2, How, Hd70, Hd62, Hp74, HpB5_2⟩ Hk
  icases Hd38 with ⟨Hat, Htk⟩
  iapply (st_send (cont I) K c 38 50 28 false (X := quarter 2 _ (gC I (chA c 5))) (q := fullShare.left) (dev29E c) (O_dma c 28 false 50 rfl) rfl rfl (crG 38 (by decide)) rfl (src' := subW gathM (chA c 5) 2 (chA_lt c 5) _) (slice_congr _ (off8i c 2 2 5 (by decide) (by decide) rfl rfl rfl)) (dst' := subW gathM (chA c 5) 2 (chA_lt c 5) _) (slice_congr _ (off8i c 2 2 5 (by decide) (by decide) rfl rfl rfl)) (payLA I c 38 2 2 5 (by decide) _ rfl rfl) (payPA I c 50 2 2 5 (by decide) _ rfl rfl)) $$ Hc [Hat Htk Hp50] HlA5_2 HpA5_2 How
  · isplitl [Hat]; · iexact Hat
    isplitl [Htk]; · iexact Htk
    iexact Hp50
  iintro ⟨Hd38, How⟩
  iapply (st_wait (cont I) K c 70 29 (P := fB I c 1 2 (by decide)) (payGBRi (cont I) c 70 1 2 (by decide) (by decide) rfl) rfl (crG 70 (by decide)) (by decide)) $$ Hc Hd70 How
  iintro ⟨Hd70, How, HfB1_2⟩
  icases (split_fB I c 1 2 _ (by decide)) $$ HfB1_2 with ⟨HlB5_2, HhB1_2⟩
  icases Hd62 with ⟨Hat, Htk⟩
  iapply (st_send (cont I) K c 62 74 29 true (X := quarter 2 _ (gC I (chB c 5))) (q := fullShare.left) (dev30E c) (O_dma c 29 true 74 rfl) rfl rfl (crG 62 (by decide)) rfl (src' := subW gathM (chB c 5) 2 (chB_lt c 5) _) (slice_congr _ (off9i c 2 2 5 (by decide) (by decide) rfl rfl rfl)) (dst' := subW gathM (chB c 5) 2 (chB_lt c 5) _) (slice_congr _ (off9i c 2 2 5 (by decide) (by decide) rfl rfl rfl)) (payLB I c 62 2 2 5 (by decide) _ rfl rfl) (payPB I c 74 2 2 5 (by decide) _ rfl rfl)) $$ Hc [Hat Htk Hp74] HlB5_2 HpB5_2 How
  · isplitl [Hat]; · iexact Hat
    isplitl [Htk]; · iexact Htk
    iexact Hp74
  iintro ⟨Hd62, How⟩
  iapply (st_ret (Q := Q) c ⟨⟩ rfl)
  iapply Hk
  isplitl [Hd38]; · iexact Hd38
  isplitl [How]; · iexact How
  isplitl [Hd70]; · iexact Hd70
  isplitl [HhB1_2]; · iexact HhB1_2
  iexact Hd62

end Cert.Ring
-- ==== Proof.Parts5.lean ====
module

public import proofs.«01_k».proof.Proof.Windows

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 77 → ℕ) (c : Dev nD)

abbrev p51 := k0_part51 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part51 {Q : _ → sProp 𝕄} :
    ctx (cont I) K ⊢ iprop((wt c 47 ∗ ow c 30 ∗ d0 c 39 ∗ tk (peer c false) 51 ∗ pA c 5 3 (by decide) ∗ wt c 71)
      -∗ ((dn c 47 ∗ ow c 31 ∗ hA I c 1 3 (by decide) ∗ wt c 39 ∗ dn c 71 ∗ lB I c 5 3 (by decide) ∗ hB I c 1 3 (by decide))
      -∗ Q ⟨w_1644 I c, w_c128_i32_1278 I c⟩) -∗ WP c (p51 c (w_5 I c) (w_7 I c) (w_1482 I c) (w_1484 I c) (w_1488 I c)) Q) := by
  unfold p51; rw [k0_part51_eq_skeleton]; unfold k0_part51_skel
  simp only [semSignalWord, semWaitWord, Prog.lift, Prog.bind_op, Prog.bind_ret, Prog.pure_eq_ret, wp_deviceId]
  iintro #Hc ⟨Hd47, How, Hd39, Hp51, HpA5_3, Hd71⟩ Hk
  iapply (st_wait (cont I) K c 47 30 (P := fA I c 1 3 (by decide)) (payGARi (cont I) c 47 1 3 (by decide) (by decide) rfl) rfl (crG 47 (by decide)) (by decide)) $$ Hc Hd47 How
  iintro ⟨Hd47, How, HfA1_3⟩
  icases (split_fA I c 1 3 _ (by decide)) $$ HfA1_3 with ⟨HlA5_3, HhA1_3⟩
  icases Hd39 with ⟨Hat, Htk⟩
  iapply (st_send (cont I) K c 39 51 30 false (X := quarter 3 _ (gC I (chA c 5))) (q := fullShare.left) (dev31E c) (O_dma c 30 false 51 rfl) rfl rfl (crG 39 (by decide)) rfl (src' := subW gathM (chA c 5) 3 (chA_lt c 5) _) (slice_congr _ (off8i c 2 3 5 (by decide) (by decide) rfl rfl rfl)) (dst' := subW gathM (chA c 5) 3 (chA_lt c 5) _) (slice_congr _ (off8i c 2 3 5 (by decide) (by decide) rfl rfl rfl)) (payLA I c 39 2 3 5 (by decide) _ rfl rfl) (payPA I c 51 2 3 5 (by decide) _ rfl rfl)) $$ Hc [Hat Htk Hp51] HlA5_3 HpA5_3 How
  · isplitl [Hat]; · iexact Hat
    isplitl [Htk]; · iexact Htk
    iexact Hp51
  iintro ⟨Hd39, How⟩
  iapply (st_wait (cont I) K c 71 31 (P := fB I c 1 3 (by decide)) (payGBRi (cont I) c 71 1 3 (by decide) (by decide) rfl) rfl (crG 71 (by decide)) (by decide)) $$ Hc Hd71 How
  iintro ⟨Hd71, How, HfB1_3⟩
  icases (split_fB I c 1 3 _ (by decide)) $$ HfB1_3 with ⟨HlB5_3, HhB1_3⟩
  iapply (st_ret (Q := Q) c ⟨w_1644 I c, w_c128_i32_1278 I c⟩ rfl)
  iapply Hk
  isplitl [Hd47]; · iexact Hd47
  isplitl [How]; · iexact How
  isplitl [HhA1_3]; · iexact HhA1_3
  isplitl [Hd39]; · iexact Hd39
  isplitl [Hd71]; · iexact Hd71
  isplitl [HlB5_3]; · iexact HlB5_3
  iexact HhB1_3

abbrev p52 := k0_part52 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part52 {Q : PUnit → sProp 𝕄} :
    ctx (cont I) K ⊢ iprop((d0 c 63 ∗ tk (peer c true) 75 ∗ lB I c 5 3 (by decide) ∗ pB c 5 3 (by decide) ∗ ow c 31 ∗ hA I c 1 0 (by decide) ∗ hA I c 1 1 (by decide) ∗ hA I c 1 2 (by decide) ∗ hA I c 1 3 (by decide) ∗ oAE c 1 ∗ hB I c 1 0 (by decide) ∗ hB I c 1 1 (by decide) ∗ hB I c 1 2 (by decide) ∗ hB I c 1 3 (by decide) ∗ oBE c 1 ∗ jA I c 3 ∗ oAE c 3)
      -∗ ((wt c 63 ∗ ow c 32 ∗ jA I c 1 ∗ oA I c 1 ∗ jB I c 1 ∗ oB I c 1 ∗ jA I c 3 ∗ oA I c 3)
      -∗ Q ⟨⟩) -∗ WP c (p52 c (w_5 I c) (w_1140 I c) (w_1482 I c) (w_1484 I c) (w_1491 I c) (w_1644 I c) (w_c128_i32_1278 I c)) Q) := by
  unfold p52; rw [k0_part52_eq_skeleton]; unfold k0_part52_skel
  simp only [semSignalWord, semWaitWord, Prog.lift, Prog.bind_op, Prog.bind_ret, Prog.pure_eq_ret, wp_deviceId]
  iintro #Hc ⟨Hd63, Hp75, HlB5_3, HpB5_3, How, HhA1_0, HhA1_1, HhA1_2, HhA1_3, HoA1, HhB1_0, HhB1_1, HhB1_2, HhB1_3, HoB1, HjA3, HoA3⟩ Hk
  icases Hd63 with ⟨Hat, Htk⟩
  iapply (st_send (cont I) K c 63 75 31 true (X := quarter 3 _ (gC I (chB c 5))) (q := fullShare.left) (dev32E c) (O_dma c 31 true 75 rfl) rfl rfl (crG 63 (by decide)) rfl (src' := subW gathM (chB c 5) 3 (chB_lt c 5) _) (slice_congr _ (off9i c 2 3 5 (by decide) (by decide) rfl rfl rfl)) (dst' := subW gathM (chB c 5) 3 (chB_lt c 5) _) (slice_congr _ (off9i c 2 3 5 (by decide) (by decide) rfl rfl rfl)) (payLB I c 63 2 3 5 (by decide) _ rfl rfl) (payPB I c 75 2 3 5 (by decide) _ rfl rfl)) $$ Hc [Hat Htk Hp75] HlB5_3 HpB5_3 How
  · isplitl [Hat]; · iexact Hat
    isplitl [Htk]; · iexact Htk
    iexact Hp75
  iintro ⟨Hd63, How⟩
  ihave HjA1 := (join_hA I c 1) $$ [HhA1_0 HhA1_1 HhA1_2 HhA1_3]
  · isplitl [HhA1_0]; · iexact HhA1_0
    isplitl [HhA1_1]; · iexact HhA1_1
    isplitl [HhA1_2]; · iexact HhA1_2
    iexact HhA1_3
  iapply (st_load c (rows_inb (chA_lt c 1)) (off12E c 1)) $$ HjA1
  iintro HjA1
  icases HoA1 with ⟨%XoA1, HoA1⟩
  iapply (st_load c (rows_inb (chA_lt c 1)) (off12E c 1)) $$ HoA1
  iintro HoA1
  iapply (st_store2 c outM (chA c 1) (chA_lt c 1) (off12E c 1) (fin I (chA c 1)) rfl) $$ HoA1
  iintro HoA1
  ihave HjB1 := (join_hB I c 1) $$ [HhB1_0 HhB1_1 HhB1_2 HhB1_3]
  · isplitl [HhB1_0]; · iexact HhB1_0
    isplitl [HhB1_1]; · iexact HhB1_1
    isplitl [HhB1_2]; · iexact HhB1_2
    iexact HhB1_3
  iapply (st_load c (rows_inb (chB_lt c 1)) (off13E c 1)) $$ HjB1
  iintro HjB1
  icases HoB1 with ⟨%XoB1, HoB1⟩
  iapply (st_load c (rows_inb (chB_lt c 1)) (off13E c 1)) $$ HoB1
  iintro HoB1
  iapply (st_store2 c outM (chB c 1) (chB_lt c 1) (off13E c 1) (fin I (chB c 1)) rfl) $$ HoB1
  iintro HoB1
  iapply (st_load c (rows_inb (chA_lt c 3)) (off6E c)) $$ HjA3
  iintro HjA3
  icases HoA3 with ⟨%XoA3, HoA3⟩
  iapply (st_load c (rows_inb (chA_lt c 3)) (off6E c)) $$ HoA3
  iintro HoA3
  iapply (st_store2 c outM (chA c 3) (chA_lt c 3) (off6E c) (fin I (chA c 3)) rfl) $$ HoA3
  iintro HoA3
  iapply (st_ret (Q := Q) c ⟨⟩ rfl)
  iapply Hk
  isplitl [Hd63]; · iexact Hd63
  isplitl [How]; · iexact How
  isplitl [HjA1]; · iexact HjA1
  isplitl [HoA1]; · iexact HoA1
  isplitl [HjB1]; · iexact HjB1
  isplitl [HoB1]; · iexact HoB1
  isplitl [HjA3]; · iexact HjA3
  iexact HoA3

abbrev p53 := k0_part53 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part53 {Q : _ → sProp 𝕄} :
    ctx (cont I) K ⊢ iprop((jB I c 3 ∗ oBE c 3 ∗ wt c 48 ∗ ow c 32 ∗ wt c 72 ∗ wt c 49)
      -∗ ((jB I c 3 ∗ oB I c 3 ∗ dn c 48 ∗ ow c 32 ∗ fA I c 2 0 (by decide) ∗ dn c 72 ∗ fB I c 2 0 (by decide) ∗ dn c 49 ∗ fA I c 2 1 (by decide))
      -∗ Q ⟨w_1701 I c, w_c0_i32_1333 I c⟩) -∗ WP c (p53 c (w_5 I c) (w_7 I c) (w_1142 I c)) Q) := by
  unfold p53; rw [k0_part53_eq_skeleton]; unfold k0_part53_skel
  simp only [semSignalWord, semWaitWord, Prog.lift, Prog.bind_op, Prog.bind_ret, Prog.pure_eq_ret, wp_deviceId]
  iintro #Hc ⟨HjB3, HoB3, Hd48, How, Hd72, Hd49⟩ Hk
  iapply (st_load c (rows_inb (chB_lt c 3)) (off7E c)) $$ HjB3
  iintro HjB3
  icases HoB3 with ⟨%XoB3, HoB3⟩
  iapply (st_load c (rows_inb (chB_lt c 3)) (off7E c)) $$ HoB3
  iintro HoB3
  iapply (st_store2 c outM (chB c 3) (chB_lt c 3) (off7E c) (fin I (chB c 3)) rfl) $$ HoB3
  iintro HoB3
  iapply (st_wait (cont I) K c 48 32 (P := fA I c 2 0 (by decide)) (payGARi (cont I) c 48 2 0 (by decide) (by decide) rfl) rfl (crG 48 (by decide)) (by decide)) $$ Hc Hd48 How
  iintro ⟨Hd48, How, HfA2_0⟩
  iapply (st_wait (cont I) K c 72 32 (P := fB I c 2 0 (by decide)) (payGBRi (cont I) c 72 2 0 (by decide) (by decide) rfl) rfl (crG 72 (by decide)) (by decide)) $$ Hc Hd72 How
  iintro ⟨Hd72, How, HfB2_0⟩
  iapply (st_wait (cont I) K c 49 32 (P := fA I c 2 1 (by decide)) (payGARi (cont I) c 49 2 1 (by decide) (by decide) rfl) rfl (crG 49 (by decide)) (by decide)) $$ Hc Hd49 How
  iintro ⟨Hd49, How, HfA2_1⟩
  iapply (st_ret (Q := Q) c ⟨w_1701 I c, w_c0_i32_1333 I c⟩ rfl)
  iapply Hk
  isplitl [HjB3]; · iexact HjB3
  isplitl [HoB3]; · iexact HoB3
  isplitl [Hd48]; · iexact Hd48
  isplitl [How]; · iexact How
  isplitl [HfA2_0]; · iexact HfA2_0
  isplitl [Hd72]; · iexact Hd72
  isplitl [HfB2_0]; · iexact HfB2_0
  isplitl [Hd49]; · iexact Hd49
  iexact HfA2_1

abbrev p54 := k0_part54 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part54 {Q : _ → sProp 𝕄} :
    ctx (cont I) K ⊢ iprop((wt c 73 ∗ ow c 32 ∗ wt c 50 ∗ wt c 74 ∗ wt c 51)
      -∗ ((dn c 73 ∗ ow c 32 ∗ fB I c 2 1 (by decide) ∗ dn c 50 ∗ fA I c 2 2 (by decide) ∗ dn c 74 ∗ fB I c 2 2 (by decide) ∗ dn c 51 ∗ fA I c 2 3 (by decide))
      -∗ Q ⟨w_1725 I c, w_c0_i32_1365 I c⟩) -∗ WP c (p54 c (w_5 I c) (w_7 I c) (w_1701 I c) (w_c0_i32_1333 I c)) Q) := by
  unfold p54; rw [k0_part54_eq_skeleton]; unfold k0_part54_skel
  simp only [semSignalWord, semWaitWord, Prog.lift, Prog.bind_op, Prog.bind_ret, Prog.pure_eq_ret, wp_deviceId]
  iintro #Hc ⟨Hd73, How, Hd50, Hd74, Hd51⟩ Hk
  iapply (st_wait (cont I) K c 73 32 (P := fB I c 2 1 (by decide)) (payGBRi (cont I) c 73 2 1 (by decide) (by decide) rfl) rfl (crG 73 (by decide)) (by decide)) $$ Hc Hd73 How
  iintro ⟨Hd73, How, HfB2_1⟩
  iapply (st_wait (cont I) K c 50 32 (P := fA I c 2 2 (by decide)) (payGARi (cont I) c 50 2 2 (by decide) (by decide) rfl) rfl (crG 50 (by decide)) (by decide)) $$ Hc Hd50 How
  iintro ⟨Hd50, How, HfA2_2⟩
  iapply (st_wait (cont I) K c 74 32 (P := fB I c 2 2 (by decide)) (payGBRi (cont I) c 74 2 2 (by decide) (by decide) rfl) rfl (crG 74 (by decide)) (by decide)) $$ Hc Hd74 How
  iintro ⟨Hd74, How, HfB2_2⟩
  iapply (st_wait (cont I) K c 51 32 (P := fA I c 2 3 (by decide)) (payGARi (cont I) c 51 2 3 (by decide) (by decide) rfl) rfl (crG 51 (by decide)) (by decide)) $$ Hc Hd51 How
  iintro ⟨Hd51, How, HfA2_3⟩
  iapply (st_ret (Q := Q) c ⟨w_1725 I c, w_c0_i32_1365 I c⟩ rfl)
  iapply Hk
  isplitl [Hd73]; · iexact Hd73
  isplitl [How]; · iexact How
  isplitl [HfB2_1]; · iexact HfB2_1
  isplitl [Hd50]; · iexact Hd50
  isplitl [HfA2_2]; · iexact HfA2_2
  isplitl [Hd74]; · iexact Hd74
  isplitl [HfB2_2]; · iexact HfB2_2
  isplitl [Hd51]; · iexact Hd51
  iexact HfA2_3

abbrev p55 := k0_part55 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part55 {Q : PUnit → sProp 𝕄} :
    ctx (cont I) K ⊢ iprop((wt c 75 ∗ ow c 32 ∗ fA I c 2 0 (by decide) ∗ fA I c 2 1 (by decide) ∗ fA I c 2 2 (by decide) ∗ fA I c 2 3 (by decide) ∗ oAE c 2 ∗ fB I c 2 0 (by decide) ∗ fB I c 2 1 (by decide) ∗ fB I c 2 2 (by decide) ∗ oBE c 2 ∗ wt c 16)
      -∗ ((dn c 75 ∗ ow c 32 ∗ gA I c 2 ∗ oA I c 2 ∗ gB I c 2 ∗ oB I c 2 ∗ dn c 16 ∗ aA c 0 (sumA I c 0))
      -∗ Q ⟨⟩) -∗ WP c (p55 c (w_1136 I c) (w_1139 I c) (w_1725 I c) (w_c0_i32_1365 I c)) Q) := by
  unfold p55; rw [k0_part55_eq_skeleton]; unfold k0_part55_skel
  simp only [semSignalWord, semWaitWord, Prog.lift, Prog.bind_op, Prog.bind_ret, Prog.pure_eq_ret, wp_deviceId]
  iintro #Hc ⟨Hd75, How, HfA2_0, HfA2_1, HfA2_2, HfA2_3, HoA2, HfB2_0, HfB2_1, HfB2_2, HoB2, Hd16⟩ Hk
  iapply (st_wait (cont I) K c 75 32 (P := fB I c 2 3 (by decide)) (payGBRi (cont I) c 75 2 3 (by decide) (by decide) rfl) rfl (crG 75 (by decide)) (by decide)) $$ Hc Hd75 How
  iintro ⟨Hd75, How, HfB2_3⟩
  ihave HgA2 := (join_fA I c 2) $$ [HfA2_0 HfA2_1 HfA2_2 HfA2_3]
  · isplitl [HfA2_0]; · iexact HfA2_0
    isplitl [HfA2_1]; · iexact HfA2_1
    isplitl [HfA2_2]; · iexact HfA2_2
    iexact HfA2_3
  iapply (st_load c (rows_inb (chA_lt c 2)) (off14E c)) $$ HgA2
  iintro HgA2
  icases HoA2 with ⟨%XoA2, HoA2⟩
  iapply (st_load c (rows_inb (chA_lt c 2)) (off14E c)) $$ HoA2
  iintro HoA2
  iapply (st_store2 c outM (chA c 2) (chA_lt c 2) (off14E c) (fin I (chA c 2)) rfl) $$ HoA2
  iintro HoA2
  ihave HgB2 := (join_fB I c 2) $$ [HfB2_0 HfB2_1 HfB2_2 HfB2_3]
  · isplitl [HfB2_0]; · iexact HfB2_0
    isplitl [HfB2_1]; · iexact HfB2_1
    isplitl [HfB2_2]; · iexact HfB2_2
    iexact HfB2_3
  iapply (st_load c (rows_inb (chB_lt c 2)) (off15E c)) $$ HgB2
  iintro HgB2
  icases HoB2 with ⟨%XoB2, HoB2⟩
  iapply (st_load c (rows_inb (chB_lt c 2)) (off15E c)) $$ HoB2
  iintro HoB2
  iapply (st_store2 c outM (chB c 2) (chB_lt c 2) (off15E c) (fin I (chB c 2)) rfl) $$ HoB2
  iintro HoB2
  iapply (st_wait (cont I) K c 16 32 (P := aA c 0 (sumA I c 0)) (payASi (cont I) c 16 0 (by decide) rfl) rfl (crA 16 (by decide)) (by decide)) $$ Hc Hd16 How
  iintro ⟨Hd16, How, HaA0⟩
  iapply (st_ret (Q := Q) c ⟨⟩ rfl)
  iapply Hk
  isplitl [Hd75]; · iexact Hd75
  isplitl [How]; · iexact How
  isplitl [HgA2]; · iexact HgA2
  isplitl [HoA2]; · iexact HoA2
  isplitl [HgB2]; · iexact HgB2
  isplitl [HoB2]; · iexact HoB2
  isplitl [Hd16]; · iexact Hd16
  iexact HaA0

abbrev p56 := k0_part56 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part56 {Q : PUnit → sProp 𝕄} :
    ctx (cont I) K ⊢ iprop((wt c 22 ∗ ow c 32 ∗ wt c 17 ∗ wt c 23 ∗ wt c 18 ∗ wt c 24)
      -∗ ((dn c 22 ∗ ow c 32 ∗ aB c 0 (sumB I c 0) ∗ dn c 17 ∗ aA c 1 (sumA I c 1) ∗ dn c 23 ∗ aB c 1 (sumB I c 1) ∗ dn c 18 ∗ aA c 2 (sumA I c 2) ∗ dn c 24 ∗ aB c 2 (sumB I c 2))
      -∗ Q ⟨⟩) -∗ WP c (p56 c) Q) := by
  unfold p56; rw [k0_part56_eq_skeleton]; unfold k0_part56_skel
  simp only [semSignalWord, semWaitWord, Prog.lift, Prog.bind_op, Prog.bind_ret, Prog.pure_eq_ret, wp_deviceId]
  iintro #Hc ⟨Hd22, How, Hd17, Hd23, Hd18, Hd24⟩ Hk
  iapply (st_wait (cont I) K c 22 32 (P := aB c 0 (sumB I c 0)) (payBSi (cont I) c 22 0 (by decide) rfl) rfl (crA 22 (by decide)) (by decide)) $$ Hc Hd22 How
  iintro ⟨Hd22, How, HaB0⟩
  iapply (st_wait (cont I) K c 17 32 (P := aA c 1 (sumA I c 1)) (payASi (cont I) c 17 1 (by decide) rfl) rfl (crA 17 (by decide)) (by decide)) $$ Hc Hd17 How
  iintro ⟨Hd17, How, HaA1⟩
  iapply (st_wait (cont I) K c 23 32 (P := aB c 1 (sumB I c 1)) (payBSi (cont I) c 23 1 (by decide) rfl) rfl (crA 23 (by decide)) (by decide)) $$ Hc Hd23 How
  iintro ⟨Hd23, How, HaB1⟩
  iapply (st_wait (cont I) K c 18 32 (P := aA c 2 (sumA I c 2)) (payASi (cont I) c 18 2 (by decide) rfl) rfl (crA 18 (by decide)) (by decide)) $$ Hc Hd18 How
  iintro ⟨Hd18, How, HaA2⟩
  iapply (st_wait (cont I) K c 24 32 (P := aB c 2 (sumB I c 2)) (payBSi (cont I) c 24 2 (by decide) rfl) rfl (crA 24 (by decide)) (by decide)) $$ Hc Hd24 How
  iintro ⟨Hd24, How, HaB2⟩
  iapply (st_ret (Q := Q) c ⟨⟩ rfl)
  iapply Hk
  isplitl [Hd22]; · iexact Hd22
  isplitl [How]; · iexact How
  isplitl [HaB0]; · iexact HaB0
  isplitl [Hd17]; · iexact Hd17
  isplitl [HaA1]; · iexact HaA1
  isplitl [Hd23]; · iexact Hd23
  isplitl [HaB1]; · iexact HaB1
  isplitl [Hd18]; · iexact Hd18
  isplitl [HaA2]; · iexact HaA2
  isplitl [Hd24]; · iexact Hd24
  iexact HaB2

abbrev p57 := k0_part57 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part57 {Q : PUnit → sProp 𝕄} :
    ctx (cont I) K ⊢ iprop((wt c 28 ∗ ow c 32 ∗ wt c 52 ∗ wt c 29 ∗ wt c 53 ∗ wt c 30)
      -∗ ((dn c 28 ∗ ow c 32 ∗ lA I c 3 0 (by decide) ∗ dn c 52 ∗ lB I c 3 0 (by decide) ∗ dn c 29 ∗ lA I c 3 1 (by decide) ∗ dn c 53 ∗ lB I c 3 1 (by decide) ∗ dn c 30 ∗ lA I c 3 2 (by decide))
      -∗ Q ⟨⟩) -∗ WP c (p57 c) Q) := by
  unfold p57; rw [k0_part57_eq_skeleton]; unfold k0_part57_skel
  simp only [semSignalWord, semWaitWord, Prog.lift, Prog.bind_op, Prog.bind_ret, Prog.pure_eq_ret, wp_deviceId]
  iintro #Hc ⟨Hd28, How, Hd52, Hd29, Hd53, Hd30⟩ Hk
  iapply (st_wait (cont I) K c 28 32 (P := lA I c 3 0 (by decide)) (payGASi (cont I) c 28 0 0 (by decide) (by decide) rfl) rfl (crG 28 (by decide)) (by decide)) $$ Hc Hd28 How
  iintro ⟨Hd28, How, HlA3_0⟩
  iapply (st_wait (cont I) K c 52 32 (P := lB I c 3 0 (by decide)) (payGBSi (cont I) c 52 0 0 (by decide) (by decide) rfl) rfl (crG 52 (by decide)) (by decide)) $$ Hc Hd52 How
  iintro ⟨Hd52, How, HlB3_0⟩
  iapply (st_wait (cont I) K c 29 32 (P := lA I c 3 1 (by decide)) (payGASi (cont I) c 29 0 1 (by decide) (by decide) rfl) rfl (crG 29 (by decide)) (by decide)) $$ Hc Hd29 How
  iintro ⟨Hd29, How, HlA3_1⟩
  iapply (st_wait (cont I) K c 53 32 (P := lB I c 3 1 (by decide)) (payGBSi (cont I) c 53 0 1 (by decide) (by decide) rfl) rfl (crG 53 (by decide)) (by decide)) $$ Hc Hd53 How
  iintro ⟨Hd53, How, HlB3_1⟩
  iapply (st_wait (cont I) K c 30 32 (P := lA I c 3 2 (by decide)) (payGASi (cont I) c 30 0 2 (by decide) (by decide) rfl) rfl (crG 30 (by decide)) (by decide)) $$ Hc Hd30 How
  iintro ⟨Hd30, How, HlA3_2⟩
  iapply (st_ret (Q := Q) c ⟨⟩ rfl)
  iapply Hk
  isplitl [Hd28]; · iexact Hd28
  isplitl [How]; · iexact How
  isplitl [HlA3_0]; · iexact HlA3_0
  isplitl [Hd52]; · iexact Hd52
  isplitl [HlB3_0]; · iexact HlB3_0
  isplitl [Hd29]; · iexact Hd29
  isplitl [HlA3_1]; · iexact HlA3_1
  isplitl [Hd53]; · iexact Hd53
  isplitl [HlB3_1]; · iexact HlB3_1
  isplitl [Hd30]; · iexact Hd30
  iexact HlA3_2

abbrev p58 := k0_part58 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part58 {Q : PUnit → sProp 𝕄} :
    ctx (cont I) K ⊢ iprop((wt c 54 ∗ ow c 32 ∗ wt c 31 ∗ wt c 55 ∗ wt c 32 ∗ wt c 56)
      -∗ ((dn c 54 ∗ ow c 32 ∗ lB I c 3 2 (by decide) ∗ dn c 31 ∗ lA I c 3 3 (by decide) ∗ dn c 55 ∗ lB I c 3 3 (by decide) ∗ dn c 32 ∗ lA I c 4 0 (by decide) ∗ dn c 56 ∗ lB I c 4 0 (by decide))
      -∗ Q ⟨⟩) -∗ WP c (p58 c) Q) := by
  unfold p58; rw [k0_part58_eq_skeleton]; unfold k0_part58_skel
  simp only [semSignalWord, semWaitWord, Prog.lift, Prog.bind_op, Prog.bind_ret, Prog.pure_eq_ret, wp_deviceId]
  iintro #Hc ⟨Hd54, How, Hd31, Hd55, Hd32, Hd56⟩ Hk
  iapply (st_wait (cont I) K c 54 32 (P := lB I c 3 2 (by decide)) (payGBSi (cont I) c 54 0 2 (by decide) (by decide) rfl) rfl (crG 54 (by decide)) (by decide)) $$ Hc Hd54 How
  iintro ⟨Hd54, How, HlB3_2⟩
  iapply (st_wait (cont I) K c 31 32 (P := lA I c 3 3 (by decide)) (payGASi (cont I) c 31 0 3 (by decide) (by decide) rfl) rfl (crG 31 (by decide)) (by decide)) $$ Hc Hd31 How
  iintro ⟨Hd31, How, HlA3_3⟩
  iapply (st_wait (cont I) K c 55 32 (P := lB I c 3 3 (by decide)) (payGBSi (cont I) c 55 0 3 (by decide) (by decide) rfl) rfl (crG 55 (by decide)) (by decide)) $$ Hc Hd55 How
  iintro ⟨Hd55, How, HlB3_3⟩
  iapply (st_wait (cont I) K c 32 32 (P := lA I c 4 0 (by decide)) (payGASi (cont I) c 32 1 0 (by decide) (by decide) rfl) rfl (crG 32 (by decide)) (by decide)) $$ Hc Hd32 How
  iintro ⟨Hd32, How, HlA4_0⟩
  iapply (st_wait (cont I) K c 56 32 (P := lB I c 4 0 (by decide)) (payGBSi (cont I) c 56 1 0 (by decide) (by decide) rfl) rfl (crG 56 (by decide)) (by decide)) $$ Hc Hd56 How
  iintro ⟨Hd56, How, HlB4_0⟩
  iapply (st_ret (Q := Q) c ⟨⟩ rfl)
  iapply Hk
  isplitl [Hd54]; · iexact Hd54
  isplitl [How]; · iexact How
  isplitl [HlB3_2]; · iexact HlB3_2
  isplitl [Hd31]; · iexact Hd31
  isplitl [HlA3_3]; · iexact HlA3_3
  isplitl [Hd55]; · iexact Hd55
  isplitl [HlB3_3]; · iexact HlB3_3
  isplitl [Hd32]; · iexact Hd32
  isplitl [HlA4_0]; · iexact HlA4_0
  isplitl [Hd56]; · iexact Hd56
  iexact HlB4_0

abbrev p59 := k0_part59 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part59 {Q : PUnit → sProp 𝕄} :
    ctx (cont I) K ⊢ iprop((wt c 33 ∗ ow c 32 ∗ wt c 57 ∗ wt c 34 ∗ wt c 58 ∗ wt c 35)
      -∗ ((dn c 33 ∗ ow c 32 ∗ lA I c 4 1 (by decide) ∗ dn c 57 ∗ lB I c 4 1 (by decide) ∗ dn c 34 ∗ lA I c 4 2 (by decide) ∗ dn c 58 ∗ lB I c 4 2 (by decide) ∗ dn c 35 ∗ lA I c 4 3 (by decide))
      -∗ Q ⟨⟩) -∗ WP c (p59 c) Q) := by
  unfold p59; rw [k0_part59_eq_skeleton]; unfold k0_part59_skel
  simp only [semSignalWord, semWaitWord, Prog.lift, Prog.bind_op, Prog.bind_ret, Prog.pure_eq_ret, wp_deviceId]
  iintro #Hc ⟨Hd33, How, Hd57, Hd34, Hd58, Hd35⟩ Hk
  iapply (st_wait (cont I) K c 33 32 (P := lA I c 4 1 (by decide)) (payGASi (cont I) c 33 1 1 (by decide) (by decide) rfl) rfl (crG 33 (by decide)) (by decide)) $$ Hc Hd33 How
  iintro ⟨Hd33, How, HlA4_1⟩
  iapply (st_wait (cont I) K c 57 32 (P := lB I c 4 1 (by decide)) (payGBSi (cont I) c 57 1 1 (by decide) (by decide) rfl) rfl (crG 57 (by decide)) (by decide)) $$ Hc Hd57 How
  iintro ⟨Hd57, How, HlB4_1⟩
  iapply (st_wait (cont I) K c 34 32 (P := lA I c 4 2 (by decide)) (payGASi (cont I) c 34 1 2 (by decide) (by decide) rfl) rfl (crG 34 (by decide)) (by decide)) $$ Hc Hd34 How
  iintro ⟨Hd34, How, HlA4_2⟩
  iapply (st_wait (cont I) K c 58 32 (P := lB I c 4 2 (by decide)) (payGBSi (cont I) c 58 1 2 (by decide) (by decide) rfl) rfl (crG 58 (by decide)) (by decide)) $$ Hc Hd58 How
  iintro ⟨Hd58, How, HlB4_2⟩
  iapply (st_wait (cont I) K c 35 32 (P := lA I c 4 3 (by decide)) (payGASi (cont I) c 35 1 3 (by decide) (by decide) rfl) rfl (crG 35 (by decide)) (by decide)) $$ Hc Hd35 How
  iintro ⟨Hd35, How, HlA4_3⟩
  iapply (st_ret (Q := Q) c ⟨⟩ rfl)
  iapply Hk
  isplitl [Hd33]; · iexact Hd33
  isplitl [How]; · iexact How
  isplitl [HlA4_1]; · iexact HlA4_1
  isplitl [Hd57]; · iexact Hd57
  isplitl [HlB4_1]; · iexact HlB4_1
  isplitl [Hd34]; · iexact Hd34
  isplitl [HlA4_2]; · iexact HlA4_2
  isplitl [Hd58]; · iexact Hd58
  isplitl [HlB4_2]; · iexact HlB4_2
  isplitl [Hd35]; · iexact Hd35
  iexact HlA4_3

abbrev p60 := k0_part60 (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem part60 {Q : PUnit → sProp 𝕄} :
    ctx (cont I) K ⊢ iprop((wt c 59 ∗ ow c 32 ∗ wt c 36 ∗ wt c 60 ∗ wt c 37 ∗ wt c 61)
      -∗ ((dn c 59 ∗ ow c 32 ∗ lB I c 4 3 (by decide) ∗ dn c 36 ∗ lA I c 5 0 (by decide) ∗ dn c 60 ∗ lB I c 5 0 (by decide) ∗ dn c 37 ∗ lA I c 5 1 (by decide) ∗ dn c 61 ∗ lB I c 5 1 (by decide))
      -∗ Q ⟨⟩) -∗ WP c (p60 c) Q) := by
  unfold p60; rw [k0_part60_eq_skeleton]; unfold k0_part60_skel
  simp only [semSignalWord, semWaitWord, Prog.lift, Prog.bind_op, Prog.bind_ret, Prog.pure_eq_ret, wp_deviceId]
  iintro #Hc ⟨Hd59, How, Hd36, Hd60, Hd37, Hd61⟩ Hk
  iapply (st_wait (cont I) K c 59 32 (P := lB I c 4 3 (by decide)) (payGBSi (cont I) c 59 1 3 (by decide) (by decide) rfl) rfl (crG 59 (by decide)) (by decide)) $$ Hc Hd59 How
  iintro ⟨Hd59, How, HlB4_3⟩
  iapply (st_wait (cont I) K c 36 32 (P := lA I c 5 0 (by decide)) (payGASi (cont I) c 36 2 0 (by decide) (by decide) rfl) rfl (crG 36 (by decide)) (by decide)) $$ Hc Hd36 How
  iintro ⟨Hd36, How, HlA5_0⟩
  iapply (st_wait (cont I) K c 60 32 (P := lB I c 5 0 (by decide)) (payGBSi (cont I) c 60 2 0 (by decide) (by decide) rfl) rfl (crG 60 (by decide)) (by decide)) $$ Hc Hd60 How
  iintro ⟨Hd60, How, HlB5_0⟩
  iapply (st_wait (cont I) K c 37 32 (P := lA I c 5 1 (by decide)) (payGASi (cont I) c 37 2 1 (by decide) (by decide) rfl) rfl (crG 37 (by decide)) (by decide)) $$ Hc Hd37 How
  iintro ⟨Hd37, How, HlA5_1⟩
  iapply (st_wait (cont I) K c 61 32 (P := lB I c 5 1 (by decide)) (payGBSi (cont I) c 61 2 1 (by decide) (by decide) rfl) rfl (crG 61 (by decide)) (by decide)) $$ Hc Hd61 How
  iintro ⟨Hd61, How, HlB5_1⟩
  iapply (st_ret (Q := Q) c ⟨⟩ rfl)
  iapply Hk
  isplitl [Hd59]; · iexact Hd59
  isplitl [How]; · iexact How
  isplitl [HlB4_3]; · iexact HlB4_3
  isplitl [Hd36]; · iexact Hd36
  isplitl [HlA5_0]; · iexact HlA5_0
  isplitl [Hd60]; · iexact Hd60
  isplitl [HlB5_0]; · iexact HlB5_0
  isplitl [Hd37]; · iexact Hd37
  isplitl [HlA5_1]; · iexact HlA5_1
  isplitl [Hd61]; · iexact Hd61
  iexact HlB5_1

end Cert.Ring
-- ==== Proof.Body.lean ====
module

public import proofs.«01_k».proof.Proof.Parts0
public import proofs.«01_k».proof.Proof.Parts1
public import proofs.«01_k».proof.Proof.Parts2
public import proofs.«01_k».proof.Proof.Parts3
public import proofs.«01_k».proof.Proof.Parts4
public import proofs.«01_k».proof.Proof.Parts5

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Inp F) (K : Dev nD × Fin 77 → ℕ) (c : Dev nD)

def Gkv : sProp 𝕄 := iprop(d0 c 0 ∗ d0 c 1 ∗ d0 c 2 ∗ d0 c 3 ∗ d0 c 4 ∗ d0 c 5 ∗ d0 c 6 ∗ d0 c 7 ∗ d0 c 8 ∗ d0 c 9 ∗ d0 c 10 ∗ d0 c 11 ∗ d0 c 12 ∗ d0 c 13 ∗ d0 c 14 ∗ d0 c 15)
def GrsS : sProp 𝕄 := iprop(d0 c 16 ∗ d0 c 17 ∗ d0 c 18 ∗ d0 c 22 ∗ d0 c 23 ∗ d0 c 24)
def GrsR : sProp 𝕄 := iprop(wt c 19 ∗ wt c 20 ∗ wt c 21 ∗ wt c 25 ∗ wt c 26 ∗ wt c 27)
def GrsP : sProp 𝕄 := iprop(tk (peer c false) 19 ∗ tk (peer c false) 20 ∗ tk (peer c false) 21 ∗ tk (peer c true) 25 ∗ tk (peer c true) 26 ∗ tk (peer c true) 27)
def GagS : sProp 𝕄 := iprop(d0 c 28 ∗ d0 c 29 ∗ d0 c 30 ∗ d0 c 31 ∗ d0 c 32 ∗ d0 c 33 ∗ d0 c 34 ∗ d0 c 35 ∗ d0 c 36 ∗ d0 c 37 ∗ d0 c 38 ∗ d0 c 39 ∗ d0 c 52 ∗ d0 c 53 ∗ d0 c 54 ∗ d0 c 55 ∗ d0 c 56 ∗ d0 c 57 ∗ d0 c 58 ∗ d0 c 59 ∗ d0 c 60 ∗ d0 c 61 ∗ d0 c 62 ∗ d0 c 63)
def GagR : sProp 𝕄 := iprop(wt c 40 ∗ wt c 41 ∗ wt c 42 ∗ wt c 43 ∗ wt c 44 ∗ wt c 45 ∗ wt c 46 ∗ wt c 47 ∗ wt c 48 ∗ wt c 49 ∗ wt c 50 ∗ wt c 51 ∗ wt c 64 ∗ wt c 65 ∗ wt c 66 ∗ wt c 67 ∗ wt c 68 ∗ wt c 69 ∗ wt c 70 ∗ wt c 71 ∗ wt c 72 ∗ wt c 73 ∗ wt c 74 ∗ wt c 75)
def GagP : sProp 𝕄 := iprop(tk (peer c false) 40 ∗ tk (peer c false) 41 ∗ tk (peer c false) 42 ∗ tk (peer c false) 43 ∗ tk (peer c false) 44 ∗ tk (peer c false) 45 ∗ tk (peer c false) 46 ∗ tk (peer c false) 47 ∗ tk (peer c false) 48 ∗ tk (peer c false) 49 ∗ tk (peer c false) 50 ∗ tk (peer c false) 51 ∗ tk (peer c true) 64 ∗ tk (peer c true) 65 ∗ tk (peer c true) 66 ∗ tk (peer c true) 67 ∗ tk (peer c true) 68 ∗ tk (peer c true) 69 ∗ tk (peer c true) 70 ∗ tk (peer c true) 71 ∗ tk (peer c true) 72 ∗ tk (peer c true) 73 ∗ tk (peer c true) 74 ∗ tk (peer c true) 75)
def Gbar : sProp 𝕄 := iprop((atPos ER (barCell c) 0 ∅ 0 ∗ cred (tallyAt (barCell c) () 2)) ∗ dutyTok ER (barCell (peer c true)) 0 false ∗ dutyTok ER (barCell (peer c false)) 0 true)
def GkH : sProp 𝕄 := iprop(kH I c 0 ∗ kH I c 1 ∗ kH I c 2 ∗ kH I c 3 ∗ kH I c 4 ∗ kH I c 5 ∗ kH I c 6 ∗ kH I c 7)
def GvH : sProp 𝕄 := iprop(vH I c 0 ∗ vH I c 1 ∗ vH I c 2 ∗ vH I c 3 ∗ vH I c 4 ∗ vH I c 5 ∗ vH I c 6 ∗ vH I c 7)

/-- What the body starts from. -/
def startR : sProp 𝕄 := iprop(xR I c ∗ wqR I c ∗ woR I c ∗ Gkv c ∗ GrsS c ∗ GrsR c ∗ GrsP c ∗ GagS c ∗ GagR c ∗ GagP c ∗ Gbar c ∗ GkH I c ∗ GvH I c
  ∗ ownE c accM ∗ ownE c gathM ∗ ownE c kM ∗ ownE c vM ∗ ownE c rsaM ∗ ownE c rsbM ∗ ownE c outM ∗ ow c 0)

theorem st_bind {α β : Type} {Q : β → sProp 𝕄} {p : Prog (TpuEff nD τ sig (Elt F) Λ₀ .tc) α} {k : α → Prog (TpuEff nD τ sig (Elt F) Λ₀ .tc) β} :
    (WP c p (fun a => WP c (k a) Q) : sProp 𝕄) ⊢ WP c (p >>= k) Q := by
  unfold WP; rw [wp_bind]

def Gdn : sProp 𝕄 := iprop(dn c 0 ∗ dn c 1 ∗ dn c 2 ∗ dn c 3 ∗ dn c 4 ∗ dn c 5 ∗ dn c 6 ∗ dn c 7 ∗ dn c 8 ∗ dn c 9 ∗ dn c 10 ∗ dn c 11 ∗ dn c 12 ∗ dn c 13 ∗ dn c 14 ∗ dn c 15 ∗ dn c 16 ∗ dn c 17 ∗ dn c 18 ∗ dn c 19 ∗ dn c 20 ∗ dn c 21 ∗ dn c 22 ∗ dn c 23 ∗ dn c 24 ∗ dn c 25 ∗ dn c 26 ∗ dn c 27 ∗ dn c 28 ∗ dn c 29 ∗ dn c 30 ∗ dn c 31 ∗ dn c 32 ∗ dn c 33 ∗ dn c 34 ∗ dn c 35 ∗ dn c 36 ∗ dn c 37 ∗ dn c 38 ∗ dn c 39 ∗ dn c 40 ∗ dn c 41 ∗ dn c 42 ∗ dn c 43 ∗ dn c 44 ∗ dn c 45 ∗ dn c 46 ∗ dn c 47 ∗ dn c 48 ∗ dn c 49 ∗ dn c 50 ∗ dn c 51 ∗ dn c 52 ∗ dn c 53 ∗ dn c 54 ∗ dn c 55 ∗ dn c 56 ∗ dn c 57 ∗ dn c 58 ∗ dn c 59 ∗ dn c 60 ∗ dn c 61 ∗ dn c 62 ∗ dn c 63 ∗ dn c 64 ∗ dn c 65 ∗ dn c 66 ∗ dn c 67 ∗ dn c 68 ∗ dn c 69 ∗ dn c 70 ∗ dn c 71 ∗ dn c 72 ∗ dn c 73 ∗ dn c 74 ∗ dn c 75)

/-- The result: every chunk finished. -/
def outV (I : Inp F) : S1024x1024.Idx → Elt F .f32 := Rect.glue rowsF rows_cov fun t => fin I t.val

/-- What the body leaves. -/
def endR : sProp 𝕄 := iprop(xR I c ∗ wqR I c ∗ woR I c ∗ own c outM (outV I)
  ∗ ownE c accM ∗ ownE c gathM ∗ ownE c kM ∗ ownE c vM ∗ ownE c rsaM ∗ ownE c rsbM ∗ Gdn c ∗ atPos ER (barCell c) (0 + 1) ∅ 0 ∗ ow c 32)

/-- The body on the launch's buffers. -/
abbrev bodyP := cc0__body (F := F) xM (Memref.isWhole_whole _) wqM (Memref.isWhole_whole _) kHbm (Memref.isWhole_whole _) vHbm (Memref.isWhole_whole _) woM (Memref.isWhole_whole _) outM (Memref.isWhole_whole _) accM (Memref.isWhole_whole _) gathM (Memref.isWhole_whole _) kM (Memref.isWhole_whole _) vM (Memref.isWhole_whole _) rsaM (Memref.isWhole_whole _) rsbM (Memref.isWhole_whole _) cc0_scratch6 cc0_scratch7 cc0_scratch8 cc0_scratch9 cc0_scratch10 cc0_scratch11 cc0_scratch12 cc0_scratch13 cc0_scratch14
theorem body_run {Q : PUnit → sProp 𝕄} : ctx (cont I) K ⊢ iprop(startR I c -∗ (endR I c -∗ Q ⟨⟩) -∗ WP c bodyP Q) := by
  unfold startR Gkv GrsS GrsR GrsP GagS GagR GagP Gbar GkH GvH
  iintro #Hc ⟨Hx, Hwq, Hwo, HGkv, HGrsS, HGrsR, HGrsP, HGagS, HGagR, HGagP, HGbar, HGkH, HGvH, Hacc, Hgath, Hk, Hv, Hrsa, Hrsb, Hout, How⟩ HK
  icases HGkv with ⟨Hd0, Hd1, Hd2, Hd3, Hd4, Hd5, Hd6, Hd7, Hd8, Hd9, Hd10, Hd11, Hd12, Hd13, Hd14, Hd15⟩
  icases HGbar with ⟨Hbar, Hbf, Hbt⟩
  icases HGkH with ⟨HkH0, HkH1, HkH2, HkH3, HkH4, HkH5, HkH6, HkH7⟩
  icases HGvH with ⟨HvH0, HvH1, HvH2, HvH3, HvH4, HvH5, HvH6, HvH7⟩
  ihave Hk := (heads_split c kM) $$ Hk
  icases Hk with ⟨Hk0, Hk1, Hk2, Hk3, Hk4, Hk5, Hk6, Hk7⟩
  ihave Hv := (heads_split c vM) $$ Hv
  icases Hv with ⟨Hv0, Hv1, Hv2, Hv3, Hv4, Hv5, Hv6, Hv7⟩
  ihave Hgath := (chunks_split c gathM) $$ Hgath
  icases Hgath with ⟨HcA0, HcA1, HcA2, HgA3, HcB0, HcB1, HcB2, HgB3⟩
  ihave Hrsa := (slots_split c rsaM) $$ Hrsa
  ihave Hrsb := (slots_split c rsbM) $$ Hrsb
  ihave Hra : recvA (F := F) c $$ [Hrsa HcA0 HcA1 HcA2]
  · unfold recvA; isplitl [Hrsa]; · iexact Hrsa
    isplitl [HcA0]; · iexact HcA0
    isplitl [HcA1]; · iexact HcA1
    iexact HcA2
  ihave Hrb : recvB (F := F) c $$ [Hrsb HcB0 HcB1 HcB2]
  · unfold recvB; isplitl [Hrsb]; · iexact Hrsb
    isplitl [HcB0]; · iexact HcB0
    isplitl [HcB1]; · iexact HcB1
    iexact HcB2
  unfold bodyP; rw [cc0__body_eq_skeleton]; unfold cc0__body_skel
  iapply (st_bind c)
  rw [k0_part61_eq_skeleton]; unfold k0_part61_skel
  -- part 1
  iapply (st_bind c)
  iapply (part1 I K c) $$ Hc [Hd0 Hk0 HkH0 Hd8 Hv0 HvH0]
  · isplitl [Hd0]; · iexact Hd0
    isplitl [Hk0]; · iexact Hk0
    isplitl [HkH0]; · iexact HkH0
    isplitl [Hd8]; · iexact Hd8
    isplitl [Hv0]; · iexact Hv0
    iexact HvH0
  iintro ⟨Hd0, Hd8⟩
  try dsimp only
  -- part 2
  iapply (st_bind c)
  iapply (part2 I K c) $$ Hc [Hd1 Hk1 HkH1 Hd9 Hv1 HvH1 Hd2 Hk2 HkH2 Hd10 Hv2 HvH2]
  · isplitl [Hd1]; · iexact Hd1
    isplitl [Hk1]; · iexact Hk1
    isplitl [HkH1]; · iexact HkH1
    isplitl [Hd9]; · iexact Hd9
    isplitl [Hv1]; · iexact Hv1
    isplitl [HvH1]; · iexact HvH1
    isplitl [Hd2]; · iexact Hd2
    isplitl [Hk2]; · iexact Hk2
    isplitl [HkH2]; · iexact HkH2
    isplitl [Hd10]; · iexact Hd10
    isplitl [Hv2]; · iexact Hv2
    iexact HvH2
  iintro ⟨Hd1, Hd9, Hd2, Hd10⟩
  try dsimp only
  -- part 3
  iapply (st_bind c)
  iapply (part3 I K c) $$ Hc [Hd3 Hk3 HkH3 Hd11 Hv3 HvH3 Hd4 Hk4 HkH4]
  · isplitl [Hd3]; · iexact Hd3
    isplitl [Hk3]; · iexact Hk3
    isplitl [HkH3]; · iexact HkH3
    isplitl [Hd11]; · iexact Hd11
    isplitl [Hv3]; · iexact Hv3
    isplitl [HvH3]; · iexact HvH3
    isplitl [Hd4]; · iexact Hd4
    isplitl [Hk4]; · iexact Hk4
    iexact HkH4
  iintro ⟨Hd3, Hd11, Hd4⟩
  try dsimp only
  -- part 4
  iapply (st_bind c)
  iapply (part4 I K c) $$ Hc [Hd12 Hv4 HvH4 Hd5 Hk5 HkH5 Hd13 Hv5 HvH5 Hd6 Hk6 HkH6]
  · isplitl [Hd12]; · iexact Hd12
    isplitl [Hv4]; · iexact Hv4
    isplitl [HvH4]; · iexact HvH4
    isplitl [Hd5]; · iexact Hd5
    isplitl [Hk5]; · iexact Hk5
    isplitl [HkH5]; · iexact HkH5
    isplitl [Hd13]; · iexact Hd13
    isplitl [Hv5]; · iexact Hv5
    isplitl [HvH5]; · iexact HvH5
    isplitl [Hd6]; · iexact Hd6
    isplitl [Hk6]; · iexact Hk6
    iexact HkH6
  iintro ⟨Hd12, Hd5, Hd13, Hd6⟩
  try dsimp only
  -- part 5
  iapply (st_bind c)
  iapply (part5 I K c) $$ Hc [Hd14 Hv6 HvH6 Hd7 Hk7 HkH7 Hd15 Hv7 HvH7 Hbf Hra How]
  · isplitl [Hd14]; · iexact Hd14
    isplitl [Hv6]; · iexact Hv6
    isplitl [HvH6]; · iexact HvH6
    isplitl [Hd7]; · iexact Hd7
    isplitl [Hk7]; · iexact Hk7
    isplitl [HkH7]; · iexact HkH7
    isplitl [Hd15]; · iexact Hd15
    isplitl [Hv7]; · iexact Hv7
    isplitl [HvH7]; · iexact HvH7
    isplitl [Hbf]; · iexact Hbf
    isplitl [Hra]; · iexact Hra
    iexact How
  iintro ⟨Hd14, Hd7, Hd15, How⟩
  try dsimp only
  -- part 6
  iapply (st_bind c)
  iapply (part6 I K c) $$ Hc [Hbt Hrb How Hbar Hx Hwq Hd0]
  · isplitl [Hbt]; · iexact Hbt
    isplitl [Hrb]; · iexact Hrb
    isplitl [How]; · iexact How
    isplitl [Hbar]; · iexact Hbar
    isplitl [Hx]; · iexact Hx
    isplitl [Hwq]; · iexact Hwq
    iexact Hd0
  iintro ⟨How, Hbar, HRa, HRb, Hx, Hwq, Hd0, Hk0⟩
  try dsimp only
  ihave HRa := (unpackA c) $$ HRa
  icases HRa with ⟨⟨HeA0, HeA1, HeA2⟩, ⟨HpA3_0, HpA3_1, HpA3_2, HpA3_3⟩, ⟨HpA4_0, HpA4_1, HpA4_2, HpA4_3⟩, ⟨HpA5_0, HpA5_1, HpA5_2, HpA5_3⟩⟩
  ihave HRb := (unpackB c) $$ HRb
  icases HRb with ⟨⟨HeB0, HeB1, HeB2⟩, ⟨HpB3_0, HpB3_1, HpB3_2, HpB3_3⟩, ⟨HpB4_0, HpB4_1, HpB4_2, HpB4_3⟩, ⟨HpB5_0, HpB5_1, HpB5_2, HpB5_3⟩⟩
  -- part 7
  iapply (st_bind c)
  iapply (part7 I K c) $$ Hc [Hd8 How Hd1 Hd9 Hd2 Hd10]
  · isplitl [Hd8]; · iexact Hd8
    isplitl [How]; · iexact How
    isplitl [Hd1]; · iexact Hd1
    isplitl [Hd9]; · iexact Hd9
    isplitl [Hd2]; · iexact Hd2
    iexact Hd10
  iintro ⟨Hd8, How, Hv0, Hd1, Hk1, Hd9, Hv1, Hd2, Hk2, Hd10, Hv2⟩
  try dsimp only
  -- part 8
  iapply (st_bind c)
  iapply (part8 I K c) $$ Hc [Hd3 How Hd11 Hd4 Hd12]
  · isplitl [Hd3]; · iexact Hd3
    isplitl [How]; · iexact How
    isplitl [Hd11]; · iexact Hd11
    isplitl [Hd4]; · iexact Hd4
    iexact Hd12
  iintro ⟨Hd3, How, Hk3, Hd11, Hv3, Hd4, Hk4, Hd12, Hv4⟩
  try dsimp only
  -- part 9
  iapply (st_bind c)
  iapply (part9 I K c) $$ Hc [Hd5 How Hd13 Hd6 Hd14 Hd7]
  · isplitl [Hd5]; · iexact Hd5
    isplitl [How]; · iexact How
    isplitl [Hd13]; · iexact Hd13
    isplitl [Hd6]; · iexact Hd6
    isplitl [Hd14]; · iexact Hd14
    iexact Hd7
  iintro ⟨Hd5, How, Hk5, Hd13, Hv5, Hd6, Hk6, Hd14, Hv6, Hd7, Hk7⟩
  try dsimp only
  -- part 10
  iapply (st_bind c)
  iapply (part10 I K c) $$ Hc [Hd15 How]
  · isplitl [Hd15]; · iexact Hd15
    iexact How
  iintro ⟨Hd15, How, Hv7⟩
  try dsimp only
  -- part 11
  iapply (st_bind c)
  iapply (part11 I K c) $$ Hc [Hk0 Hv0]
  · isplitl [Hk0]; · iexact Hk0
    iexact Hv0
  iintro ⟨Hk0, Hv0⟩
  try dsimp only
  -- part 12
  iapply (st_bind c)
  iapply (part12 I K c) $$ Hc [Hk1 Hv1 Hk2 Hv2 Hk3 Hv3 Hk4]
  · isplitl [Hk1]; · iexact Hk1
    isplitl [Hv1]; · iexact Hv1
    isplitl [Hk2]; · iexact Hk2
    isplitl [Hv2]; · iexact Hv2
    isplitl [Hk3]; · iexact Hk3
    isplitl [Hv3]; · iexact Hv3
    iexact Hk4
  iintro ⟨Hk1, Hv1, Hk2, Hv2, Hk3, Hv3, Hk4⟩
  try dsimp only
  -- part 13
  iapply (st_bind c)
  iapply (part13 I K c) $$ Hc [Hv4 Hk5 Hv5 Hk6 Hv6 Hk7 Hv7]
  · isplitl [Hv4]; · iexact Hv4
    isplitl [Hk5]; · iexact Hk5
    isplitl [Hv5]; · iexact Hv5
    isplitl [Hk6]; · iexact Hk6
    isplitl [Hv6]; · iexact Hv6
    isplitl [Hk7]; · iexact Hk7
    iexact Hv7
  iintro ⟨Hv4, Hk5, Hv5, Hk6, Hv6, Hk7, Hv7⟩
  try dsimp only
  icases HGrsS with ⟨Hd16, Hd17, Hd18, Hd22, Hd23, Hd24⟩
  icases HGrsR with ⟨Hd19, Hd20, Hd21, Hd25, Hd26, Hd27⟩
  icases HGrsP with ⟨Hp19, Hp20, Hp21, Hp25, Hp26, Hp27⟩
  ihave Hacc := (chunks_split c accM) $$ Hacc
  icases Hacc with ⟨HaA0, HaA1, HaA2, HaA3, HaB0, HaB1, HaB2, HaB3⟩
  -- part 14
  iapply (st_bind c)
  iapply (part14 I K c) $$ Hc [Hwo HaA0 HaB0 Hd16 Hp19 HeA0 How]
  · isplitl [Hwo]; · iexact Hwo
    isplitl [HaA0]; · iexact HaA0
    isplitl [HaB0]; · iexact HaB0
    isplitl [Hd16]; · iexact Hd16
    isplitl [Hp19]; · iexact Hp19
    isplitl [HeA0]; · iexact HeA0
    iexact How
  iintro ⟨Hwo, HaB0, Hd16, How⟩
  try dsimp only
  -- part 15
  iapply (st_bind c)
  iapply (part15 I K c) $$ Hc [Hd22 Hp25 HaB0 HeB0 How Hx Hwq]
  · isplitl [Hd22]; · iexact Hd22
    isplitl [Hp25]; · iexact Hp25
    isplitl [HaB0]; · iexact HaB0
    isplitl [HeB0]; · iexact HeB0
    isplitl [How]; · iexact How
    isplitl [Hx]; · iexact Hx
    iexact Hwq
  iintro ⟨Hd22, How, Hx, Hwq⟩
  try dsimp only
  -- part 16
  iapply (st_bind c)
  iapply (part16 I K c) $$ Hc
  try dsimp only
  -- part 17
  iapply (st_bind c)
  iapply (part17 I K c) $$ Hc [Hk0 Hv0 Hk1 Hv1 Hk2 Hv2]
  · isplitl [Hk0]; · iexact Hk0
    isplitl [Hv0]; · iexact Hv0
    isplitl [Hk1]; · iexact Hk1
    isplitl [Hv1]; · iexact Hv1
    isplitl [Hk2]; · iexact Hk2
    iexact Hv2
  iintro ⟨Hk0, Hv0, Hk1, Hv1, Hk2, Hv2⟩
  try dsimp only
  -- part 18
  iapply (st_bind c)
  iapply (part18 I K c) $$ Hc [Hk3 Hv3 Hk4 Hv4 Hk5 Hv5 Hk6]
  · isplitl [Hk3]; · iexact Hk3
    isplitl [Hv3]; · iexact Hv3
    isplitl [Hk4]; · iexact Hk4
    isplitl [Hv4]; · iexact Hv4
    isplitl [Hk5]; · iexact Hk5
    isplitl [Hv5]; · iexact Hv5
    iexact Hk6
  iintro ⟨Hk3, Hv3, Hk4, Hv4, Hk5, Hv5, Hk6⟩
  try dsimp only
  -- part 19
  iapply (st_bind c)
  iapply (part19 I K c) $$ Hc [Hv6 Hk7 Hv7 Hwo HaA1 HaB1]
  · isplitl [Hv6]; · iexact Hv6
    isplitl [Hk7]; · iexact Hk7
    isplitl [Hv7]; · iexact Hv7
    isplitl [Hwo]; · iexact Hwo
    isplitl [HaA1]; · iexact HaA1
    iexact HaB1
  iintro ⟨Hv6, Hk7, Hv7, Hwo, HaA1, HaB1⟩
  try dsimp only
  -- part 20
  iapply (st_bind c)
  iapply (part20 I K c) $$ Hc [Hd19 How HaA1 Hd17 Hp20 HeA1 Hd25]
  · isplitl [Hd19]; · iexact Hd19
    isplitl [How]; · iexact How
    isplitl [HaA1]; · iexact HaA1
    isplitl [Hd17]; · iexact Hd17
    isplitl [Hp20]; · iexact Hp20
    isplitl [HeA1]; · iexact HeA1
    iexact Hd25
  iintro ⟨Hd19, How, HsA0, Hd17, Hd25, HsB0⟩
  try dsimp only
  -- part 21
  iapply (st_bind c)
  iapply (part21 I K c) $$ Hc [HaB1 HsB0 Hd23 Hp26 HeB1 How Hx Hwq]
  · isplitl [HaB1]; · iexact HaB1
    isplitl [HsB0]; · iexact HsB0
    isplitl [Hd23]; · iexact Hd23
    isplitl [Hp26]; · iexact Hp26
    isplitl [HeB1]; · iexact HeB1
    isplitl [How]; · iexact How
    isplitl [Hx]; · iexact Hx
    iexact Hwq
  iintro ⟨HsB0, Hd23, How, Hx, Hwq⟩
  try dsimp only
  -- part 22
  iapply (st_bind c)
  iapply (part22 I K c) $$ Hc
  try dsimp only
  -- part 23
  iapply (st_bind c)
  iapply (part23 I K c) $$ Hc [Hk0 Hv0]
  · isplitl [Hk0]; · iexact Hk0
    iexact Hv0
  iintro ⟨Hk0, Hv0⟩
  try dsimp only
  -- part 24
  iapply (st_bind c)
  iapply (part24 I K c) $$ Hc [Hk1 Hv1 Hk2 Hv2 Hk3 Hv3 Hk4]
  · isplitl [Hk1]; · iexact Hk1
    isplitl [Hv1]; · iexact Hv1
    isplitl [Hk2]; · iexact Hk2
    isplitl [Hv2]; · iexact Hv2
    isplitl [Hk3]; · iexact Hk3
    isplitl [Hv3]; · iexact Hv3
    iexact Hk4
  iintro ⟨Hk1, Hv1, Hk2, Hv2, Hk3, Hv3, Hk4⟩
  try dsimp only
  -- part 25
  iapply (st_bind c)
  iapply (part25 I K c) $$ Hc [Hv4 Hk5 Hv5 Hk6 Hv6 Hk7 Hv7]
  · isplitl [Hv4]; · iexact Hv4
    isplitl [Hk5]; · iexact Hk5
    isplitl [Hv5]; · iexact Hv5
    isplitl [Hk6]; · iexact Hk6
    isplitl [Hv6]; · iexact Hv6
    isplitl [Hk7]; · iexact Hk7
    iexact Hv7
  iintro ⟨Hv4, Hk5, Hv5, Hk6, Hv6, Hk7, Hv7⟩
  try dsimp only
  -- part 26
  iapply (st_bind c)
  iapply (part26 I K c) $$ Hc [Hwo HaA2 HaB2 Hd20 How]
  · isplitl [Hwo]; · iexact Hwo
    isplitl [HaA2]; · iexact HaA2
    isplitl [HaB2]; · iexact HaB2
    isplitl [Hd20]; · iexact Hd20
    iexact How
  iintro ⟨Hwo, HaA2, HaB2, Hd20, How, HsA1⟩
  try dsimp only
  -- part 27
  iapply (st_bind c)
  iapply (part27 I K c) $$ Hc [Hd18 Hp21 HaA2 HeA2 How Hd26 HaB2]
  · isplitl [Hd18]; · iexact Hd18
    isplitl [Hp21]; · iexact Hp21
    isplitl [HaA2]; · iexact HaA2
    isplitl [HeA2]; · iexact HeA2
    isplitl [How]; · iexact How
    isplitl [Hd26]; · iexact Hd26
    iexact HaB2
  iintro ⟨Hd18, How, Hd26, HsB1, HaB2⟩
  try dsimp only
  -- part 28
  iapply (st_bind c)
  iapply (part28 I K c) $$ Hc [Hd24 Hp27 HaB2 HeB2 How Hx Hwq]
  · isplitl [Hd24]; · iexact Hd24
    isplitl [Hp27]; · iexact Hp27
    isplitl [HaB2]; · iexact HaB2
    isplitl [HeB2]; · iexact HeB2
    isplitl [How]; · iexact How
    isplitl [Hx]; · iexact Hx
    iexact Hwq
  iintro ⟨Hd24, How, Hx, Hwq⟩
  try dsimp only
  -- part 29
  iapply (st_bind c)
  iapply (part29 I K c) $$ Hc
  try dsimp only
  -- part 30
  iapply (st_bind c)
  iapply (part30 I K c) $$ Hc [Hk0 Hv0 Hk1 Hv1 Hk2 Hv2]
  · isplitl [Hk0]; · iexact Hk0
    isplitl [Hv0]; · iexact Hv0
    isplitl [Hk1]; · iexact Hk1
    isplitl [Hv1]; · iexact Hv1
    isplitl [Hk2]; · iexact Hk2
    iexact Hv2
  iintro ⟨Hk0, Hv0, Hk1, Hv1, Hk2, Hv2⟩
  try dsimp only
  -- part 31
  iapply (st_bind c)
  iapply (part31 I K c) $$ Hc [Hk3 Hv3 Hk4 Hv4 Hk5 Hv5]
  · isplitl [Hk3]; · iexact Hk3
    isplitl [Hv3]; · iexact Hv3
    isplitl [Hk4]; · iexact Hk4
    isplitl [Hv4]; · iexact Hv4
    isplitl [Hk5]; · iexact Hk5
    iexact Hv5
  iintro ⟨Hk3, Hv3, Hk4, Hv4, Hk5, Hv5⟩
  try dsimp only
  -- part 32
  iapply (st_bind c)
  iapply (part32 I K c) $$ Hc [Hk6 Hv6 Hk7 Hv7 Hwo HaA3 HaB3]
  · isplitl [Hk6]; · iexact Hk6
    isplitl [Hv6]; · iexact Hv6
    isplitl [Hk7]; · iexact Hk7
    isplitl [Hv7]; · iexact Hv7
    isplitl [Hwo]; · iexact Hwo
    isplitl [HaA3]; · iexact HaA3
    iexact HaB3
  iintro ⟨Hk6, Hv6, Hk7, Hv7, Hwo, HaA3, HaB3⟩
  try dsimp only
  -- part 33
  iapply (st_bind c)
  iapply (part33 I K c) $$ Hc [Hd21 How HaA3 Hd27 HaB3]
  · isplitl [Hd21]; · iexact Hd21
    isplitl [How]; · iexact How
    isplitl [HaA3]; · iexact HaA3
    isplitl [Hd27]; · iexact Hd27
    iexact HaB3
  iintro ⟨Hd21, How, HsA2, HaA3, Hd27, HsB2, HaB3⟩
  try dsimp only
  -- part 34
  iapply (st_bind c)
  iapply (part34 I K c) $$ Hc [HaA3 HgA3 HaB3 HgB3]
  · isplitl [HaA3]; · iexact HaA3
    isplitl [HgA3]; · iexact HgA3
    isplitl [HaB3]; · iexact HaB3
    iexact HgB3
  iintro ⟨HaA3, HgA3, HaB3, HgB3⟩
  try dsimp only
  icases HGagS with ⟨Hd28, Hd29, Hd30, Hd31, Hd32, Hd33, Hd34, Hd35, Hd36, Hd37, Hd38, Hd39, Hd52, Hd53, Hd54, Hd55, Hd56, Hd57, Hd58, Hd59, Hd60, Hd61, Hd62, Hd63⟩
  icases HGagR with ⟨Hd40, Hd41, Hd42, Hd43, Hd44, Hd45, Hd46, Hd47, Hd48, Hd49, Hd50, Hd51, Hd64, Hd65, Hd66, Hd67, Hd68, Hd69, Hd70, Hd71, Hd72, Hd73, Hd74, Hd75⟩
  icases HGagP with ⟨Hp40, Hp41, Hp42, Hp43, Hp44, Hp45, Hp46, Hp47, Hp48, Hp49, Hp50, Hp51, Hp64, Hp65, Hp66, Hp67, Hp68, Hp69, Hp70, Hp71, Hp72, Hp73, Hp74, Hp75⟩
  ihave HgA3 := (split_gA I c 3) $$ HgA3
  icases HgA3 with ⟨⟨HlA3_0, HlA3_1, HlA3_2, HlA3_3⟩, HjA3⟩
  ihave HgB3 := (split_gB I c 3) $$ HgB3
  icases HgB3 with ⟨⟨HlB3_0, HlB3_1, HlB3_2, HlB3_3⟩, HjB3⟩
  ihave Hout := (chunks_split c outM) $$ Hout
  icases Hout with ⟨HoA0, HoA1, HoA2, HoA3, HoB0, HoB1, HoB2, HoB3⟩
  -- part 35
  iapply (st_bind c)
  iapply (part35 I K c) $$ Hc [Hd28 Hp40 HlA3_0 HpA3_0 How Hd52 Hp64 HlB3_0 HpB3_0]
  · isplitl [Hd28]; · iexact Hd28
    isplitl [Hp40]; · iexact Hp40
    isplitl [HlA3_0]; · iexact HlA3_0
    isplitl [HpA3_0]; · iexact HpA3_0
    isplitl [How]; · iexact How
    isplitl [Hd52]; · iexact Hd52
    isplitl [Hp64]; · iexact Hp64
    isplitl [HlB3_0]; · iexact HlB3_0
    iexact HpB3_0
  iintro ⟨Hd28, How, Hd52⟩
  try dsimp only
  -- part 36
  iapply (st_bind c)
  iapply (part36 I K c) $$ Hc [Hd29 Hp41 HlA3_1 HpA3_1 How Hd53 Hp65 HlB3_1 HpB3_1]
  · isplitl [Hd29]; · iexact Hd29
    isplitl [Hp41]; · iexact Hp41
    isplitl [HlA3_1]; · iexact HlA3_1
    isplitl [HpA3_1]; · iexact HpA3_1
    isplitl [How]; · iexact How
    isplitl [Hd53]; · iexact Hd53
    isplitl [Hp65]; · iexact Hp65
    isplitl [HlB3_1]; · iexact HlB3_1
    iexact HpB3_1
  iintro ⟨Hd29, How, Hd53⟩
  try dsimp only
  -- part 37
  iapply (st_bind c)
  iapply (part37 I K c) $$ Hc [Hd30 Hp42 HlA3_2 HpA3_2 How Hd54 Hp66 HlB3_2 HpB3_2]
  · isplitl [Hd30]; · iexact Hd30
    isplitl [Hp42]; · iexact Hp42
    isplitl [HlA3_2]; · iexact HlA3_2
    isplitl [HpA3_2]; · iexact HpA3_2
    isplitl [How]; · iexact How
    isplitl [Hd54]; · iexact Hd54
    isplitl [Hp66]; · iexact Hp66
    isplitl [HlB3_2]; · iexact HlB3_2
    iexact HpB3_2
  iintro ⟨Hd30, How, Hd54⟩
  try dsimp only
  -- part 38
  iapply (st_bind c)
  iapply (part38 I K c) $$ Hc [Hd31 Hp43 HlA3_3 HpA3_3 How Hd55 Hp67 HlB3_3 HpB3_3]
  · isplitl [Hd31]; · iexact Hd31
    isplitl [Hp43]; · iexact Hp43
    isplitl [HlA3_3]; · iexact HlA3_3
    isplitl [HpA3_3]; · iexact HpA3_3
    isplitl [How]; · iexact How
    isplitl [Hd55]; · iexact Hd55
    isplitl [Hp67]; · iexact Hp67
    isplitl [HlB3_3]; · iexact HlB3_3
    iexact HpB3_3
  iintro ⟨Hd31, How, Hd55⟩
  try dsimp only
  -- part 39
  iapply (st_bind c)
  iapply (part39 I K c) $$ Hc [Hd40 How]
  · isplitl [Hd40]; · iexact Hd40
    iexact How
  iintro ⟨Hd40, How, HlA4_0, HhA0_0⟩
  try dsimp only
  -- part 40
  iapply (st_bind c)
  iapply (part40 I K c) $$ Hc [Hd32 Hp44 HlA4_0 HpA4_0 How Hd64 Hd56 Hp68 HpB4_0]
  · isplitl [Hd32]; · iexact Hd32
    isplitl [Hp44]; · iexact Hp44
    isplitl [HlA4_0]; · iexact HlA4_0
    isplitl [HpA4_0]; · iexact HpA4_0
    isplitl [How]; · iexact How
    isplitl [Hd64]; · iexact Hd64
    isplitl [Hd56]; · iexact Hd56
    isplitl [Hp68]; · iexact Hp68
    iexact HpB4_0
  iintro ⟨Hd32, How, Hd64, HhB0_0, Hd56⟩
  try dsimp only
  -- part 41
  iapply (st_bind c)
  iapply (part41 I K c) $$ Hc [Hd41 How Hd33 Hp45 HpA4_1 Hd65]
  · isplitl [Hd41]; · iexact Hd41
    isplitl [How]; · iexact How
    isplitl [Hd33]; · iexact Hd33
    isplitl [Hp45]; · iexact Hp45
    isplitl [HpA4_1]; · iexact HpA4_1
    iexact Hd65
  iintro ⟨Hd41, How, HhA0_1, Hd33, Hd65, HlB4_1, HhB0_1⟩
  try dsimp only
  -- part 42
  iapply (st_bind c)
  iapply (part42 I K c) $$ Hc [Hd57 Hp69 HlB4_1 HpB4_1 How Hd42]
  · isplitl [Hd57]; · iexact Hd57
    isplitl [Hp69]; · iexact Hp69
    isplitl [HlB4_1]; · iexact HlB4_1
    isplitl [HpB4_1]; · iexact HpB4_1
    isplitl [How]; · iexact How
    iexact Hd42
  iintro ⟨Hd57, How, Hd42, HlA4_2, HhA0_2⟩
  try dsimp only
  -- part 43
  iapply (st_bind c)
  iapply (part43 I K c) $$ Hc [Hd34 Hp46 HlA4_2 HpA4_2 How Hd66 Hd58 Hp70 HpB4_2]
  · isplitl [Hd34]; · iexact Hd34
    isplitl [Hp46]; · iexact Hp46
    isplitl [HlA4_2]; · iexact HlA4_2
    isplitl [HpA4_2]; · iexact HpA4_2
    isplitl [How]; · iexact How
    isplitl [Hd66]; · iexact Hd66
    isplitl [Hd58]; · iexact Hd58
    isplitl [Hp70]; · iexact Hp70
    iexact HpB4_2
  iintro ⟨Hd34, How, Hd66, HhB0_2, Hd58⟩
  try dsimp only
  -- part 44
  iapply (st_bind c)
  iapply (part44 I K c) $$ Hc [Hd43 How Hd35 Hp47 HpA4_3]
  · isplitl [Hd43]; · iexact Hd43
    isplitl [How]; · iexact How
    isplitl [Hd35]; · iexact Hd35
    isplitl [Hp47]; · iexact Hp47
    iexact HpA4_3
  iintro ⟨Hd43, How, HhA0_3, Hd35⟩
  try dsimp only
  -- part 45
  iapply (st_bind c)
  iapply (part45 I K c) $$ Hc [Hd67 How Hd59 Hp71 HpB4_3 HhA0_0 HhA0_1 HhA0_2 HhA0_3 HoA0 HhB0_0 HhB0_1 HhB0_2 HoB0]
  · isplitl [Hd67]; · iexact Hd67
    isplitl [How]; · iexact How
    isplitl [Hd59]; · iexact Hd59
    isplitl [Hp71]; · iexact Hp71
    isplitl [HpB4_3]; · iexact HpB4_3
    isplitl [HhA0_0]; · iexact HhA0_0
    isplitl [HhA0_1]; · iexact HhA0_1
    isplitl [HhA0_2]; · iexact HhA0_2
    isplitl [HhA0_3]; · iexact HhA0_3
    isplitl [HoA0]; · iexact HoA0
    isplitl [HhB0_0]; · iexact HhB0_0
    isplitl [HhB0_1]; · iexact HhB0_1
    isplitl [HhB0_2]; · iexact HhB0_2
    iexact HoB0
  iintro ⟨Hd67, How, Hd59, HjA0, HoA0, HjB0, HoB0⟩
  try dsimp only
  -- part 46
  iapply (st_bind c)
  iapply (part46 I K c) $$ Hc [Hd44 How Hd36 Hp48 HpA5_0]
  · isplitl [Hd44]; · iexact Hd44
    isplitl [How]; · iexact How
    isplitl [Hd36]; · iexact Hd36
    isplitl [Hp48]; · iexact Hp48
    iexact HpA5_0
  iintro ⟨Hd44, How, HhA1_0, Hd36⟩
  try dsimp only
  -- part 47
  iapply (st_bind c)
  iapply (part47 I K c) $$ Hc [Hd68 How Hd60 Hp72 HpB5_0]
  · isplitl [Hd68]; · iexact Hd68
    isplitl [How]; · iexact How
    isplitl [Hd60]; · iexact Hd60
    isplitl [Hp72]; · iexact Hp72
    iexact HpB5_0
  iintro ⟨Hd68, How, HhB1_0, Hd60⟩
  try dsimp only
  -- part 48
  iapply (st_bind c)
  iapply (part48 I K c) $$ Hc [Hd45 How Hd37 Hp49 HpA5_1 Hd69]
  · isplitl [Hd45]; · iexact Hd45
    isplitl [How]; · iexact How
    isplitl [Hd37]; · iexact Hd37
    isplitl [Hp49]; · iexact Hp49
    isplitl [HpA5_1]; · iexact HpA5_1
    iexact Hd69
  iintro ⟨Hd45, How, HhA1_1, Hd37, Hd69, HlB5_1, HhB1_1⟩
  try dsimp only
  -- part 49
  iapply (st_bind c)
  iapply (part49 I K c) $$ Hc [Hd61 Hp73 HlB5_1 HpB5_1 How Hd46]
  · isplitl [Hd61]; · iexact Hd61
    isplitl [Hp73]; · iexact Hp73
    isplitl [HlB5_1]; · iexact HlB5_1
    isplitl [HpB5_1]; · iexact HpB5_1
    isplitl [How]; · iexact How
    iexact Hd46
  iintro ⟨Hd61, How, Hd46, HlA5_2, HhA1_2⟩
  try dsimp only
  -- part 50
  iapply (st_bind c)
  iapply (part50 I K c) $$ Hc [Hd38 Hp50 HlA5_2 HpA5_2 How Hd70 Hd62 Hp74 HpB5_2]
  · isplitl [Hd38]; · iexact Hd38
    isplitl [Hp50]; · iexact Hp50
    isplitl [HlA5_2]; · iexact HlA5_2
    isplitl [HpA5_2]; · iexact HpA5_2
    isplitl [How]; · iexact How
    isplitl [Hd70]; · iexact Hd70
    isplitl [Hd62]; · iexact Hd62
    isplitl [Hp74]; · iexact Hp74
    iexact HpB5_2
  iintro ⟨Hd38, How, Hd70, HhB1_2, Hd62⟩
  try dsimp only
  -- part 51
  iapply (st_bind c)
  iapply (part51 I K c) $$ Hc [Hd47 How Hd39 Hp51 HpA5_3 Hd71]
  · isplitl [Hd47]; · iexact Hd47
    isplitl [How]; · iexact How
    isplitl [Hd39]; · iexact Hd39
    isplitl [Hp51]; · iexact Hp51
    isplitl [HpA5_3]; · iexact HpA5_3
    iexact Hd71
  iintro ⟨Hd47, How, HhA1_3, Hd39, Hd71, HlB5_3, HhB1_3⟩
  try dsimp only
  -- part 52
  iapply (st_bind c)
  iapply (part52 I K c) $$ Hc [Hd63 Hp75 HlB5_3 HpB5_3 How HhA1_0 HhA1_1 HhA1_2 HhA1_3 HoA1 HhB1_0 HhB1_1 HhB1_2 HhB1_3 HoB1 HjA3 HoA3]
  · isplitl [Hd63]; · iexact Hd63
    isplitl [Hp75]; · iexact Hp75
    isplitl [HlB5_3]; · iexact HlB5_3
    isplitl [HpB5_3]; · iexact HpB5_3
    isplitl [How]; · iexact How
    isplitl [HhA1_0]; · iexact HhA1_0
    isplitl [HhA1_1]; · iexact HhA1_1
    isplitl [HhA1_2]; · iexact HhA1_2
    isplitl [HhA1_3]; · iexact HhA1_3
    isplitl [HoA1]; · iexact HoA1
    isplitl [HhB1_0]; · iexact HhB1_0
    isplitl [HhB1_1]; · iexact HhB1_1
    isplitl [HhB1_2]; · iexact HhB1_2
    isplitl [HhB1_3]; · iexact HhB1_3
    isplitl [HoB1]; · iexact HoB1
    isplitl [HjA3]; · iexact HjA3
    iexact HoA3
  iintro ⟨Hd63, How, HjA1, HoA1, HjB1, HoB1, HjA3, HoA3⟩
  try dsimp only
  -- part 53
  iapply (st_bind c)
  iapply (part53 I K c) $$ Hc [HjB3 HoB3 Hd48 How Hd72 Hd49]
  · isplitl [HjB3]; · iexact HjB3
    isplitl [HoB3]; · iexact HoB3
    isplitl [Hd48]; · iexact Hd48
    isplitl [How]; · iexact How
    isplitl [Hd72]; · iexact Hd72
    iexact Hd49
  iintro ⟨HjB3, HoB3, Hd48, How, HfA2_0, Hd72, HfB2_0, Hd49, HfA2_1⟩
  try dsimp only
  -- part 54
  iapply (st_bind c)
  iapply (part54 I K c) $$ Hc [Hd73 How Hd50 Hd74 Hd51]
  · isplitl [Hd73]; · iexact Hd73
    isplitl [How]; · iexact How
    isplitl [Hd50]; · iexact Hd50
    isplitl [Hd74]; · iexact Hd74
    iexact Hd51
  iintro ⟨Hd73, How, HfB2_1, Hd50, HfA2_2, Hd74, HfB2_2, Hd51, HfA2_3⟩
  try dsimp only
  -- part 55
  iapply (st_bind c)
  iapply (part55 I K c) $$ Hc [Hd75 How HfA2_0 HfA2_1 HfA2_2 HfA2_3 HoA2 HfB2_0 HfB2_1 HfB2_2 HoB2 Hd16]
  · isplitl [Hd75]; · iexact Hd75
    isplitl [How]; · iexact How
    isplitl [HfA2_0]; · iexact HfA2_0
    isplitl [HfA2_1]; · iexact HfA2_1
    isplitl [HfA2_2]; · iexact HfA2_2
    isplitl [HfA2_3]; · iexact HfA2_3
    isplitl [HoA2]; · iexact HoA2
    isplitl [HfB2_0]; · iexact HfB2_0
    isplitl [HfB2_1]; · iexact HfB2_1
    isplitl [HfB2_2]; · iexact HfB2_2
    isplitl [HoB2]; · iexact HoB2
    iexact Hd16
  iintro ⟨Hd75, How, HgA2, HoA2, HgB2, HoB2, Hd16, HaA0⟩
  try dsimp only
  -- part 56
  iapply (st_bind c)
  iapply (part56 I K c) $$ Hc [Hd22 How Hd17 Hd23 Hd18 Hd24]
  · isplitl [Hd22]; · iexact Hd22
    isplitl [How]; · iexact How
    isplitl [Hd17]; · iexact Hd17
    isplitl [Hd23]; · iexact Hd23
    isplitl [Hd18]; · iexact Hd18
    iexact Hd24
  iintro ⟨Hd22, How, HaB0, Hd17, HaA1, Hd23, HaB1, Hd18, HaA2, Hd24, HaB2⟩
  try dsimp only
  -- part 57
  iapply (st_bind c)
  iapply (part57 I K c) $$ Hc [Hd28 How Hd52 Hd29 Hd53 Hd30]
  · isplitl [Hd28]; · iexact Hd28
    isplitl [How]; · iexact How
    isplitl [Hd52]; · iexact Hd52
    isplitl [Hd29]; · iexact Hd29
    isplitl [Hd53]; · iexact Hd53
    iexact Hd30
  iintro ⟨Hd28, How, HlA3_0, Hd52, HlB3_0, Hd29, HlA3_1, Hd53, HlB3_1, Hd30, HlA3_2⟩
  try dsimp only
  -- part 58
  iapply (st_bind c)
  iapply (part58 I K c) $$ Hc [Hd54 How Hd31 Hd55 Hd32 Hd56]
  · isplitl [Hd54]; · iexact Hd54
    isplitl [How]; · iexact How
    isplitl [Hd31]; · iexact Hd31
    isplitl [Hd55]; · iexact Hd55
    isplitl [Hd32]; · iexact Hd32
    iexact Hd56
  iintro ⟨Hd54, How, HlB3_2, Hd31, HlA3_3, Hd55, HlB3_3, Hd32, HlA4_0, Hd56, HlB4_0⟩
  try dsimp only
  -- part 59
  iapply (st_bind c)
  iapply (part59 I K c) $$ Hc [Hd33 How Hd57 Hd34 Hd58 Hd35]
  · isplitl [Hd33]; · iexact Hd33
    isplitl [How]; · iexact How
    isplitl [Hd57]; · iexact Hd57
    isplitl [Hd34]; · iexact Hd34
    isplitl [Hd58]; · iexact Hd58
    iexact Hd35
  iintro ⟨Hd33, How, HlA4_1, Hd57, HlB4_1, Hd34, HlA4_2, Hd58, HlB4_2, Hd35, HlA4_3⟩
  try dsimp only
  -- part 60
  iapply (st_bind c)
  iapply (part60 I K c) $$ Hc [Hd59 How Hd36 Hd60 Hd37 Hd61]
  · isplitl [Hd59]; · iexact Hd59
    isplitl [How]; · iexact How
    isplitl [Hd36]; · iexact Hd36
    isplitl [Hd60]; · iexact Hd60
    isplitl [Hd37]; · iexact Hd37
    iexact Hd61
  iintro ⟨Hd59, How, HlB4_3, Hd36, HlA5_0, Hd60, HlB5_0, Hd37, HlA5_1, Hd61, HlB5_1⟩
  try dsimp only
  iapply (st_ret c c rfl)
  try dsimp only
  simp only [semSignalWord, semWaitWord, Prog.lift, Prog.bind_op, Prog.bind_ret, Prog.pure_eq_ret, wp_deviceId]
  iapply (st_wait (cont I) K c 38 32 (P := lA I c 5 2 (by decide)) (payLA I c 38 2 2 5 (by decide) (by decide) rfl rfl) rfl (crG 38 (by decide)) (by decide)) $$ Hc Hd38 How
  iintro ⟨Hd38, How, HlA5_2⟩
  iapply (st_wait (cont I) K c 62 32 (P := lB I c 5 2 (by decide)) (payLB I c 62 2 2 5 (by decide) (by decide) rfl rfl) rfl (crG 62 (by decide)) (by decide)) $$ Hc Hd62 How
  iintro ⟨Hd62, How, HlB5_2⟩
  iapply (st_wait (cont I) K c 39 32 (P := lA I c 5 3 (by decide)) (payLA I c 39 2 3 5 (by decide) (by decide) rfl rfl) rfl (crG 39 (by decide)) (by decide)) $$ Hc Hd39 How
  iintro ⟨Hd39, How, HlA5_3⟩
  iapply (st_wait (cont I) K c 63 32 (P := lB I c 5 3 (by decide)) (payLB I c 63 2 3 5 (by decide) (by decide) rfl rfl) rfl (crG 63 (by decide)) (by decide)) $$ Hc Hd63 How
  iintro ⟨Hd63, How, HlB5_3⟩
  iapply (st_ret (Q := Q) c ⟨⟩ rfl)
  iapply HK
  unfold endR Gdn
  isplitl [Hx]; · iexact Hx
  isplitl [Hwq]; · iexact Hwq
  isplitl [Hwo]; · iexact Hwo
  isplitl [HoA0 HoA1 HoA2 HoA3 HoB0 HoB1 HoB2 HoB3]
  · iapply (chunks_join c outM (fin I))
    isplitl [HoA0]; · iexact HoA0
    isplitl [HoA1]; · iexact HoA1
    isplitl [HoA2]; · iexact HoA2
    isplitl [HoA3]; · iexact HoA3
    isplitl [HoB0]; · iexact HoB0
    isplitl [HoB1]; · iexact HoB1
    isplitl [HoB2]; · iexact HoB2
    iexact HoB3
  isplitl [HaA0 HaA1 HaA2 HaA3 HaB0 HaB1 HaB2 HaB3]
  · iapply (chunks_joinE c accM)
    isplitl [HaA0]; · iexists _; iexact HaA0
    isplitl [HaA1]; · iexists _; iexact HaA1
    isplitl [HaA2]; · iexists _; iexact HaA2
    isplitl [HaA3]; · iexists _; iexact HaA3
    isplitl [HaB0]; · iexists _; iexact HaB0
    isplitl [HaB1]; · iexists _; iexact HaB1
    isplitl [HaB2]; · iexists _; iexact HaB2
    iexists _; iexact HaB3
  ihave HgA3 : gA I c 3 $$ [HlA3_0 HlA3_1 HlA3_2 HlA3_3 HjA3]
  · iapply (join_gA I c 3)
    isplitl [HlA3_0 HlA3_1 HlA3_2 HlA3_3]
    · isplitl [HlA3_0]; · iexact HlA3_0
      isplitl [HlA3_1]; · iexact HlA3_1
      isplitl [HlA3_2]; · iexact HlA3_2
      iexact HlA3_3
    iexact HjA3
  ihave HgA0 : gA I c 0 $$ [HlA4_0 HlA4_1 HlA4_2 HlA4_3 HjA0]
  · iapply (join_gA4 I c 0 (by decide))
    isplitl [HlA4_0 HlA4_1 HlA4_2 HlA4_3]
    · isplitl [HlA4_0]; · iexact HlA4_0
      isplitl [HlA4_1]; · iexact HlA4_1
      isplitl [HlA4_2]; · iexact HlA4_2
      iexact HlA4_3
    iexact HjA0
  ihave HgA1 : gA I c 1 $$ [HlA5_0 HlA5_1 HlA5_2 HlA5_3 HjA1]
  · iapply (join_gA4 I c 1 (by decide))
    isplitl [HlA5_0 HlA5_1 HlA5_2 HlA5_3]
    · isplitl [HlA5_0]; · iexact HlA5_0
      isplitl [HlA5_1]; · iexact HlA5_1
      isplitl [HlA5_2]; · iexact HlA5_2
      iexact HlA5_3
    iexact HjA1
  ihave HgB3 : gB I c 3 $$ [HlB3_0 HlB3_1 HlB3_2 HlB3_3 HjB3]
  · iapply (join_gB I c 3)
    isplitl [HlB3_0 HlB3_1 HlB3_2 HlB3_3]
    · isplitl [HlB3_0]; · iexact HlB3_0
      isplitl [HlB3_1]; · iexact HlB3_1
      isplitl [HlB3_2]; · iexact HlB3_2
      iexact HlB3_3
    iexact HjB3
  ihave HgB0 : gB I c 0 $$ [HlB4_0 HlB4_1 HlB4_2 HlB4_3 HjB0]
  · iapply (join_gB4 I c 0 (by decide))
    isplitl [HlB4_0 HlB4_1 HlB4_2 HlB4_3]
    · isplitl [HlB4_0]; · iexact HlB4_0
      isplitl [HlB4_1]; · iexact HlB4_1
      isplitl [HlB4_2]; · iexact HlB4_2
      iexact HlB4_3
    iexact HjB0
  ihave HgB1 : gB I c 1 $$ [HlB5_0 HlB5_1 HlB5_2 HlB5_3 HjB1]
  · iapply (join_gB4 I c 1 (by decide))
    isplitl [HlB5_0 HlB5_1 HlB5_2 HlB5_3]
    · isplitl [HlB5_0]; · iexact HlB5_0
      isplitl [HlB5_1]; · iexact HlB5_1
      isplitl [HlB5_2]; · iexact HlB5_2
      iexact HlB5_3
    iexact HjB1
  isplitl [HgA0 HgA1 HgA2 HgA3 HgB0 HgB1 HgB2 HgB3]
  · iapply (chunks_joinE c gathM)
    isplitl [HgA0]; · iexists _; iexact HgA0
    isplitl [HgA1]; · iexists _; iexact HgA1
    isplitl [HgA2]; · iexists _; iexact HgA2
    isplitl [HgA3]; · iexists _; iexact HgA3
    isplitl [HgB0]; · iexists _; iexact HgB0
    isplitl [HgB1]; · iexists _; iexact HgB1
    isplitl [HgB2]; · iexists _; iexact HgB2
    iexists _; iexact HgB3
  isplitl [Hk0 Hk1 Hk2 Hk3 Hk4 Hk5 Hk6 Hk7]
  · iapply (heads_join c kM)
    isplitl [Hk0]; · iexists _; iexact Hk0
    isplitl [Hk1]; · iexists _; iexact Hk1
    isplitl [Hk2]; · iexists _; iexact Hk2
    isplitl [Hk3]; · iexists _; iexact Hk3
    isplitl [Hk4]; · iexists _; iexact Hk4
    isplitl [Hk5]; · iexists _; iexact Hk5
    isplitl [Hk6]; · iexists _; iexact Hk6
    iexists _; iexact Hk7
  isplitl [Hv0 Hv1 Hv2 Hv3 Hv4 Hv5 Hv6 Hv7]
  · iapply (heads_join c vM)
    isplitl [Hv0]; · iexists _; iexact Hv0
    isplitl [Hv1]; · iexists _; iexact Hv1
    isplitl [Hv2]; · iexists _; iexact Hv2
    isplitl [Hv3]; · iexists _; iexact Hv3
    isplitl [Hv4]; · iexists _; iexact Hv4
    isplitl [Hv5]; · iexists _; iexact Hv5
    isplitl [Hv6]; · iexists _; iexact Hv6
    iexists _; iexact Hv7
  isplitl [HsA0 HsA1 HsA2]
  · iapply (slots_join c rsaM)
    isplitl [HsA0]; · iexists _; iexact HsA0
    isplitl [HsA1]; · iexists _; iexact HsA1
    iexists _; iexact HsA2
  isplitl [HsB0 HsB1 HsB2]
  · iapply (slots_join c rsbM)
    isplitl [HsB0]; · iexists _; iexact HsB0
    isplitl [HsB1]; · iexists _; iexact HsB1
    iexists _; iexact HsB2
  isplitl [Hd0 Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31 Hd32 Hd33 Hd34 Hd35 Hd36 Hd37 Hd38 Hd39 Hd40 Hd41 Hd42 Hd43 Hd44 Hd45 Hd46 Hd47 Hd48 Hd49 Hd50 Hd51 Hd52 Hd53 Hd54 Hd55 Hd56 Hd57 Hd58 Hd59 Hd60 Hd61 Hd62 Hd63 Hd64 Hd65 Hd66 Hd67 Hd68 Hd69 Hd70 Hd71 Hd72 Hd73 Hd74 Hd75]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    isplitl [Hd31]; · iexact Hd31
    isplitl [Hd32]; · iexact Hd32
    isplitl [Hd33]; · iexact Hd33
    isplitl [Hd34]; · iexact Hd34
    isplitl [Hd35]; · iexact Hd35
    isplitl [Hd36]; · iexact Hd36
    isplitl [Hd37]; · iexact Hd37
    isplitl [Hd38]; · iexact Hd38
    isplitl [Hd39]; · iexact Hd39
    isplitl [Hd40]; · iexact Hd40
    isplitl [Hd41]; · iexact Hd41
    isplitl [Hd42]; · iexact Hd42
    isplitl [Hd43]; · iexact Hd43
    isplitl [Hd44]; · iexact Hd44
    isplitl [Hd45]; · iexact Hd45
    isplitl [Hd46]; · iexact Hd46
    isplitl [Hd47]; · iexact Hd47
    isplitl [Hd48]; · iexact Hd48
    isplitl [Hd49]; · iexact Hd49
    isplitl [Hd50]; · iexact Hd50
    isplitl [Hd51]; · iexact Hd51
    isplitl [Hd52]; · iexact Hd52
    isplitl [Hd53]; · iexact Hd53
    isplitl [Hd54]; · iexact Hd54
    isplitl [Hd55]; · iexact Hd55
    isplitl [Hd56]; · iexact Hd56
    isplitl [Hd57]; · iexact Hd57
    isplitl [Hd58]; · iexact Hd58
    isplitl [Hd59]; · iexact Hd59
    isplitl [Hd60]; · iexact Hd60
    isplitl [Hd61]; · iexact Hd61
    isplitl [Hd62]; · iexact Hd62
    isplitl [Hd63]; · iexact Hd63
    isplitl [Hd64]; · iexact Hd64
    isplitl [Hd65]; · iexact Hd65
    isplitl [Hd66]; · iexact Hd66
    isplitl [Hd67]; · iexact Hd67
    isplitl [Hd68]; · iexact Hd68
    isplitl [Hd69]; · iexact Hd69
    isplitl [Hd70]; · iexact Hd70
    isplitl [Hd71]; · iexact Hd71
    isplitl [Hd72]; · iexact Hd72
    isplitl [Hd73]; · iexact Hd73
    isplitl [Hd74]; · iexact Hd74
    iexact Hd75
  isplitl [Hbar]; · iexact Hbar
  iexact How

end Cert.Ring
-- ==== Proof.Ghost.lean ====
/-
# The ghost state at the launch

The cells of the protocol allocated for all four devices at once, the duty tokens dealt round the ring to the devices
that pay them, and the credit every device starts with: what its neighbours owe it.
-/
module

public import proofs.«01_k».proof.Proof.Body
public import Idealize.ShloMosaic.Lib.Pipeline.Launch
public import Idealize.ShloMosaic.Lib.Pipeline.Kit

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (C : Cont F)

/-! ## The cells and the tokens as minted -/

theorem ownSemFacts : Pipeline.OwnSemFacts cfg0.spec osem := by decide +kernel

theorem csem_inj : Function.Injective csem := by decide +kernel

theorem kcell_injective : Function.Injective (kcell : Dev nD × Fin 77 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj h2]
def ringCells : Finset (GSem nD τ sig) := Finset.univ.map ⟨kcell, kcell_injective⟩

/-- The duty tokens: one of each DMA cell, two of the barrier. -/
def tokOf (cj : Dev nD × (Fin 76 ⊕ Bool)) : GSem nD τ sig × ℕ × Bool := match cj.2 with
  | .inl i => (cell cj.1 i, 0, false)
  | .inr d => (barCell cj.1, 0, d)
theorem tokOf_injective : Function.Injective tokOf := by
  rintro ⟨c, j⟩ ⟨c', j'⟩ h
  have h1 : c = c' := by
    have := congrArg (fun x : GSem nD τ sig × ℕ × Bool => x.1.1.1) h
    rcases j with j | j <;> rcases j' with j' | j' <;> exact this
  subst h1
  have h2 := congrArg (fun x : GSem nD τ sig × ℕ × Bool => x.1.2) h
  have h3 := congrArg (fun x : GSem nD τ sig × ℕ × Bool => x.2.2) h
  rcases j with j | j <;> rcases j' with j' | j'
  · have h4 : osem j = osem j' := h2
    rw [ownSemFacts.inj h4]
  · have h4 : osem j = .reg barS := h2
    cases h4
  · have h4 : SemLoc.reg barS = osem j' := h2
    cases h4
  · have h4 : j = j' := h3
    rw [h4]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun i : Fin 76 => tk c i) ∗ bigSep Finset.univ fun d : Bool => dutyTok ER (barCell c) 0 d)

/-- What the launch deals device `c`. -/
def G (c : Dev nD) : sProp 𝕄 :=
  iprop((bigSep Finset.univ fun k : Fin 77 => roundState ER (Rd C) (kcell (c, k)) 0)
    ∗ (bigSep Finset.univ fun k : Fin 77 => iprop(atPos ER (kcell (c, k)) 0 ∅ 0 ∗ reached ER (kcell (c, k)) 0)) ∗ toks c)

theorem fund_ring : BI.own (ER (initOf ringCells ringToks)) ⊢ (|==> bigSep Finset.univ (G C) : sProp 𝕄) := by
  have hX (Φ : GSem nD τ sig → sProp 𝕄) : bigSep ringCells Φ = bigSep Finset.univ fun c : Dev nD => bigSep Finset.univ fun k : Fin 77 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd C) ringCells ringToks) $$ HX with ⟨Hst, Hr, Hat, Htok⟩
  imodintro
  ihave Hst' := (Entails.of_eq (hX fun g => roundState ER (Rd C) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells opened -/

theorem bigSep_fin77 (Φ : Fin 77 → sProp 𝕄) :
    bigSep Finset.univ Φ = iprop((bigSep Finset.univ fun i : Fin 76 => Φ ⟨i.val, by have := i.isLt; omega⟩) ∗ Φ 76) := by
  rw [show (Finset.univ : Finset (Fin 77)) = insert 76 (Finset.univ.map ⟨fun i : Fin 76 => (⟨i.val, by have := i.isLt; omega⟩ : Fin 77),
      fun a b h => Fin.ext (by have := congrArg Fin.val h; exact this)⟩) from by decide +kernel,
    bigSep_insert (by decide +kernel), bigSep_map]
  exact BI.Entails.antisymm sep_comm sep_comm

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 77 => semVal (kcell (c, k)) 0 : sProp 𝕄) := by
  rw [unscopedSems0_eq, bigSep_fin77, kcell_bar]
  unfold Pipeline.ownSems0
  refine sep_mono_left (bigSep_mono fun i _ => ?_)
  rw [kcell_dma]
  exact BI.Entails.refl _

theorem core_alloc (c : Dev nD) :
    iprop(Pipeline.ownSems0 (Ix := Unit) (Name := ℕ) (U := UU) (Lvl := ℕ) (Val := Elt F) (τ := τ) osem c ∗ unscopedSems0 c ∗ G C c)
      ⊢ |={Set.univ}=> iprop((bigSep Finset.univ fun k => iprop(∃ κ : ℕ, cellInv ER (Rd C) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 77 => semVal (kcell (c, k)) 0) ∗ bigSep Finset.univ fun k : Fin 77 => roundState ER (Rd C) (kcell (c, k)) 0)
      ⊢ (|={Set.univ}=> bigSep Finset.univ fun k => iprop(∃ κ : ℕ, cellInv ER (Rd C) κ (kcell (c, k))) : sProp 𝕄) from by
        rw [← bigSep_sep']
        exact (bigSep_mono fun k _ => (Rounds.body_intro ER (Rd C) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 77 → ℕ) : sProp 𝕄 :=
  bigSep Finset.univ fun ci : Dev nD × Fin 77 => iprop(cellInv ER (Rd C) (K ci) (kcell ci) ∗ reached ER (kcell ci) 0)

instance records_persistent (K : Dev nD × Fin 77 → ℕ) : BI.Persistent (records C K) := by unfold records; infer_instance

/-! ## The tokens dealt -/

/-- The device that owns the cell `i` device `d` pays: the next one for the upper half's landings, the one before for the
    lower half's, itself otherwise. -/
def destE (i : Fin 76) : Dev nD ≃ Dev nD :=
  if (19 ≤ i.val ∧ i.val < 22) ∨ (40 ≤ i.val ∧ i.val < 52) then ring
  else if (25 ≤ i.val ∧ i.val < 28) ∨ (64 ≤ i.val ∧ i.val < 76) then ring.symm else Equiv.refl _

def payToks (c : Dev nD) : sProp 𝕄 :=
  iprop((bigSep Finset.univ fun i : Fin 76 => tk (destE i c) i)
    ∗ dutyTok ER (barCell (peer c true)) 0 false ∗ dutyTok ER (barCell (peer c false)) 0 true)

theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]; rfl

theorem toks_around : (bigSep Finset.univ fun c : Dev nD => (toks c : sProp 𝕄)) ⊢ bigSep Finset.univ fun c : Dev nD => payToks c := by
  have hb (Φ : Bool → sProp 𝕄) : bigSep Finset.univ Φ = iprop(Φ false ∗ Φ true) := bigSep_univ_eq_bigSepL [false, true] (by decide) (by decide) Φ
  unfold toks payToks
  rw [bigSep_sep', bigSep_sep', bigSep_sep', bigSep_swap (fun (c : Dev nD) (i : Fin 76) => (tk c i : sProp 𝕄)), bigSep_swap (fun (c : Dev nD) (i : Fin 76) => (tk (destE i c) i : sProp 𝕄)),
    bigSep_congr fun (i : Fin 76) _ => bigSep_univ_equiv (destE i) fun c : Dev nD => (tk c i : sProp 𝕄),
    bigSep_congr (s := Finset.univ) fun (c : Dev nD) _ => hb fun d => (dutyTok ER (barCell c) 0 d : sProp 𝕄), bigSep_sep',
    bigSep_univ_equiv ring.symm (fun c : Dev nD => (dutyTok ER (barCell c) 0 false : sProp 𝕄)),
    bigSep_univ_equiv ring (fun c : Dev nD => (dutyTok ER (barCell c) 0 true : sProp 𝕄))]
  exact BI.Entails.refl _

/-- What stays with device `c`. -/
def linear (c : Dev nD) : sProp 𝕄 :=
  iprop((bigSep Finset.univ fun k : Fin 77 => atPos ER (kcell (c, k)) 0 ∅ 0) ∗ payToks c)

def G' (c : Dev nD) : sProp 𝕄 := iprop(∃ K, records C K ∗ linear c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd C) κ (kcell (c, k))))
          ∗ (bigSep Finset.univ fun k => iprop(atPos ER (kcell (c, k)) 0 ∅ 0 ∗ reached ER (kcell (c, k)) 0)) ∗ toks c) : sProp 𝕄)
      ⊢ bigSep Finset.univ (G' C) := by
  rw [bigSep_sep', bigSep_sep', ← bigSep_univ_prod (fun ck : Dev nD × Fin 77 => iprop(∃ κ : ℕ, cellInv ER (Rd C) κ (kcell ck))),
    bigSep_congr (s := Finset.univ) (fun (c : Dev nD) _ => bigSep_sep' Finset.univ (fun k : Fin 77 => (atPos ER (kcell (c, k)) 0 ∅ 0 : sProp 𝕄)) (fun k => reached ER (kcell (c, k)) 0)),
    bigSep_sep', ← bigSep_univ_prod (fun ck : Dev nD × Fin 77 => (reached ER (kcell ck) 0 : sProp 𝕄))]
  iintro ⟨HI, ⟨Hat, #HR⟩, Htok⟩
  ihave HK := (BI.bigSep_exists_pi Finset.univ (fun (ck : Dev nD × Fin 77) (κ : ℕ) => (cellInv ER (Rd C) κ (kcell ck) : sProp 𝕄))) $$ HI
  icases HK with ⟨%K, #HI⟩
  ihave Htk := (toks_around (F := F)) $$ Htok
  iapply (bigSep_with_persistent (R := records C K) fun c _ => show iprop(records C K ∗ linear c) ⊢ G' C c from by
    unfold G'; iintro H; iexists K; iexact H)
  isplitr
  · unfold records; rw [bigSep_sep']; isplitl; · iexact HI
    iexact HR
  · unfold linear; rw [bigSep_sep']
    isplitl [Hat]; · iexact Hat
    iexact Htk

/-- The global step: own and barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G C c) : sProp 𝕄)
    ⊢ |={Set.univ}=> bigSep Finset.univ (G' C) :=
  ((bigSep_mono fun c _ => core_alloc C c).trans (bigSep_fupd _ _)).trans (BI.fupd_mono (regroup C))

/-! ## The launch credit -/

/-- How often device `d`'s payments hit cell `k` of device `c`. -/
def hits (d c : Dev nD) (k : Fin 77) : List (Bool × Fin 77) → ℕ
  | [] => 0
  | x :: l => hits d c k l + if c = peer d x.1 ∧ k = x.2 then 1 else 0

theorem owedL_hits (d c : Dev nD) (k : Fin 77) : ∀ l, owedL d l (kcell (c, k)) () = hits d c k l * amtX k
  | [] => by unfold owedL hits; rw [Nat.zero_mul]; rfl
  | x :: l => by
    unfold owedL hits
    rw [Pi.add_apply, Finsupp.add_apply, tallyAt_apply, owedL_hits d c k l, Nat.add_mul]
    congr 1
    by_cases h : c = peer d x.1 ∧ k = x.2
    · obtain ⟨rfl, rfl⟩ := h
      rw [if_pos ⟨rfl, rfl⟩, if_pos ⟨rfl, rfl⟩, Nat.one_mul]
    · rw [if_neg h, if_neg fun h' => h (by have := kcell_injective h'.1; exact ⟨congrArg Prod.fst this, congrArg Prod.snd this⟩), Nat.zero_mul]

/-- Which DMA cells a device is paid on by its neighbours. -/
def isRecv (n : ℕ) : Bool := (19 ≤ n ∧ n < 22) ∨ (25 ≤ n ∧ n < 28) ∨ (40 ≤ n ∧ n < 52) ∨ (64 ≤ n ∧ n < 76)

theorem hits_all : ∀ (c : Dev nD) (k : Fin 77), ∑ d : Dev nD, hits d c k sched = if k.val = 76 then 2 else if isRecv k.val then 1 else 0 := by
  decide +kernel

theorem launch_cell (c : Dev nD) (k : Fin 77) :
    tallyOn (kcell (c, k)) (launchCredit (Pipeline.owing fun d => O d 0) 0 (kcell (c, k)))
      = (tallyAt (kcell (c, k)) () ((if k.val = 76 then 2 else if isRecv k.val then 1 else 0) * amtX k) : CellTallies nD τ sig Unit) := by
  unfold tallyAt; refine congrArg _ (Finsupp.ext fun u => ?_); cases u
  rw [Pipeline.launchCredit_owing, Finsupp.single_eq_same, ← hits_all c k, Finset.sum_mul]
  exact Finset.sum_congr rfl fun d _ => owedL_hits d c k _

/-- The credit of DMA cell `i`, if a neighbour pays it. -/
def cr (c : Dev nD) (i : Fin 76) : sProp 𝕄 := if isRecv i.val then cred (tallyAt (cell c i) () (amt i)) else iprop(emp)

theorem creds (c : Dev nD) :
    (Pipeline.launchCred (fun d => O d 0) c : sProp 𝕄) ⊢ iprop((bigSep Finset.univ fun i : Fin 76 => cr c i) ∗ cred (tallyAt (barCell c) () 2)) := by
  unfold Pipeline.launchCred
  refine (BI.bigSep_subset (Finset.subset_univ (Finset.univ.map ⟨csem, csem_inj⟩))).trans ?_
  rw [bigSep_map, bigSep_fin77]
  refine sep_mono (bigSep_mono fun i _ => ?_) ?_
  · show cred (tallyOn (kcell (c, ⟨i.val, _⟩)) (launchCredit (Pipeline.owing fun d => O d 0) 0 (kcell (c, ⟨i.val, _⟩)))) ⊢ _
    rw [launch_cell, kcell_dma]
    unfold cr
    have hi := i.isLt
    rw [if_neg (by show ¬ i.val = 76; omega)]
    by_cases h : isRecv i.val = true
    · rw [if_pos h, if_pos h, Nat.one_mul]; unfold amtX; rw [if_pos hi]
    · rw [if_neg h, if_neg h]; iintro -; iempintro
  · show cred (tallyOn (kcell (c, 76)) (launchCredit (Pipeline.owing fun d => O d 0) 0 (kcell (c, 76)))) ⊢ _
    rw [launch_cell, kcell_bar]
    exact BI.Entails.refl _

end Cert.Ring

end
-- ==== Proof.Launch.lean ====
/-
# The run

The launch of the kernel on the four devices, at any float values: every weakly fair execution terminates, the result
on every device is the glued finished chunks (`outV`), the arguments are unchanged and every semaphore is back at zero.
-/
module

public import proofs.«01_k».proof.Proof.Ghost
public import proofs.«01_k».proof.Proof.Gen.KernelIdeal.Points
public import Idealize.ShloMosaic.Lib.Pipeline.FrameBody
public import Idealize.ShloMosaic.Lib.Pipeline.CollectiveSegs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- What each device holds at the start, read off the launch memory. -/
def inp : Inp F where
  x c := (win0_0.blk (0 : Fin 1)).view.read (Elt F) (m ((c : Thread nD τ).loc main_arg0))
  wq c := (win0_1.blk (0 : Fin 1)).view.read (Elt F) (m ((c : Thread nD τ).loc main_arg1))
  wo c := (win0_2.blk (0 : Fin 1)).view.read (Elt F) (m ((c : Thread nD τ).loc main_arg4))
  kC c h := (headW c kHbm ⟨h % 8, Nat.mod_lt _ (by decide)⟩).view.read (Elt F) (m ((c : Thread nD τ).loc main_arg2))
  vC c h := (headW c vHbm ⟨h % 8, Nat.mod_lt _ (by decide)⟩).view.read (Elt F) (m ((c : Thread nD τ).loc main_arg3))

abbrev CC : Cont F := cont (inp m)

/-! ## What a device's cells start from -/

section Deal
variable (c : Dev nD)

def resOf (i : Fin 76) : sProp 𝕄 := if isRecv i.val then iprop(wt c i ∗ tk (destE i c) i) else d0 c i

theorem resOf_intro (i : Fin 76) : iprop(at0 c i ∗ tk (destE i c) i ∗ cr c i) ⊢ (resOf c i : sProp 𝕄) := by
  unfold resOf cr
  by_cases h : isRecv i.val = true
  · rw [if_pos h, if_pos h]
    unfold wt at0
    iintro ⟨Ha, Ht, Hc⟩
    isplitl [Ha Hc]
    · isplitl [Ha]; · iexact Ha
      iexact Hc
    iexact Ht
  · rw [if_neg h, if_neg h]
    have e : destE i c = c := by
      unfold isRecv at h; unfold destE
      rw [decide_eq_true_iff] at h
      rw [if_neg (fun hh => h (hh.elim (fun h1 => Or.inl h1) fun h2 => Or.inr (Or.inr (Or.inl h2)))),
        if_neg (fun hh => h (hh.elim (fun h1 => Or.inr (Or.inl h1)) fun h2 => Or.inr (Or.inr (Or.inr h2))))]
      rfl
    rw [e]
    iintro ⟨Ha, Ht, -⟩
    isplitl [Ha]; · iexact Ha
    iexact Ht

theorem res_list : (bigSep Finset.univ fun i : Fin 76 => (resOf c i : sProp 𝕄))
    = iprop(d0 c 0 ∗ d0 c 1 ∗ d0 c 2 ∗ d0 c 3 ∗ d0 c 4 ∗ d0 c 5 ∗ d0 c 6 ∗ d0 c 7 ∗ d0 c 8 ∗ d0 c 9 ∗ d0 c 10 ∗ d0 c 11 ∗ d0 c 12 ∗ d0 c 13 ∗ d0 c 14 ∗ d0 c 15 ∗ d0 c 16 ∗ d0 c 17 ∗ d0 c 18 ∗ (wt c 19 ∗ tk (peer c false) 19) ∗ (wt c 20 ∗ tk (peer c false) 20) ∗ (wt c 21 ∗ tk (peer c false) 21) ∗ d0 c 22 ∗ d0 c 23 ∗ d0 c 24 ∗ (wt c 25 ∗ tk (peer c true) 25) ∗ (wt c 26 ∗ tk (peer c true) 26) ∗ (wt c 27 ∗ tk (peer c true) 27) ∗ d0 c 28 ∗ d0 c 29 ∗ d0 c 30 ∗ d0 c 31 ∗ d0 c 32 ∗ d0 c 33 ∗ d0 c 34 ∗ d0 c 35 ∗ d0 c 36 ∗ d0 c 37 ∗ d0 c 38 ∗ d0 c 39 ∗ (wt c 40 ∗ tk (peer c false) 40) ∗ (wt c 41 ∗ tk (peer c false) 41) ∗ (wt c 42 ∗ tk (peer c false) 42) ∗ (wt c 43 ∗ tk (peer c false) 43) ∗ (wt c 44 ∗ tk (peer c false) 44) ∗ (wt c 45 ∗ tk (peer c false) 45) ∗ (wt c 46 ∗ tk (peer c false) 46) ∗ (wt c 47 ∗ tk (peer c false) 47) ∗ (wt c 48 ∗ tk (peer c false) 48) ∗ (wt c 49 ∗ tk (peer c false) 49) ∗ (wt c 50 ∗ tk (peer c false) 50) ∗ (wt c 51 ∗ tk (peer c false) 51) ∗ d0 c 52 ∗ d0 c 53 ∗ d0 c 54 ∗ d0 c 55 ∗ d0 c 56 ∗ d0 c 57 ∗ d0 c 58 ∗ d0 c 59 ∗ d0 c 60 ∗ d0 c 61 ∗ d0 c 62 ∗ d0 c 63 ∗ (wt c 64 ∗ tk (peer c true) 64) ∗ (wt c 65 ∗ tk (peer c true) 65) ∗ (wt c 66 ∗ tk (peer c true) 66) ∗ (wt c 67 ∗ tk (peer c true) 67) ∗ (wt c 68 ∗ tk (peer c true) 68) ∗ (wt c 69 ∗ tk (peer c true) 69) ∗ (wt c 70 ∗ tk (peer c true) 70) ∗ (wt c 71 ∗ tk (peer c true) 71) ∗ (wt c 72 ∗ tk (peer c true) 72) ∗ (wt c 73 ∗ tk (peer c true) 73) ∗ (wt c 74 ∗ tk (peer c true) 74) ∗ (wt c 75 ∗ tk (peer c true) 75)) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75] (by decide +kernel) (by decide +kernel)]
  rfl

theorem res_deal : (bigSep Finset.univ fun i : Fin 76 => (resOf c i : sProp 𝕄))
    ⊢ iprop(Gkv c ∗ GrsS c ∗ GrsR c ∗ GrsP c ∗ GagS c ∗ GagR c ∗ GagP c) := by
  rw [res_list]
  iintro ⟨Hd0, Hd1, Hd2, Hd3, Hd4, Hd5, Hd6, Hd7, Hd8, Hd9, Hd10, Hd11, Hd12, Hd13, Hd14, Hd15, Hd16, Hd17, Hd18, ⟨Hw19, Ht19⟩, ⟨Hw20, Ht20⟩, ⟨Hw21, Ht21⟩, Hd22, Hd23, Hd24, ⟨Hw25, Ht25⟩, ⟨Hw26, Ht26⟩, ⟨Hw27, Ht27⟩, Hd28, Hd29, Hd30, Hd31, Hd32, Hd33, Hd34, Hd35, Hd36, Hd37, Hd38, Hd39, ⟨Hw40, Ht40⟩, ⟨Hw41, Ht41⟩, ⟨Hw42, Ht42⟩, ⟨Hw43, Ht43⟩, ⟨Hw44, Ht44⟩, ⟨Hw45, Ht45⟩, ⟨Hw46, Ht46⟩, ⟨Hw47, Ht47⟩, ⟨Hw48, Ht48⟩, ⟨Hw49, Ht49⟩, ⟨Hw50, Ht50⟩, ⟨Hw51, Ht51⟩, Hd52, Hd53, Hd54, Hd55, Hd56, Hd57, Hd58, Hd59, Hd60, Hd61, Hd62, Hd63, ⟨Hw64, Ht64⟩, ⟨Hw65, Ht65⟩, ⟨Hw66, Ht66⟩, ⟨Hw67, Ht67⟩, ⟨Hw68, Ht68⟩, ⟨Hw69, Ht69⟩, ⟨Hw70, Ht70⟩, ⟨Hw71, Ht71⟩, ⟨Hw72, Ht72⟩, ⟨Hw73, Ht73⟩, ⟨Hw74, Ht74⟩, ⟨Hw75, Ht75⟩⟩
  isplitl [Hd0 Hd1 Hd2 Hd3 Hd4 Hd5 Hd6 Hd7 Hd8 Hd9 Hd10 Hd11 Hd12 Hd13 Hd14 Hd15]
  · unfold Gkv
    isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    iexact Hd15
  isplitl [Hd16 Hd17 Hd18 Hd22 Hd23 Hd24]
  · unfold GrsS
    isplitl [Hd16]; · iexact Hd16
    isplitl [Hd17]; · iexact Hd17
    isplitl [Hd18]; · iexact Hd18
    isplitl [Hd22]; · iexact Hd22
    isplitl [Hd23]; · iexact Hd23
    iexact Hd24
  isplitl [Hw19 Hw20 Hw21 Hw25 Hw26 Hw27]
  · unfold GrsR
    isplitl [Hw19]; · iexact Hw19
    isplitl [Hw20]; · iexact Hw20
    isplitl [Hw21]; · iexact Hw21
    isplitl [Hw25]; · iexact Hw25
    isplitl [Hw26]; · iexact Hw26
    iexact Hw27
  isplitl [Ht19 Ht20 Ht21 Ht25 Ht26 Ht27]
  · unfold GrsP
    isplitl [Ht19]; · iexact Ht19
    isplitl [Ht20]; · iexact Ht20
    isplitl [Ht21]; · iexact Ht21
    isplitl [Ht25]; · iexact Ht25
    isplitl [Ht26]; · iexact Ht26
    iexact Ht27
  isplitl [Hd28 Hd29 Hd30 Hd31 Hd32 Hd33 Hd34 Hd35 Hd36 Hd37 Hd38 Hd39 Hd52 Hd53 Hd54 Hd55 Hd56 Hd57 Hd58 Hd59 Hd60 Hd61 Hd62 Hd63]
  · unfold GagS
    isplitl [Hd28]; · iexact Hd28
    isplitl [Hd29]; · iexact Hd29
    isplitl [Hd30]; · iexact Hd30
    isplitl [Hd31]; · iexact Hd31
    isplitl [Hd32]; · iexact Hd32
    isplitl [Hd33]; · iexact Hd33
    isplitl [Hd34]; · iexact Hd34
    isplitl [Hd35]; · iexact Hd35
    isplitl [Hd36]; · iexact Hd36
    isplitl [Hd37]; · iexact Hd37
    isplitl [Hd38]; · iexact Hd38
    isplitl [Hd39]; · iexact Hd39
    isplitl [Hd52]; · iexact Hd52
    isplitl [Hd53]; · iexact Hd53
    isplitl [Hd54]; · iexact Hd54
    isplitl [Hd55]; · iexact Hd55
    isplitl [Hd56]; · iexact Hd56
    isplitl [Hd57]; · iexact Hd57
    isplitl [Hd58]; · iexact Hd58
    isplitl [Hd59]; · iexact Hd59
    isplitl [Hd60]; · iexact Hd60
    isplitl [Hd61]; · iexact Hd61
    isplitl [Hd62]; · iexact Hd62
    iexact Hd63
  isplitl [Hw40 Hw41 Hw42 Hw43 Hw44 Hw45 Hw46 Hw47 Hw48 Hw49 Hw50 Hw51 Hw64 Hw65 Hw66 Hw67 Hw68 Hw69 Hw70 Hw71 Hw72 Hw73 Hw74 Hw75]
  · unfold GagR
    isplitl [Hw40]; · iexact Hw40
    isplitl [Hw41]; · iexact Hw41
    isplitl [Hw42]; · iexact Hw42
    isplitl [Hw43]; · iexact Hw43
    isplitl [Hw44]; · iexact Hw44
    isplitl [Hw45]; · iexact Hw45
    isplitl [Hw46]; · iexact Hw46
    isplitl [Hw47]; · iexact Hw47
    isplitl [Hw48]; · iexact Hw48
    isplitl [Hw49]; · iexact Hw49
    isplitl [Hw50]; · iexact Hw50
    isplitl [Hw51]; · iexact Hw51
    isplitl [Hw64]; · iexact Hw64
    isplitl [Hw65]; · iexact Hw65
    isplitl [Hw66]; · iexact Hw66
    isplitl [Hw67]; · iexact Hw67
    isplitl [Hw68]; · iexact Hw68
    isplitl [Hw69]; · iexact Hw69
    isplitl [Hw70]; · iexact Hw70
    isplitl [Hw71]; · iexact Hw71
    isplitl [Hw72]; · iexact Hw72
    isplitl [Hw73]; · iexact Hw73
    isplitl [Hw74]; · iexact Hw74
    iexact Hw75
  unfold GagP
  isplitl [Ht40]; · iexact Ht40
  isplitl [Ht41]; · iexact Ht41
  isplitl [Ht42]; · iexact Ht42
  isplitl [Ht43]; · iexact Ht43
  isplitl [Ht44]; · iexact Ht44
  isplitl [Ht45]; · iexact Ht45
  isplitl [Ht46]; · iexact Ht46
  isplitl [Ht47]; · iexact Ht47
  isplitl [Ht48]; · iexact Ht48
  isplitl [Ht49]; · iexact Ht49
  isplitl [Ht50]; · iexact Ht50
  isplitl [Ht51]; · iexact Ht51
  isplitl [Ht64]; · iexact Ht64
  isplitl [Ht65]; · iexact Ht65
  isplitl [Ht66]; · iexact Ht66
  isplitl [Ht67]; · iexact Ht67
  isplitl [Ht68]; · iexact Ht68
  isplitl [Ht69]; · iexact Ht69
  isplitl [Ht70]; · iexact Ht70
  isplitl [Ht71]; · iexact Ht71
  isplitl [Ht72]; · iexact Ht72
  isplitl [Ht73]; · iexact Ht73
  isplitl [Ht74]; · iexact Ht74
  iexact Ht75

theorem Gdn_eq : (Gdn c : sProp 𝕄) = bigSep Finset.univ fun i : Fin 76 => dn c i := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75] (by decide +kernel) (by decide +kernel)]
  rfl

end Deal

/-! ## The heads of K and V -/

section Heads
variable (c : Dev nD)

theorem kH_take (h : Fin 8) : iprop(∃ q : PosShare TreeShare, ((c : Thread nD τ).loc main_arg2) ↦{q} m ((c : Thread nD τ).loc main_arg2))
    ⊢ iprop(kH (inp m) c h ∗ ∃ q : PosShare TreeShare, ((c : Thread nD τ).loc main_arg2) ↦{q} m ((c : Thread nD τ).loc main_arg2)) := by
  iintro ⟨%q, H⟩
  ihave H := (pointsTo_share (PosShare.mem_left_op_right q)).1 $$ H
  icases H with ⟨Hl, Hr⟩
  isplitl [Hl]
  · iexists q.left
    ihave H := (pointsTo_split_subset (Finset.subset_univ (headW c kHbm h).view.set)).1 $$ Hl
    icases H with ⟨H, -⟩
    have e : (inp m).kC c h.val = (headW c kHbm h).view.read (Elt F) (m ((c : Thread nD τ).loc main_arg2)) := by
      show (headW c kHbm ⟨h.val % 8, Nat.mod_lt _ (by decide)⟩).view.read (Elt F) (m ((c : Thread nD τ).loc main_arg2)) = _
      have : (⟨h.val % 8, Nat.mod_lt _ (by decide)⟩ : Fin 8) = h := Fin.ext (Nat.mod_eq_of_lt h.isLt)
      rw [this]
    rw [e]
    unfold owns
    iexists _; isplitr
    swap; · iexact H
    ipureintro; rfl
  iexists q.right; iexact Hr

theorem vH_take (h : Fin 8) : iprop(∃ q : PosShare TreeShare, ((c : Thread nD τ).loc main_arg3) ↦{q} m ((c : Thread nD τ).loc main_arg3))
    ⊢ iprop(vH (inp m) c h ∗ ∃ q : PosShare TreeShare, ((c : Thread nD τ).loc main_arg3) ↦{q} m ((c : Thread nD τ).loc main_arg3)) := by
  iintro ⟨%q, H⟩
  ihave H := (pointsTo_share (PosShare.mem_left_op_right q)).1 $$ H
  icases H with ⟨Hl, Hr⟩
  isplitl [Hl]
  · iexists q.left
    ihave H := (pointsTo_split_subset (Finset.subset_univ (headW c vHbm h).view.set)).1 $$ Hl
    icases H with ⟨H, -⟩
    have e : (inp m).vC c h.val = (headW c vHbm h).view.read (Elt F) (m ((c : Thread nD τ).loc main_arg3)) := by
      show (headW c vHbm ⟨h.val % 8, Nat.mod_lt _ (by decide)⟩).view.read (Elt F) (m ((c : Thread nD τ).loc main_arg3)) = _
      have : (⟨h.val % 8, Nat.mod_lt _ (by decide)⟩ : Fin 8) = h := Fin.ext (Nat.mod_eq_of_lt h.isLt)
      rw [this]
    rw [e]
    unfold owns
    iexists _; isplitr
    swap; · iexact H
    ipureintro; rfl
  iexists q.right; iexact Hr

/-- What stays outside the kernel of the arrays of K and V: a share of each. -/
def Z : sProp 𝕄 := iprop((∃ q : PosShare TreeShare, ((c : Thread nD τ).loc main_arg2) ↦{q} m ((c : Thread nD τ).loc main_arg2))
  ∗ ∃ q : PosShare TreeShare, ((c : Thread nD τ).loc main_arg3) ↦{q} m ((c : Thread nD τ).loc main_arg3))

theorem kv_deal : iprop((((c : Thread nD τ).loc main_arg2) ↦{fullShare} m ((c : Thread nD τ).loc main_arg2)) ∗ (((c : Thread nD τ).loc main_arg3) ↦{fullShare} m ((c : Thread nD τ).loc main_arg3)))
    ⊢ iprop(GkH (inp m) c ∗ GvH (inp m) c ∗ Z m c) := by
  unfold GkH GvH Z
  iintro ⟨Hk, Hv⟩
  ihave Hk : iprop(∃ q : PosShare TreeShare, ((c : Thread nD τ).loc main_arg2) ↦{q} m ((c : Thread nD τ).loc main_arg2)) $$ [Hk]
  · iexists _; iexact Hk
  ihave Hv : iprop(∃ q : PosShare TreeShare, ((c : Thread nD τ).loc main_arg3) ↦{q} m ((c : Thread nD τ).loc main_arg3)) $$ [Hv]
  · iexists _; iexact Hv
  ihave Hk := (kH_take m c 0) $$ Hk
  icases Hk with ⟨HK0, Hk⟩
  ihave Hv := (vH_take m c 0) $$ Hv
  icases Hv with ⟨HV0, Hv⟩
  ihave Hk := (kH_take m c 1) $$ Hk
  icases Hk with ⟨HK1, Hk⟩
  ihave Hv := (vH_take m c 1) $$ Hv
  icases Hv with ⟨HV1, Hv⟩
  ihave Hk := (kH_take m c 2) $$ Hk
  icases Hk with ⟨HK2, Hk⟩
  ihave Hv := (vH_take m c 2) $$ Hv
  icases Hv with ⟨HV2, Hv⟩
  ihave Hk := (kH_take m c 3) $$ Hk
  icases Hk with ⟨HK3, Hk⟩
  ihave Hv := (vH_take m c 3) $$ Hv
  icases Hv with ⟨HV3, Hv⟩
  ihave Hk := (kH_take m c 4) $$ Hk
  icases Hk with ⟨HK4, Hk⟩
  ihave Hv := (vH_take m c 4) $$ Hv
  icases Hv with ⟨HV4, Hv⟩
  ihave Hk := (kH_take m c 5) $$ Hk
  icases Hk with ⟨HK5, Hk⟩
  ihave Hv := (vH_take m c 5) $$ Hv
  icases Hv with ⟨HV5, Hv⟩
  ihave Hk := (kH_take m c 6) $$ Hk
  icases Hk with ⟨HK6, Hk⟩
  ihave Hv := (vH_take m c 6) $$ Hv
  icases Hv with ⟨HV6, Hv⟩
  ihave Hk := (kH_take m c 7) $$ Hk
  icases Hk with ⟨HK7, Hk⟩
  ihave Hv := (vH_take m c 7) $$ Hv
  icases Hv with ⟨HV7, Hv⟩
  isplitl [HK0 HK1 HK2 HK3 HK4 HK5 HK6 HK7]
  · isplitl [HK0]; · iexact HK0
    isplitl [HK1]; · iexact HK1
    isplitl [HK2]; · iexact HK2
    isplitl [HK3]; · iexact HK3
    isplitl [HK4]; · iexact HK4
    isplitl [HK5]; · iexact HK5
    isplitl [HK6]; · iexact HK6
    iexact HK7
  isplitl [HV0 HV1 HV2 HV3 HV4 HV5 HV6 HV7]
  · isplitl [HV0]; · iexact HV0
    isplitl [HV1]; · iexact HV1
    isplitl [HV2]; · iexact HV2
    isplitl [HV3]; · iexact HV3
    isplitl [HV4]; · iexact HV4
    isplitl [HV5]; · iexact HV5
    isplitl [HV6]; · iexact HV6
    iexact HV7
  isplitl [Hk]; · iexact Hk
  iexact Hv

end Heads

/-! ## The pipeline's proof data -/

/-- What a device's body starts from, but for the buffers. -/
def start (c : Dev nD) : sProp 𝕄 :=
  iprop((∃ K, ctx (CC m) K) ∗ (bigSep Finset.univ fun i : Fin 76 => resOf c i) ∗ Gbar c ∗ GkH (inp m) c ∗ GvH (inp m) c)

def Φ₀ (c : Dev nD) : sProp 𝕄 := iprop(start m c ∗ Pipeline.scopedRest cfg0.spec c)
def Φ₁ (c : Dev nD) : sProp 𝕄 := iprop(unscopedSems0 c ∗ Pipeline.ownSems0 osem c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => (inp m).x c
    | ⟨1, _⟩ => (inp m).wq c
    | ⟨2, _⟩ => (inp m).wo c
    | ⟨3, _⟩ => outV (inp m)
  Φ t := match t with
    | ⟨0, _⟩ => Φ₀ m c
    | ⟨_ + 1, _⟩ => Φ₁ c
  q _ := fullShare
  owed t := match t with
    | ⟨0, _⟩ => O c 0
    | ⟨_ + 1, _⟩ => 0

theorem share_eq (c : Dev nD) (w : Fin cfg0.W) : (dats m 0 c).share w = fullShare := by unfold Dat.share; split <;> rfl

theorem O_last (c : Dev nD) : O c 32 = 0 := rfl

theorem before_x (c : Dev nD) (d) : (dats m 0 c).before (0 : Fin 4) t0_0 d = (inp m).x c := by
  unfold Dat.before; rw [if_pos (fetch0_0 t0_0)]; rfl
theorem before_wq (c : Dev nD) (d) : (dats m 0 c).before (1 : Fin 4) t0_0 d = (inp m).wq c := by
  unfold Dat.before; rw [if_pos (fetch0_1 t0_0)]; rfl
theorem before_wo (c : Dev nD) (d) : (dats m 0 c).before (2 : Fin 4) t0_0 d = (inp m).wo c := by
  unfold Dat.before; rw [if_pos (fetch0_2 t0_0)]; rfl

theorem toE (c : Dev nD) (b : Ref sig .tc) : iprop(∃ f : Buf (Elt F) ((c : Thread nD τ).loc b), ((c : Thread nD τ).loc b) ↦{fullShare} f)
    ⊢ (iprop(∃ X, owns (c : Thread nD τ) (Memref.whole b) fullShare X) : sProp 𝕄) := by
  iintro ⟨%f, H⟩; iexists f; rw [owns_whole]; iexact H
theorem ofE (c : Dev nD) (b : Ref sig .tc) : (iprop(∃ X, owns (c : Thread nD τ) (Memref.whole b) fullShare X) : sProp 𝕄)
    ⊢ iprop(∃ f : Buf (Elt F) ((c : Thread nD τ).loc b), ((c : Thread nD τ).loc b) ↦{fullShare} f) := by
  iintro ⟨%f, H⟩
  ihave H := (Entails.of_eq (owns_whole (c : Thread nD τ) b fullShare f)) $$ H
  iexists f; iexact H

/-! ## The body -/

theorem close_all (K : Dev nD × Fin 77 → ℕ) (c : Dev nD) : ctx (CC m) K ⊢ iprop(Gdn c -∗ atPos ER (barCell c) (0 + 1) ∅ 0
    -∗ |={Set.univ}=> (unscopedSems0 c ∗ Pipeline.ownSems0 osem c : sProp 𝕄)) := by
  rw [Gdn_eq, unscopedSems0_eq]
  unfold Pipeline.ownSems0
  iintro #Hc Hd Hb
  icases (ctx_bar (CC m) K c) $$ Hc with ⟨#Hi, -⟩
  imod (Rounds.cell_close ER (Rd (CC m)) (Set.mem_univ (K (c, 76))) (fun h => h) (R := 0 + 1) (duties_later (CC m) (barCell c))) $$ [Hb] with Hz
  · isplitr; · iexact Hi
    iexact Hb
  imod ((bigSep_with_persistent (S := Finset.univ) (R := ctx (CC m) K) (Φ := fun i : Fin 76 => dn c i) (Ψ := fun i : Fin 76 => iprop(|={Set.univ}=> semVal (cell c i) 0)) fun i _ => by
      unfold dn
      iintro ⟨#Hc, Hd⟩
      icases (ctx_dma (CC m) K c i) $$ Hc with ⟨#Hi, -⟩
      iapply (Rounds.cell_close ER (Rd (CC m)) (Set.mem_univ (K (c, ⟨i.val, by have := i.isLt; omega⟩))) (fun h => h) (R := 0 + 1) (duties_later (CC m) (cell c i)))
      isplitr; · iexact Hi
      iexact Hd).trans (bigSep_fupd _ _)) $$ [Hd] with Hs
  · isplitr; · iexact Hc
    iexact Hd
  imodintro
  isplitl [Hz]; · iexact Hz
  iexact Hs

def bodyPre (c : Dev nD) : sProp 𝕄 :=
  iprop(Φ₀ m c ∗ (dats m 0 c).owesAt () t0_0.castSucc
    ∗ (∃ d, own c xM ((dats m 0 c).before (0 : Fin 4) t0_0 d)) ∗ (∃ d, own c wqM ((dats m 0 c).before (1 : Fin 4) t0_0 d))
    ∗ (∃ d, own c woM ((dats m 0 c).before (2 : Fin 4) t0_0 d)) ∗ (∃ d, own c outM ((dats m 0 c).before (3 : Fin 4) t0_0 d)))

def bodyPost (c : Dev nD) : sProp 𝕄 :=
  iprop(Φ₁ c ∗ (dats m 0 c).owesAt () t0_0.succ
    ∗ own c xM ((inp m).x c) ∗ own c wqM ((inp m).wq c) ∗ own c woM ((inp m).wo c) ∗ own c outM (outV (inp m)))

theorem sound_body (c : Dev nD) : bodyPre m c ⊢ WP c bodyP (fun _ => bodyPost m c) := by
  unfold bodyPre Φ₀ start
  rw [scopedRest0_eq]
  iintro ⟨⟨⟨⟨%K, #Hc⟩, Hres, Hbar, HkH, HvH⟩, Hacc, Hgath, Hk, Hv, Hrsa, Hrsb⟩, Ho, ⟨%d0, Hx⟩, ⟨%d1, Hwq⟩, ⟨%d2, Hwo⟩, ⟨%d3, Hout⟩⟩
  ihave Hres := (res_deal c) $$ Hres
  icases Hres with ⟨H1, H2, H3, H4, H5, H6, H7⟩
  ihave Hx := (Entails.of_eq (congrArg (fun X => own c xM X) (before_x m c d0))) $$ Hx
  ihave Hwq := (Entails.of_eq (congrArg (fun X => own c wqM X) (before_wq m c d1))) $$ Hwq
  ihave Hwo := (Entails.of_eq (congrArg (fun X => own c woM X) (before_wo m c d2))) $$ Hwo
  ihave Hacc := (toE c cc0_scratch0) $$ Hacc
  ihave Hgath := (toE c cc0_scratch1) $$ Hgath
  ihave Hk := (toE c cc0_scratch2) $$ Hk
  ihave Hv := (toE c cc0_scratch3) $$ Hv
  ihave Hrsa := (toE c cc0_scratch4) $$ Hrsa
  ihave Hrsb := (toE c cc0_scratch5) $$ Hrsb
  iapply (wp_fupd frame (wpE (defs₀ (F := F)) 𝒱₀ (c : Thread nD τ) none) Set.univ (bodyP (F := F)) (fun _ => bodyPost m c))
  iapply (body_run (inp m) K c) $$ Hc [Hx Hwq Hwo H1 H2 H3 H4 H5 H6 H7 Hbar HkH HvH Hacc Hgath Hk Hv Hrsa Hrsb Hout Ho]
  · unfold startR
    isplitl [Hx]; · iexact Hx
    isplitl [Hwq]; · iexact Hwq
    isplitl [Hwo]; · iexact Hwo
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hbar]; · iexact Hbar
    isplitl [HkH]; · iexact HkH
    isplitl [HvH]; · iexact HvH
    isplitl [Hacc]; · iexact Hacc
    isplitl [Hgath]; · iexact Hgath
    isplitl [Hk]; · iexact Hk
    isplitl [Hv]; · iexact Hv
    isplitl [Hrsa]; · iexact Hrsa
    isplitl [Hrsb]; · iexact Hrsb
    isplitl [Hout]; · iexists _; iexact Hout
    unfold ow Dat.owesAt Pipeline.owesWithin
    icases Ho with ⟨%W, %hW, HO⟩
    iexists W; iexact HO
  unfold endR
  iintro ⟨Hx, Hwq, Hwo, Hout, Hacc, Hgath, Hk, Hv, Hrsa, Hrsb, Hdn, Hb, Ho⟩
  unfold bodyPost Φ₁
  rw [scopedRest0_eq]
  imod (close_all m K c) $$ Hc Hdn Hb with ⟨Hz, Hs⟩
  imodintro
  isplitl [Hz Hs Hacc Hgath Hk Hv Hrsa Hrsb]
  · isplitl [Hz]; · iexact Hz
    isplitl [Hs]; · iexact Hs
    isplitl [Hacc]; · iapply (ofE c cc0_scratch0); iexact Hacc
    isplitl [Hgath]; · iapply (ofE c cc0_scratch1); iexact Hgath
    isplitl [Hk]; · iapply (ofE c cc0_scratch2); iexact Hk
    isplitl [Hv]; · iapply (ofE c cc0_scratch3); iexact Hv
    isplitl [Hrsa]; · iapply (ofE c cc0_scratch4); iexact Hrsa
    iapply (ofE c cc0_scratch5); iexact Hrsb
  isplitl [Ho]
  · unfold ow Dat.owesAt Pipeline.owesWithin
    rw [show (dats m 0 c).owed t0_0.succ = 0 from rfl, O_last]
    icases Ho with ⟨%W, HO⟩
    iexists W
    isplitr; · ipureintro; exact fun _ _ => Or.inl trivial
    iexact HO
  isplitl [Hx]; · iexact Hx
  isplitl [Hwq]; · iexact Hwq
  isplitl [Hwo]; · iexact Hwo
  iexact Hout

set_option maxRecDepth 32768 in
theorem body_obligation (c : Dev nD) : BodyObligation (dats (F := F) m 0 c) (defs₀ (F := F)) 𝒱₀ () Set.univ := fun t => by
  rw [fin_N0 t]
  rw [bigSep_W0, bigSep_W0]
  show bodyPre m c ⊢ WP c bodyP (fun _ => bodyPost m c)
  exact sound_body m c

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' (CC m) c)
      ⊢ |={Set.univ}=> iprop(start m c ∗ Z m c) := by
  rw [Pipeline.unscopedRestP_none, unscopedRest0_eq]
  unfold G' linear payToks
  iintro ⟨Hkv, Hlev, Hcr, -, ⟨%K, HR, Hat, Htk, Hbf, Hbt⟩⟩
  ihave Hkv := (kv_deal m c) $$ Hkv
  icases Hkv with ⟨HkH, HvH, HZ⟩
  ihave Hcr := (creds (F := F) c) $$ Hcr
  icases Hcr with ⟨Hcr, Hcb⟩
  ihave Hat := (Entails.of_eq (bigSep_fin77 fun k : Fin 77 => (atPos ER (kcell (c, k)) 0 ∅ 0 : sProp 𝕄))) $$ Hat
  icases Hat with ⟨Hat, Hab⟩
  imodintro
  isplitr [HZ]
  swap; · iexact HZ
  unfold start
  isplitl [HR Hlev]
  · iexists K; unfold ctx
    isplitl [HR]; · unfold records; iexact HR
    iexact Hlev
  isplitl [Hat Htk Hcr]
  · iapply (show (bigSep Finset.univ fun i : Fin 76 => iprop(at0 c i ∗ tk (destE i c) i ∗ cr c i)) ⊢ (bigSep Finset.univ fun i : Fin 76 => resOf c i : sProp 𝕄) from bigSep_mono fun i _ => resOf_intro c i)
    rw [bigSep_sep', bigSep_sep']
    isplitl [Hat]
    · iapply (show (bigSep Finset.univ fun i : Fin 76 => atPos ER (kcell (c, ⟨i.val, by have := i.isLt; omega⟩)) 0 ∅ 0) ⊢ (bigSep Finset.univ fun i : Fin 76 => at0 c i : sProp 𝕄) from bigSep_mono fun (i : Fin 76) _ => show (atPos ER (kcell (c, ⟨i.val, by have := i.isLt; omega⟩)) 0 ∅ 0 : sProp 𝕄) ⊢ at0 c i from by
        rw [kcell_dma]; unfold at0; exact BI.Entails.refl _)
      iexact Hat
    isplitl [Htk]; · iexact Htk
    iexact Hcr
  isplitl [Hab Hcb Hbf Hbt]
  · unfold Gbar
    rw [kcell_bar]
    isplitl [Hab Hcb]
    · isplitl [Hab]; · iexact Hab
      iexact Hcb
    isplitl [Hbf]; · iexact Hbf
    iexact Hbt
  isplitl [HkH]; · iexact HkH
  iexact HvH

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) :=
  BI.Entails.refl _

theorem stage_level : ∀ (w : Fin cfg0.W) (s : Fin (cfg0.win w).nbuf), lvD (((cfg0.win w).sem s).val - 4) = 0 := by decide +kernel

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_of c (.dma ((cfg0.win w).sem s)) 0 0 (stage_level w s) (by decide +kernel)
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m 0 c).arrAt w cfg0.N

/-- What is read of the arrays of K and V and of the barrier at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2)
    ∧ s.mem ((c : Thread nD τ).loc main_arg3) = m ((c : Thread nD τ).loc main_arg3)

theorem read_end (c : Dev nD) (s' : Phys nD τ sig (Elt F)) :
    iprop(unscopedSems0 c ∗ Z m c ∗ SI s') ⊢ (|={Set.univ}=> iprop(⌜QY m c s'.mem⌝ ∗ SI s') : sProp 𝕄) := by
  unfold Z
  iintro ⟨Hu, ⟨⟨%q2, H2⟩, ⟨%q3, H3⟩⟩, HSI⟩
  icombine HSI H2 gives %h2
  icombine HSI H3 gives %h3
  imod (Pipeline.unscopedSems0_read (X := unscopedSems0 c) (c := c) fupd_intro s') $$ [Hu HSI] with ⟨%h1, HSI⟩
  · isplitl [Hu] <;> iassumption
  imodintro
  isplitr
  · ipureintro
    exact ⟨h1, funext fun i => h2 i (Finset.mem_univ _), funext fun i => h3 i (Finset.mem_univ _)⟩
  iexact HSI

set_option maxRecDepth 32768 in
/-- At any float values, from any memory with zero counters: every weakly fair execution of the program terminates with
    each window's array at its final contents, K and V unchanged, and every semaphore at zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w) ∧ QY m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => block_pos0 w) (harr := arr_whole0) (hstage := stage_whole0) (hshare := share_eq m)
    (hdistinct := winFacts0.arr_inj)
    (O₀ := fun c => O c 0) (howed₀ := fun _ => rfl) (howedN := fun _ => rfl)
    (L := L) (lv := lv) (hL := L_of_ne) (hwaits := waits m)
    (G := G (CC m)) (G' := G' (CC m)) (u₀ := u₀)
    (hu₀ := by
      unfold u₀
      iintro Hu
      ihave H := (ownU_pair _ _) $$ Hu
      icases H with ⟨HP, HX⟩
      imod (fund_ring (CC m)) $$ HX with HG
      imodintro
      isplitl [HP] <;> iassumption)
    (hglob := glob (CC m))
    (hA := fun _ _ => rfl) (hpf := fun _ k => k.elim0)
    (X := start m) (Y := fun c => unscopedSems0 c) (Z := Z m)
    (hX := start_intro m ρ) (hin := phi0_intro m) (hout := phi1_exit m)
    (QY := QY m) (hY := read_end m)
    (hQ := fun _ h hs => ⟨fun c => ⟨fun w => (h c).1 w, (h c).2.2⟩, sem_eq_zero hs fun c => (h c).2.2.1⟩)

end Cert.Ring

end
-- ==== Proof.Frames.lean ====
/-
# The frames

The run of the idealized text at any float values, read at the arguments; the kernel's own text is the same one at the
bit patterns, where the named constant is read as its bits.
-/
module

public import proofs.«01_k».proof.Proof.Launch
public import proofs.«01_k».proof.Defs
public import proofs.«01_k».proof.Proof.Gen.Kernel

@[expose] public section

noncomputable section

namespace Cert.Ring

open Cert.KernelIdeal Cert.KernelIdeal.Gen
open Idealize.ShloMosaic
open Idealize.ShloMosaic.TcCoe
open Idealize.SL.Sem

section Args
variable {F : FTy → Type} [FloatOps F] [Named F]
variable (m : (ℓ : Loc nD τ sig) → Buf (Elt F) ℓ) (ρ : Dev nD → PrngReg)

theorem finalA_0 (c : Dev nD) : finalA m c (0 : Fin 4) = m ((c : Thread nD τ).loc main_arg0) := (dats (F := F) m 0 c).arrAt_in (0 : Fin 4) rfl _
theorem finalA_1 (c : Dev nD) : finalA m c (1 : Fin 4) = m ((c : Thread nD τ).loc main_arg1) := (dats (F := F) m 0 c).arrAt_in (1 : Fin 4) rfl _
theorem finalA_2 (c : Dev nD) : finalA m c (2 : Fin 4) = m ((c : Thread nD τ).loc main_arg4) := (dats (F := F) m 0 c).arrAt_in (2 : Fin 4) rfl _

/-- The run read at the arguments, the result's array at its final contents. -/
theorem run_args : θ_run defs (onTc (τ := τ) (main (F := F))) ⟨m, fun _ => 0, ρ⟩ (fun r =>
    ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) ∧ ∀ c : Dev nD, r.2.mem ((c.tc : Thread nD τ).loc main_v1) = finalA m c (3 : Fin 4)) :=
  (θ_run defs _ _).mono (fun r h => ⟨⟨fun c => ⟨((h.1 c).1 (0 : Fin 4)).trans (finalA_0 m c), ((h.1 c).1 (1 : Fin 4)).trans (finalA_1 m c),
    (h.1 c).2.2.1, (h.1 c).2.2.2, ((h.1 c).1 (2 : Fin 4)).trans (finalA_2 m c)⟩, h.2⟩, fun c => (h.1 c).1 (3 : Fin 4)⟩) (run_main m ρ)

end Args

/-- At the bit patterns the named constant is read as the bits it stands for. -/
instance namedBits : Named Bits where
  named _ _ {φ} b := Scalar.ofBits φ b

/-- The two texts' body tables are one at the bit patterns. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_eq : Cert.Kernel.defs (F := Bits) = Cert.KernelIdeal.defs (F := Bits) :=
  show Pipeline.defs _ _ = Pipeline.defs _ _ from congrArg (Pipeline.defs (Cert.KernelIdeal.pcfgs (F := Bits))) defs₀_eq

end Cert.Ring

namespace Cert.Proof

open Idealize.ShloMosaic Idealize.SL.Sem

theorem frame_kernelIdeal : Cert.quiescent_KernelIdeal := fun m ρ _ =>
  (θ_run Cert.KernelIdeal.defs _ _).mono (fun _ h => h.1) (Cert.Ring.run_args (F := Ideal) m ρ)

theorem frame_kernel : Cert.quiescent_Kernel := fun m ρ _ => by
  have h := (θ_run Cert.KernelIdeal.defs _ _).mono (fun _ h => h.1) (Cert.Ring.run_args (F := Bits) m ρ)
  rw [← Cert.Ring.defs_eq] at h
  exact h

theorem preserves : Cert.preserves_Kernel_KernelIdeal := IdealRules.named_const.statement _ _ _ _ _ rfl

end Cert.Proof

end
-- ==== Proof.Block.lean ====
/-
# One block of the local product

Each of the four steps of the kernel computes the same thing for two chunks of 128 rows: the query, the scores of the eight
heads, their softmax, its product with the values, and the product with the output weights. The program cuts that
computation at other places in other steps; here it is stated once (`blkV`), and every partial product the kernel stores is
a slice of it.
-/
module

public import proofs.«01_k».proof.Proof.Vals

@[expose] public section

noncomputable section

namespace Cert.Ring

open Cert.KernelIdeal Cert.KernelIdeal.Gen

open Idealize.ShloMosaic
open Idealize.ShloMosaic.TcCoe

variable {F : FTy → Type} [FloatOps F] [Named F]

/-- The scaled query of 256 rows. -/
def qV (xa xb : Vec F S128x1024 .f32) (wq : Vec F S1024x1024 .f32) : FVec F S256x1024 .f32 :=
  mulf (matmul (F := F) dot_S256x1024_S1024x1024_S256x1024_1_0_0_1_n_n none
      (concatenate S256x1024 0
        [⟨S128x1024, shapeCast S128x1024 xa shapeCasts_S128x1024_S128x1024⟩,
         ⟨S128x1024, shapeCast S128x1024 xb shapeCasts_S128x1024_S128x1024⟩] concatenates_S128x1024_S128x1024_S256x1024_d0 : FVec F S256x1024 .f32)
      (shapeCast S1024x1024 wq shapeCasts_S1024x1024_S1024x1024) (constant S256x1024 .f32 0x00000000#32))
    (broadcast S256x1024 (Scalar.ofBits .f32 0x3DB504F3#32))

/-- The row each of the 256 rows is: the first 128 start at `oa`, the others at `ob`. -/
def rowV (oa ob : BitVec 32) : IVec S256x1024 32 :=
  select (cmpi .slt (iota .tc S256x1024 32 [0] iota_S256x1024_d0_w32) (broadcast S256x1024 128#32))
    (addi (broadcast S256x1024 oa) (iota .tc S256x1024 32 [0] iota_S256x1024_d0_w32))
    (subi (addi (broadcast S256x1024 ob) (iota .tc S256x1024 32 [0] iota_S256x1024_d0_w32)) (broadcast S256x1024 128#32))

/-- The column. -/
def colV : IVec S256x1024 32 := iota .tc S256x1024 32 [1] iota_S256x1024_d1_w32

/-- The quotient by 64, rounded down. -/
def div64V (v : IVec S256x1024 32) : IVec S256x1024 32 :=
  select
    (andi
      (cmpi .ne
        (subi (extui 32 (cmpi .sgt v (broadcast S256x1024 0#32)) natLt_1_32)
          (extui 32 (cmpi .slt v (broadcast S256x1024 0#32)) natLt_1_32))
        (broadcast S256x1024
          (Scalar.subi (Scalar.extui (Scalar.cmpi .sgt 64#32 0#32)) (Scalar.extui (Scalar.cmpi .slt 64#32 0#32)))))
      (cmpi .ne (remsi v (broadcast S256x1024 64#32)) (broadcast S256x1024 0#32)))
    (subi (divsi v (broadcast S256x1024 64#32)) (broadcast S256x1024 1#32))
    (divsi v (broadcast S256x1024 64#32))

/-- Which positions take part, from the row blocks and the column blocks. -/
def maskV (qb kb : IVec S256x1024 32) : IVec S256x1024 1 :=
  ori (ori (cmpi .eq qb kb) (cmpi .eq kb (broadcast S256x1024 0#32)))
    (cmpi .eq (remsi (addi qb kb) (broadcast S256x1024 3#32)) (broadcast S256x1024 0#32))

/-- What is added to the scores: nothing where the position takes part, the mask's constant elsewhere. -/
def biasV (oa ob : BitVec 32) : FVec F S256x1024 .f32 :=
  select (maskV (div64V (rowV oa ob)) (div64V colV))
    (broadcast S256x1024 (Scalar.ofBits (F := F) .f32 0x00000000#32))
    (broadcast S256x1024 (Named.named (F := F) (φ := .f32) κ "mask" 0xC7C35000#32))

/-- One head's weights, not yet divided by their sum. -/
def wV (q : FVec F S256x128 .f32) (b : FVec F S256x1024 .f32) (k : Vec F S1024x128 .f32) : FVec F S256x1024 .f32 :=
  exp (addf (matmul (F := F) dot_S256x128_S1024x128_S256x1024_1_1_0_0_n_n none q k (constant S256x1024 .f32 0x00000000#32)) b)

/-- One head's part of the context. -/
def headV (w : FVec F S256x1024 .f32) (v : Vec F S1024x128 .f32) : FVec F S256x128 .f32 :=
  divf (matmul (F := F) dot_S256x1024_S1024x128_S256x128_1_0_0_1_n_n none w v (constant S256x128 .f32 0x00000000#32))
    (broadcastTo S256x128
      (shapeCast S256x1 (multiReduction .add [1] S256 w 0x00000000#32 reduces_S256x1024_S256 (.inl rfl) rfl : FVec F S256 .f32) shapeCasts_S256_S256x1)
      broadcasts_S256x1_S256x128)

/-- The context, its eight heads beside one another. -/
def ctxV (q b : FVec F S256x1024 .f32) (k v : ℕ → Vec F S1024x128 .f32) : FVec F S256x1024 .f32 :=
  concatenate S256x1024 1
    [⟨S256x128, headV (wV (extractStridedSlice S256x128 ![0, 0] q slices_S256x1024_o0_0_S256x128) b (k 0)) (v 0)⟩,
     ⟨S256x128, headV (wV (extractStridedSlice S256x128 ![0, 128] q slices_S256x1024_o0_128_S256x128) b (k 1)) (v 1)⟩,
     ⟨S256x128, headV (wV (extractStridedSlice S256x128 ![0, 256] q slices_S256x1024_o0_256_S256x128) b (k 2)) (v 2)⟩,
     ⟨S256x128, headV (wV (extractStridedSlice S256x128 ![0, 384] q slices_S256x1024_o0_384_S256x128) b (k 3)) (v 3)⟩,
     ⟨S256x128, headV (wV (extractStridedSlice S256x128 ![0, 512] q slices_S256x1024_o0_512_S256x128) b (k 4)) (v 4)⟩,
     ⟨S256x128, headV (wV (extractStridedSlice S256x128 ![0, 640] q slices_S256x1024_o0_640_S256x128) b (k 5)) (v 5)⟩,
     ⟨S256x128, headV (wV (extractStridedSlice S256x128 ![0, 768] q slices_S256x1024_o0_768_S256x128) b (k 6)) (v 6)⟩,
     ⟨S256x128, headV (wV (extractStridedSlice S256x128 ![0, 896] q slices_S256x1024_o0_896_S256x128) b (k 7)) (v 7)⟩]
    concatenates_S256x128_S256x128_S256x128_S256x128_S256x128_S256x128_S256x128_S256x128_S256x1024_d1

/-- The partial product of 256 rows. -/
def blkV (xa xb : Vec F S128x1024 .f32) (wq wo : Vec F S1024x1024 .f32) (k v : ℕ → Vec F S1024x128 .f32) (oa ob : BitVec 32) :
    FVec F S256x1024 .bf16 :=
  truncf .bf16
    (matmul (F := F) dot_S256x1024_S1024x1024_S256x1024_1_0_0_1_n_n none (ctxV (qV xa xb wq) (biasV oa ob) k v)
      (shapeCast S1024x1024 wo shapeCasts_S1024x1024_S1024x1024) (constant S256x1024 .f32 0x00000000#32))
    bitsLt_bf16_f32

/-- Its first 128 rows, -/
def topV (p : FVec F S256x1024 .bf16) : FVec F S128x1024 .bf16 :=
  shapeCast S128x1024 (extractStridedSlice S128x1024 ![0, 0] p slices_S256x1024_o0_0_S128x1024) shapeCasts_S128x1024_S128x1024
/-- and the other 128. -/
def botV (p : FVec F S256x1024 .bf16) : FVec F S128x1024 .bf16 :=
  shapeCast S128x1024 (extractStridedSlice S128x1024 ![128, 0] p slices_S256x1024_o128_0_S128x1024) shapeCasts_S128x1024_S128x1024

variable (I : Inp F) (c : Dev nD)

def blk0 : FVec F S256x1024 .bf16 :=
  blkV (w_134 I c) (w_137 I c) (w_140 I c) (w_386 I c) (I.kC c) (I.vC c) (w_130 I c) (w_132 I c)
def blk1 : FVec F S256x1024 .bf16 :=
  blkV (w_427 I c) (w_430 I c) (w_433 I c) (w_599 I c) (I.kC c) (I.vC c) (w_423 I c) (w_425 I c)
def blk2 : FVec F S256x1024 .bf16 :=
  blkV (w_672 I c) (w_675 I c) (w_678 I c) (w_844 I c) (I.kC c) (I.vC c) (w_668 I c) (w_670 I c)
def blk3 : FVec F S256x1024 .bf16 :=
  blkV (w_917 I c) (w_920 I c) (w_923 I c) (w_1089 I c) (I.kC c) (I.vC c) (w_913 I c) (w_915 I c)

theorem st19_eq : st19 I c = topV (blk0 I c) := rfl
theorem st20_eq : st20 I c = botV (blk0 I c) := rfl
theorem st41_eq : st41 I c = topV (blk1 I c) := rfl
theorem st42_eq : st42 I c = botV (blk1 I c) := rfl
theorem st64_eq : st64 I c = topV (blk2 I c) := rfl
theorem st65_eq : st65 I c = botV (blk2 I c) := rfl
theorem st89_eq : st89 I c = topV (blk3 I c) := rfl
theorem st90_eq : st90 I c = botV (blk3 I c) := rfl

end Cert.Ring

end
-- ==== Proof.Value.lean ====
/-
# The kernel's result, entry by entry

With ideal floats, the entry in row `r` and column `d` of the result is the sum over the four devices of their partial
products (`part`): the device's eight heads' contexts at row `r`, times column `d` of its output weights.
-/
module

public import proofs.«01_k».proof.Proof.Body
public import proofs.«01_k».proof.Proof.Block
public import Idealize.ShloMosaic.Lib.Pointwise

@[expose] public section

noncomputable section

set_option maxRecDepth 16384

namespace Cert.Ring

open Cert.KernelIdeal Cert.KernelIdeal.Gen

open Idealize.ShloMosaic
open Idealize.ShloMosaic.TcCoe

/-- A square array of extended reals. -/
abbrev Arr := S1024x1024.Idx → EReal

/-- Whether key `j` takes part in row `r`. -/
def keep (r j : ℕ) : Prop := (r / 64 = j / 64 ∨ j / 64 = 0) ∨ (r / 64 + j / 64) % 3 = 0

instance (r j : ℕ) : Decidable (keep r j) := inferInstanceAs (Decidable ((_ ∨ _) ∨ _))

/-- The factor of the scores. -/
def scale : EReal := Ideal.ofBits .f32 0x3DB504F3#32

/-- Entry `t` of row `r` of the scaled query. -/
def qAt (X WQ : Arr) (r t : Fin 1024) : EReal := (∑ k : Fin 1024, X (ix2 r k) * WQ (ix2 k t)) * scale

/-- Column `e` of head `h`. -/
def headCol (h : Fin 8) (e : Fin 128) : Fin 1024 := ⟨128 * h.val + e.val, by omega⟩

/-- The score of key `j` in row `r`. -/
def score (X WQ : Arr) (k : ℕ → S1024x128.Idx → EReal) (h : Fin 8) (r j : Fin 1024) : EReal :=
  ∑ e : Fin 128, qAt X WQ r (headCol h e) * k h.val (ix2 j e)

/-- The weight of key `j` in row `r`, not yet divided by the weights' sum. -/
def weight (X WQ : Arr) (k : ℕ → S1024x128.Idx → EReal) (h : Fin 8) (r j : Fin 1024) : EReal :=
  Ideal.exp (score X WQ k h r j + if keep r.val j.val then 0 else ⊥)

/-- Entry `e` of head `h` of the context at row `r`. -/
def context (X WQ : Arr) (k v : ℕ → S1024x128.Idx → EReal) (h : Fin 8) (r : Fin 1024) (e : Fin 128) : EReal :=
  Ideal.div (∑ j : Fin 1024, weight X WQ k h r j * v h.val (ix2 j e)) (∑ j : Fin 1024, weight X WQ k h r j)

/-- The head a column belongs to, and its place in it. -/
def headOf (t : Fin 1024) : Fin 8 := ⟨t.val / 128, by omega⟩
def placeOf (t : Fin 1024) : Fin 128 := ⟨t.val % 128, by omega⟩

/-- One device's part of the result's entry in row `r` and column `d`. -/
def part (X WQ WO : Arr) (k v : ℕ → S1024x128.Idx → EReal) (r d : Fin 1024) : EReal :=
  ∑ t : Fin 1024, context X WQ k v (headOf t) r (placeOf t) * WO (ix2 t d)

/-! ## The words -/

theorem row_word (A B : ℕ) (hA : A ≤ 896) (hB : B ≤ 896) (i : Fin 256) :
    Scalar.select (IntOp.cmpi .slt (BitVec.ofNat 32 i.val) 128#32) (IntOp.addi (BitVec.ofNat 32 A) (BitVec.ofNat 32 i.val))
      (IntOp.subi (IntOp.addi (BitVec.ofNat 32 B) (BitVec.ofNat 32 i.val)) 128#32)
      = BitVec.ofNat 32 (if i.val < 128 then A + i.val else B + (i.val - 128)) := by
  have hs : IntOp.cmpi .slt (BitVec.ofNat 32 i.val) 128#32 = if i.val < 128 then 1#1 else 0#1 := by
    revert i; decide +kernel
  rw [hs]
  by_cases h : i.val < 128
  · rw [if_pos h, if_pos h]
    show IntOp.addi _ _ = _
    apply BitVec.eq_of_toNat_eq
    simp only [IntOp.addi, BitVec.toNat_add, BitVec.toNat_ofNat]
    omega
  · rw [if_neg h, if_neg h]
    show IntOp.subi _ _ = _
    apply BitVec.eq_of_toNat_eq
    simp only [IntOp.addi, IntOp.subi, BitVec.toNat_add, BitVec.toNat_sub, BitVec.toNat_ofNat]
    omega

/-- The quotient by 64, rounded down, of one word. -/
def div64 (v : BitVec 32) : BitVec 32 :=
  Scalar.select
    (IntOp.andi
      (IntOp.cmpi .ne
        (IntOp.subi (BitVec.setWidth 32 (IntOp.cmpi .sgt v 0#32)) (BitVec.setWidth 32 (IntOp.cmpi .slt v 0#32)))
        (Scalar.subi (Scalar.extui (Scalar.cmpi .sgt 64#32 0#32)) (Scalar.extui (Scalar.cmpi .slt 64#32 0#32))))
      (IntOp.cmpi .ne (IntOp.remsi .vector v 64#32) 0#32))
    (IntOp.subi (IntOp.divsi .vector v 64#32) 1#32)
    (IntOp.divsi .vector v 64#32)

theorem div64_eq : ∀ n : Fin 1024, div64 (BitVec.ofNat 32 n.val) = BitVec.ofNat 32 (n.val / 64) := by decide +kernel

theorem mask_word : ∀ a b : Fin 16,
    IntOp.ori (IntOp.ori (IntOp.cmpi .eq (BitVec.ofNat 32 a.val) (BitVec.ofNat 32 b.val)) (IntOp.cmpi .eq (BitVec.ofNat 32 b.val) 0#32))
      (IntOp.cmpi .eq (IntOp.remsi .vector (IntOp.addi (BitVec.ofNat 32 a.val) (BitVec.ofNat 32 b.val)) 3#32) 0#32)
      = if (a.val = b.val ∨ b.val = 0) ∨ (a.val + b.val) % 3 = 0 then 1#1 else 0#1 := by decide +kernel

/-! ## The block, entry by entry -/

theorem div64V_at (v : IVec S256x1024 32) (i : Fin 256) (t : Fin 1024) : div64V v (ix2 i t) = div64 (v (ix2 i t)) := by
  pointwise [div64V, div64]

theorem biasV_at (A B : ℕ) (hA : A ≤ 896) (hB : B ≤ 896) (i : Fin 256) (r j : Fin 1024)
    (hr : r.val = if i.val < 128 then A + i.val else B + (i.val - 128)) :
    biasV (F := Ideal) (BitVec.ofNat 32 A) (BitVec.ofNat 32 B) (ix2 i j) = if keep r.val j.val then 0 else ⊥ := by
  have hrow : div64V (rowV (BitVec.ofNat 32 A) (BitVec.ofNat 32 B)) (ix2 i j) = BitVec.ofNat 32 (r.val / 64) := by
    rw [div64V_at, ← div64_eq r, hr, ← row_word A B hA hB i]
    pointwise [rowV]
  have hcol : div64V colV (ix2 i j) = BitVec.ofNat 32 (j.val / 64) := by
    rw [div64V_at, ← div64_eq j]
    pointwise [colV]
  have hm : maskV (div64V (rowV (BitVec.ofNat 32 A) (BitVec.ofNat 32 B))) (div64V colV) (ix2 i j)
      = if keep r.val j.val then 1#1 else 0#1 := by
    have h := mask_word ⟨r.val / 64, by omega⟩ ⟨j.val / 64, by omega⟩
    pointwise [maskV]
    rw [hrow, hcol]
    exact h
  pointwise [biasV]
  rw [hm]
  have hn : (Named.named (F := Ideal) (φ := .f32) κ "mask" 0xC7C35000#32 : EReal) = ⊥ := rfl
  by_cases h : keep r.val j.val
  · rw [if_pos h, if_pos h]; rfl
  · rw [if_neg h, if_neg h]; exact hn

theorem qV_at (X WQ : Arr) (xa xb : Vec Ideal S128x1024 .f32) (A B : ℕ) (hA : A ≤ 896) (hB : B ≤ 896)
    (hxa : ∀ (i : Fin 128) (k : Fin 1024), xa (ix2 i k) = X (ix2 ⟨A + i.val, by omega⟩ k))
    (hxb : ∀ (i : Fin 128) (k : Fin 1024), xb (ix2 i k) = X (ix2 ⟨B + i.val, by omega⟩ k))
    (i : Fin 256) (r t : Fin 1024) (hr : r.val = if i.val < 128 then A + i.val else B + (i.val - 128)) :
    qV (F := Ideal) xa xb WQ (ix2 i t) = qAt X WQ r t := by
  pointwise [qV, qAt, scale]
  refine congrArg (· * _) (Finset.sum_congr rfl fun k _ => congrArg (· * _) ?_)
  by_cases h : i.val < 128
  · rw [dif_pos h, hxa]; rw [if_pos h] at hr
    exact congrArg (fun z => X (ix2 z k)) (Fin.ext hr.symm)
  · rw [dif_neg h, hxb]; rw [if_neg h] at hr
    exact congrArg (fun z => X (ix2 z k)) (Fin.ext hr.symm)

/-- Head `h`'s columns of the query. -/
theorem wV_at (q : FVec Ideal S256x1024 .f32) (b : FVec Ideal S256x1024 .f32) (k : ℕ → Vec Ideal S1024x128 .f32) (h : Fin 8)
    (s : FVec Ideal S256x128 .f32) (hs : ∀ (i : Fin 256) (e : Fin 128), s (ix2 i e) = q (ix2 i (headCol h e)))
    (X WQ : Arr) (i : Fin 256) (r : Fin 1024) (hq : ∀ t, q (ix2 i t) = qAt X WQ r t)
    (hb : ∀ j : Fin 1024, b (ix2 i j) = if keep r.val j.val then 0 else ⊥) (j : Fin 1024) :
    wV (F := Ideal) s b (k h.val) (ix2 i j) = weight X WQ k h r j := by
  pointwise [wV]
  rw [hb, weight, score]
  refine congrArg (fun z => Ideal.exp (z + _)) (Finset.sum_congr rfl fun e _ => ?_)
  rw [hs, hq]

theorem headV_at (X WQ : Arr) (k v : ℕ → Vec Ideal S1024x128 .f32) (h : Fin 8) (w : FVec Ideal S256x1024 .f32) (i : Fin 256) (r : Fin 1024)
    (hw : ∀ j, w (ix2 i j) = weight X WQ k h r j) (e : Fin 128) : headV (F := Ideal) w (v h.val) (ix2 i e) = context X WQ k v h r e := by
  pointwise [headV]
  simp only [hw]
  rfl

theorem ctxV_at (X WQ : Arr) (q b : FVec Ideal S256x1024 .f32) (k v : ℕ → Vec Ideal S1024x128 .f32) (i : Fin 256) (r : Fin 1024)
    (hq : ∀ t, q (ix2 i t) = qAt X WQ r t) (hb : ∀ j : Fin 1024, b (ix2 i j) = if keep r.val j.val then 0 else ⊥) (t : Fin 1024) :
    ctxV (F := Ideal) q b k v (ix2 i t) = context X WQ k v (headOf t) r (placeOf t) := by
  have key (h : Fin 8) (s : FVec Ideal S256x128 .f32) (hs : ∀ (i : Fin 256) (e : Fin 128), s (ix2 i e) = q (ix2 i (headCol h e)))
      (p : ℕ) (hp : p < 128) (ht : t.val = 128 * h.val + p) :
      headV (F := Ideal) (wV s b (k h.val)) (v h.val) (ix2 i ⟨p, hp⟩) = context X WQ k v (headOf t) r (placeOf t) := by
    rw [headV_at X WQ k v h _ i r fun j => wV_at q b k h s hs X WQ i r hq hb j]
    have e1 : headOf t = h := Fin.ext (by show t.val / 128 = h.val; omega)
    have e2 : placeOf t = ⟨p, hp⟩ := Fin.ext (by show t.val % 128 = p; omega)
    rw [e1, e2]
  have slice (h : Fin 8) (off : Fin 2 → ℕ) (h0 : off 0 = 0) (h1 : off 1 = 128 * h.val) (hsl : S256x1024.Slices off S256x128)
      (i : Fin 256) (e : Fin 128) :
      extractStridedSlice S256x128 off q hsl (ix2 i e) = q (ix2 i (headCol h e)) := by
    pointwise
    refine congrArg q (congrArg₂ ix2 (Fin.ext ?_) (Fin.ext ?_))
    · show off 0 + i.val = i.val; omega
    · show off 1 + e.val = 128 * h.val + e.val; omega
  pointwise [ctxV]
  split
  · exact key 0 _ (slice 0 _ rfl rfl _) _ _ (by simp; )
  · split
    · exact key 1 _ (slice 1 _ rfl rfl _) _ _ (by simp; omega)
    · split
      · exact key 2 _ (slice 2 _ rfl rfl _) _ _ (by simp; omega)
      · split
        · exact key 3 _ (slice 3 _ rfl rfl _) _ _ (by simp; omega)
        · split
          · exact key 4 _ (slice 4 _ rfl rfl _) _ _ (by simp; omega)
          · split
            · exact key 5 _ (slice 5 _ rfl rfl _) _ _ (by simp; omega)
            · split
              · exact key 6 _ (slice 6 _ rfl rfl _) _ _ (by simp; omega)
              · exact key 7 _ (slice 7 _ rfl rfl _) _ _ (by simp; omega)

theorem blkV_at (X WQ WO : Arr) (k v : ℕ → Vec Ideal S1024x128 .f32) (xa xb : Vec Ideal S128x1024 .f32) (A B : ℕ) (hA : A ≤ 896) (hB : B ≤ 896)
    (hxa : ∀ (i : Fin 128) (k : Fin 1024), xa (ix2 i k) = X (ix2 ⟨A + i.val, by omega⟩ k))
    (hxb : ∀ (i : Fin 128) (k : Fin 1024), xb (ix2 i k) = X (ix2 ⟨B + i.val, by omega⟩ k))
    (i : Fin 256) (r d : Fin 1024) (hr : r.val = if i.val < 128 then A + i.val else B + (i.val - 128)) :
    blkV (F := Ideal) xa xb WQ WO k v (BitVec.ofNat 32 A) (BitVec.ofNat 32 B) (ix2 i d) = part X WQ WO k v r d := by
  pointwise [blkV]
  refine Finset.sum_congr rfl fun t _ => congrArg (· * _) ?_
  exact ctxV_at X WQ _ _ k v i r (fun t => qV_at X WQ xa xb A B hA hB hxa hxb i r t hr)
    (fun j => biasV_at A B hA hB i r j hr) t

end Cert.Ring

end
-- ==== Proof.Sum.lean ====
/-
# The result as a sum over the devices

Chunk `j` of the upper half collects device after device to the right, that of the lower half to the left; where it
stops every device has added its partial product, so every entry of the result is the sum of the four (`outV_at`).
-/
module

public import proofs.«01_k».proof.Proof.Value

@[expose] public section

noncomputable section

set_option maxRecDepth 16384

namespace Cert.Ring

open Cert.KernelIdeal Cert.KernelIdeal.Gen

open Idealize.ShloMosaic
open Idealize.ShloMosaic.TcCoe

variable (I : Inp Ideal) (c : Dev nD)

/-- Device `c`'s part of an entry. -/
def partOf (r d : Fin 1024) : EReal := part (I.x c) (I.wq c) (I.wo c) (I.kC c) (I.vC c) r d

/-- Row `i` of chunk `a`. -/
def rowAt (a : ℕ) (i : Fin 128) : Fin 1024 := ⟨(128 * a + i.val) % 1024, Nat.mod_lt _ (by decide)⟩

/-- A read of the whole of a square array is the array. -/
theorem whole_read (X : Arr) :
    (fun i => X (((Rect.unit (s := S1024x1024) ![0, 0] S1024x1024.size inb_S1024x1024_S1024x1024_0_0).toLoadRect).idx i)) = X := by
  funext i
  refine congrArg X (funext fun a => Fin.ext ?_)
  fin_cases a
  · show 0 + 1 * (i 0).val = (i 0).val; omega
  · show 0 + 1 * (i 1).val = (i 1).val; omega

/-- A read of the 128 rows from `o` on. -/
theorem rows_read (X : Arr) (off : Fin 2 → ℕ) (hin : ∀ a, off a + S128x1024.size a ≤ S1024x1024.size a) (o : ℕ) (ho : o ≤ 896)
    (h0 : off 0 = o) (h1 : off 1 = 0) (i : Fin 128) (k : Fin 1024) :
    X (((Rect.unit (s := S1024x1024) off S128x1024.size hin).toLoadRect).idx (ix2 i k)) = X (ix2 ⟨o + i.val, by omega⟩ k) := by
  refine congrArg X (funext fun a => Fin.ext ?_)
  fin_cases a
  · show off 0 + 1 * i.val = o + i.val; omega
  · show off 1 + 1 * k.val = k.val; omega

theorem off2_0 : ∀ (c : Dev nD), k0_off2 c 0#32 0 = 128 * ((c.val + 4) % 4) ∧ k0_off2 c 1#32 0 = 128 * ((c.val + 3) % 4)
    ∧ k0_off2 c 2#32 0 = 128 * ((c.val + 2) % 4) ∧ k0_off2 c 3#32 0 = 128 * ((c.val + 1) % 4) := by decide +kernel
theorem off3_0 : ∀ (c : Dev nD), k0_off3 c 0#32 0 = 128 * (4 + (c.val + 0) % 4) ∧ k0_off3 c 1#32 0 = 128 * (4 + (c.val + 1) % 4)
    ∧ k0_off3 c 2#32 0 = 128 * (4 + (c.val + 2) % 4) ∧ k0_off3 c 3#32 0 = 128 * (4 + (c.val + 3) % 4) := by decide +kernel

/-- A block whose rows are chunk `a` and chunk `b`, by its slices. -/
theorem blk_at (xa xb : Vec Ideal S128x1024 .f32) (wq wo : Vec Ideal S1024x1024 .f32) (oa ob : BitVec 32) (a b : ℕ) (ha : a < 8) (hb : b < 8)
    (hwq : wq = I.wq c) (hwo : wo = I.wo c) (hoa : oa = BitVec.ofNat 32 (128 * a)) (hob : ob = BitVec.ofNat 32 (128 * b))
    (hxa : ∀ (i : Fin 128) (k : Fin 1024), xa (ix2 i k) = I.x c (ix2 ⟨128 * a + i.val, by omega⟩ k))
    (hxb : ∀ (i : Fin 128) (k : Fin 1024), xb (ix2 i k) = I.x c (ix2 ⟨128 * b + i.val, by omega⟩ k)) (i : Fin 128) (d : Fin 1024) :
    topV (blkV (F := Ideal) xa xb wq wo (I.kC c) (I.vC c) oa ob) (ix2 i d) = partOf I c (rowAt a i) d
      ∧ botV (blkV (F := Ideal) xa xb wq wo (I.kC c) (I.vC c) oa ob) (ix2 i d) = partOf I c (rowAt b i) d := by
  subst hwq hwo hoa hob
  constructor
  · pointwise [topV]
    exact blkV_at (I.x c) (I.wq c) (I.wo c) (I.kC c) (I.vC c) xa xb (128 * a) (128 * b) (by omega) (by omega) hxa hxb
      ⟨i.val, by omega⟩ (rowAt a i) d (by rw [if_pos i.isLt]; show (128 * a + i.val) % 1024 = 128 * a + i.val; have := i.isLt; omega)
  · pointwise [botV]
    exact blkV_at (I.x c) (I.wq c) (I.wo c) (I.kC c) (I.vC c) xa xb (128 * a) (128 * b) (by omega) (by omega) hxa hxb
      ⟨128 + i.val, by omega⟩ (rowAt b i) d (by rw [if_neg (show ¬ 128 + i.val < 128 by omega)]; show (128 * b + i.val) % 1024 = 128 * b + (128 + i.val - 128); have := i.isLt; omega)

theorem blk0_at (i : Fin 128) (d : Fin 1024) : st19 I c (ix2 i d) = partOf I c (rowAt ((c.val + 4) % 4) i) d
    ∧ st20 I c (ix2 i d) = partOf I c (rowAt (4 + (c.val + 0) % 4) i) d := by
  rw [st19_eq, st20_eq]
  exact blk_at I c _ _ _ _ _ _ _ _ (by omega) (by omega) (whole_read _) (whole_read _)
    (by simp only [w_130, w_127, w_126, w_125, w_2, w_1, w_0]; revert c; decide +kernel)
    (by simp only [w_132, w_131, w_129, w_128, w_2, w_1, w_0]; revert c; decide +kernel)
    (rows_read _ _ _ _ (by omega) (off2_0 c).1 rfl) (rows_read _ _ _ _ (by omega) (off3_0 c).1 rfl) i d

theorem blk1_at (i : Fin 128) (d : Fin 1024) : st41 I c (ix2 i d) = partOf I c (rowAt ((c.val + 3) % 4) i) d
    ∧ st42 I c (ix2 i d) = partOf I c (rowAt (4 + (c.val + 1) % 4) i) d := by
  rw [st41_eq, st42_eq]
  exact blk_at I c _ _ _ _ _ _ _ _ (by omega) (by omega) (whole_read _) (whole_read _)
    (by simp only [w_423, w_420, w_419, w_418, w_2, w_1, w_0]; revert c; decide +kernel)
    (by simp only [w_425, w_424, w_422, w_421, w_2, w_1, w_0]; revert c; decide +kernel)
    (rows_read _ _ _ _ (by omega) (off2_0 c).2.1 rfl) (rows_read _ _ _ _ (by omega) (off3_0 c).2.1 rfl) i d

theorem blk2_at (i : Fin 128) (d : Fin 1024) : st64 I c (ix2 i d) = partOf I c (rowAt ((c.val + 2) % 4) i) d
    ∧ st65 I c (ix2 i d) = partOf I c (rowAt (4 + (c.val + 2) % 4) i) d := by
  rw [st64_eq, st65_eq]
  exact blk_at I c _ _ _ _ _ _ _ _ (by omega) (by omega) (whole_read _) (whole_read _)
    (by simp only [w_668, w_665, w_664, w_663, w_2, w_1, w_0]; revert c; decide +kernel)
    (by simp only [w_670, w_669, w_667, w_666, w_2, w_1, w_0]; revert c; decide +kernel)
    (rows_read _ _ _ _ (by omega) (off2_0 c).2.2.1 rfl) (rows_read _ _ _ _ (by omega) (off3_0 c).2.2.1 rfl) i d

theorem blk3_at (i : Fin 128) (d : Fin 1024) : st89 I c (ix2 i d) = partOf I c (rowAt ((c.val + 1) % 4) i) d
    ∧ st90 I c (ix2 i d) = partOf I c (rowAt (4 + (c.val + 3) % 4) i) d := by
  rw [st89_eq, st90_eq]
  exact blk_at I c _ _ _ _ _ _ _ _ (by omega) (by omega) (whole_read _) (whole_read _)
    (by simp only [w_913, w_910, w_909, w_908, w_2, w_1, w_0]; revert c; decide +kernel)
    (by simp only [w_915, w_914, w_912, w_911, w_2, w_1, w_0]; revert c; decide +kernel)
    (rows_read _ _ _ _ (by omega) (off2_0 c).2.2.2 rfl) (rows_read _ _ _ _ (by omega) (off3_0 c).2.2.2 rfl) i d

/-- A slot's contents read as a chunk again. -/
theorem uns_cast (X : S128x1024.Idx → Elt Ideal .bf16) (h : S1x128x1024.ShapeCasts S128x1024) : shapeCast S128x1024 (uns X) h = X := by
  funext i
  show X _ = X i
  exact congrArg X (Equiv.symm_apply_apply _ i)

theorem cast_add (x y : FVec Ideal S128x1024 .bf16) (h : S128x1024.ShapeCasts S128x1024) (i : Fin 128) (d : Fin 1024) :
    shapeCast S128x1024 (addf x y) h (ix2 i d) = x (ix2 i d) + y (ix2 i d) := by pointwise

/-- What a device adds at each step is the sum its neighbour sent. -/
theorem add_uns (x y z : S128x1024.Idx → Elt Ideal .bf16) (h : S128x1024.ShapeCasts S128x1024)
    (hz : z = shapeCast S128x1024 (addf (F := Ideal) (φ := .bf16) x (shapeCast S128x1024 (uns y) shapeCasts_S1x128x1024_S128x1024)) h)
    (i : Fin 128) (d : Fin 1024) : z (ix2 i d) = (x (ix2 i d) : EReal) + y (ix2 i d) := by
  rw [hz, uns_cast]; exact cast_add _ _ _ _ _

theorem sum_lft (P : Dev nD → ℕ → EReal) : ∀ c : Dev nD,
    P c ((c.val + 1) % 4) + (P (lft c) (((lft c).val + 2) % 4) + (P (lft (lft c)) (((lft (lft c)).val + 3) % 4)
      + P (lft (lft (lft c))) (((lft (lft (lft c))).val + 4) % 4))) = ∑ c' : Dev nD, P c' ((c.val + 1) % 4) := by
  intro c
  refine Eq.trans ?_ (Fin.sum_univ_four (fun c' : Fin 4 => P c' ((c.val + 1) % 4))).symm
  fin_cases c
  · show P 0 1 + (P 3 1 + (P 2 1 + P 1 1)) = P 0 1 + P 1 1 + P 2 1 + P 3 1; ac_rfl
  · show P 1 2 + (P 0 2 + (P 3 2 + P 2 2)) = P 0 2 + P 1 2 + P 2 2 + P 3 2; ac_rfl
  · show P 2 3 + (P 1 3 + (P 0 3 + P 3 3)) = P 0 3 + P 1 3 + P 2 3 + P 3 3; ac_rfl
  · show P 3 0 + (P 2 0 + (P 1 0 + P 0 0)) = P 0 0 + P 1 0 + P 2 0 + P 3 0; ac_rfl

theorem sum_rgt (P : Dev nD → ℕ → EReal) : ∀ c : Dev nD,
    P c (4 + (c.val + 3) % 4) + (P (rgt c) (4 + ((rgt c).val + 2) % 4) + (P (rgt (rgt c)) (4 + ((rgt (rgt c)).val + 1) % 4)
      + P (rgt (rgt (rgt c))) (4 + ((rgt (rgt (rgt c))).val + 0) % 4))) = ∑ c' : Dev nD, P c' (4 + (c.val + 3) % 4) := by
  intro c
  refine Eq.trans ?_ (Fin.sum_univ_four (fun c' : Fin 4 => P c' (4 + (c.val + 3) % 4))).symm
  fin_cases c
  · show P 0 7 + (P 1 7 + (P 2 7 + P 3 7)) = P 0 7 + P 1 7 + P 2 7 + P 3 7; ac_rfl
  · show P 1 4 + (P 2 4 + (P 3 4 + P 0 4)) = P 0 4 + P 1 4 + P 2 4 + P 3 4; ac_rfl
  · show P 2 5 + (P 3 5 + (P 0 5 + P 1 5)) = P 0 5 + P 1 5 + P 2 5 + P 3 5; ac_rfl
  · show P 3 6 + (P 0 6 + (P 1 6 + P 2 6)) = P 0 6 + P 1 6 + P 2 6 + P 3 6; ac_rfl

theorem st93_at (i : Fin 128) (d : Fin 1024) : st93 I c (ix2 i d) = ∑ c' : Dev nD, partOf I c' (rowAt ((c.val + 1) % 4) i) d := by
  have h4 : st93 I c = st91 I c := shapeCast_id (w_1144 I c) shapeCasts_S128x1024_S128x1024
  rw [h4, add_uns (st89 I c) _ _ _ (rfl : st91 I c = _), add_uns (st64 I (lft c)) _ _ _ (rfl : st66 I (lft c) = _), add_uns (st41 I (lft (lft c))) _ _ _ (rfl : st43 I (lft (lft c)) = _),
    (blk3_at I _ i d).1, (blk2_at I _ i d).1, (blk1_at I _ i d).1, (blk0_at I _ i d).1]
  exact sum_lft (fun c' a => partOf I c' (rowAt a i) d) c

theorem st94_at (i : Fin 128) (d : Fin 1024) : st94 I c (ix2 i d) = ∑ c' : Dev nD, partOf I c' (rowAt (4 + (c.val + 3) % 4) i) d := by
  have h4 : st94 I c = st92 I c := shapeCast_id (w_1150 I c) shapeCasts_S128x1024_S128x1024
  rw [h4, add_uns (st90 I c) _ _ _ (rfl : st92 I c = _), add_uns (st65 I (rgt c)) _ _ _ (rfl : st67 I (rgt c) = _), add_uns (st42 I (rgt (rgt c))) _ _ _ (rfl : st44 I (rgt (rgt c)) = _),
    (blk3_at I _ i d).2, (blk2_at I _ i d).2, (blk1_at I _ i d).2, (blk0_at I _ i d).2]
  exact sum_rgt (fun c' a => partOf I c' (rowAt a i) d) c

/-- Chunk `j` of the result. -/
theorem fin_at (j : ℕ) (hj : j < 8) (i : Fin 128) (d : Fin 1024) : fin I j (ix2 i d) = ∑ c' : Dev nD, partOf I c' (rowAt j i) d := by
  show gC I j (ix2 i d) = _
  unfold gC
  split
  · rename_i h
    rw [st93_at]
    exact congrArg (fun a => ∑ c' : Dev nD, partOf I c' (rowAt a i) d) (by show ((j + 3) % 4 + 1) % 4 = j; omega)
  · rename_i h
    rw [st94_at]
    exact congrArg (fun a => ∑ c' : Dev nD, partOf I c' (rowAt a i) d) (by show 4 + ((j + 1) % 4 + 3) % 4 = j; omega)

/-- Every entry of the result is the sum of the devices' parts. -/
theorem outV_at (r d : Fin 1024) : outV I (ix2 r d) = ∑ c' : Dev nD, partOf I c' r d := by
  have hr : r = rowAt (r.val / 128) ⟨r.val % 128, by omega⟩ := Fin.ext (by show r.val = (128 * (r.val / 128) + r.val % 128) % 1024; omega)
  have hj : r.val / 128 < 8 := by omega
  have hi : (ix2 r d : S1024x1024.Idx) = (rowsF ⟨r.val / 128, hj⟩).emb (ix2 ⟨r.val % 128, by omega⟩ d) := by
    funext a; apply Fin.ext; rw [Rect.emb_apply]
    fin_cases a
    · show r.val = 128 * (r.val / 128) + 1 * (r.val % 128); omega
    · show d.val = 0 + 1 * d.val; omega
  rw [hi]
  refine (Rect.glue_emb rowsF rows_cov rows_disj (fun t => fin I t.val) ⟨r.val / 128, hj⟩ _).trans ?_
  rw [fin_at I _ hj, ← hr]

end Cert.Ring

end
-- ==== Proof.Arrays.lean ====
/-
# The arrays around the kernel

What the body is given, read off the arguments as the launch finds them, and the result's array as the run leaves it.
-/
module

public import proofs.«01_k».proof.Proof.Frames
public import proofs.«01_k».proof.Proof.Sum
public import Idealize.ShloMosaic.Lib.Pipeline.ValueKit.Geometry

@[expose] public section

noncomputable section

set_option maxRecDepth 16384

namespace Cert.Ring

open Cert.KernelIdeal Cert.KernelIdeal.Gen

open Idealize.ShloMosaic Idealize.ShloMosaic.Pipeline
open Idealize.ShloMosaic.TcCoe Idealize.SL.Sem

variable (m : (ℓ : Loc nD τ sig) → Buf (Elt Ideal) ℓ) (c : Dev nD)

/-- The result's array holds the result. -/
theorem finalA_out : finalA m c (3 : Fin 4) = outV (inp m) := by
  refine (dats m 0 c).arrAt_eq_of_after_last (3 : Fin 4) t0_0 (by decide +kernel) (outV (inp m)) fun j => ?_
  rfl

theorem x_eq : (inp m).x c = m ((c : Thread nD τ).loc main_arg0) := by
  funext i
  exact congrArg (m _) (funext fun a => Fin.ext (Window.rect_emb_val_of_index_zero win0_0 (0 : Fin 1) a rfl i))

theorem wq_eq : (inp m).wq c = m ((c : Thread nD τ).loc main_arg1) := by
  funext i
  exact congrArg (m _) (funext fun a => Fin.ext (Window.rect_emb_val_of_index_zero win0_1 (0 : Fin 1) a rfl i))

theorem wo_eq : (inp m).wo c = m ((c : Thread nD τ).loc main_arg4) := by
  funext i
  exact congrArg (m _) (funext fun a => Fin.ext (Window.rect_emb_val_of_index_zero win0_2 (0 : Fin 1) a rfl i))

/-- Where a head's slice lies. -/
theorem head_off : ∀ (c : Dev nD) (h : Fin 8), k0_off1 c (BitVec.ofNat 32 h.val) = ![0, 0, 8 * c.val + h.val, 0] := by decide +kernel

/-- The place in a whole array of entry `(j, e)` of head `h` of device `c`. -/
theorem head_idx (c : Dev nD) (h : Fin 8) (j : Fin 1024) (e : Fin 128) :
    (Rect.unit (s := S1x1024x32x128) (k0_off1 c (BitVec.ofNat 32 h.val)) S1x1024x1x128.size (k0_off1_inb c h)).emb (ix4 0 j 0 e)
      = ix4 0 j ⟨8 * c.val + h.val, by have : c.val < 4 := c.isLt; omega⟩ e := by
  have ho := head_off c h
  funext a
  apply Fin.ext
  show k0_off1 c (BitVec.ofNat 32 h.val) a + 1 * ((ix4 0 j 0 e : S1x1024x1x128.Idx) a).val = _
  rw [ho]
  fin_cases a
  · rfl
  · show 0 + 1 * j.val = j.val; omega
  · show 8 * c.val + h.val + 1 * 0 = 8 * c.val + h.val; omega
  · show 0 + 1 * e.val = e.val; omega

theorem kC_at (h : Fin 8) (j : Fin 1024) (e : Fin 128) :
    (inp m).kC c h.val (ix2 j e) = m ((c : Thread nD τ).loc main_arg2) (ix4 0 j ⟨8 * c.val + h.val, by have : c.val < 4 := c.isLt; omega⟩ e) := by
  have hh : (⟨h.val % 8, Nat.mod_lt _ (by decide)⟩ : Fin 8) = h := Fin.ext (Nat.mod_eq_of_lt h.isLt)
  have hk : (inp m).kC c h.val = (headW c kHbm ⟨h.val % 8, Nat.mod_lt _ (by decide)⟩).view.read (Elt Ideal) (m ((c : Thread nD τ).loc main_arg2)) := rfl
  rw [hk, hh]
  show shapeCast S1024x128 (fun i : S1x1024x1x128.Idx =>
    m ((c : Thread nD τ).loc main_arg2) ((Rect.unit (s := S1x1024x32x128) (k0_off1 c (BitVec.ofNat 32 h.val)) S1x1024x1x128.size (k0_off1_inb c h)).emb i))
    (squeezes_S1x1024x1x128_S1024x128).numel_eq (ix2 j e) = _
  pointwise
  exact congrArg (m _) (head_idx c h j e)

theorem vC_at (h : Fin 8) (j : Fin 1024) (e : Fin 128) :
    (inp m).vC c h.val (ix2 j e) = m ((c : Thread nD τ).loc main_arg3) (ix4 0 j ⟨8 * c.val + h.val, by have : c.val < 4 := c.isLt; omega⟩ e) := by
  have hh : (⟨h.val % 8, Nat.mod_lt _ (by decide)⟩ : Fin 8) = h := Fin.ext (Nat.mod_eq_of_lt h.isLt)
  have hk : (inp m).vC c h.val = (headW c vHbm ⟨h.val % 8, Nat.mod_lt _ (by decide)⟩).view.read (Elt Ideal) (m ((c : Thread nD τ).loc main_arg3)) := rfl
  rw [hk, hh]
  show shapeCast S1024x128 (fun i : S1x1024x1x128.Idx =>
    m ((c : Thread nD τ).loc main_arg3) ((Rect.unit (s := S1x1024x32x128) (k0_off1 c (BitVec.ofNat 32 h.val)) S1x1024x1x128.size (k0_off1_inb c h)).emb i))
    (squeezes_S1x1024x1x128_S1024x128).numel_eq (ix2 j e) = _
  pointwise
  exact congrArg (m _) (head_idx c h j e)

end Cert.Ring

end
-- ==== Proof.RefBlock.lean ====
module

public import proofs.«01_k».proof.Proof.Gen.ReferenceIdeal.Run

@[expose] public section

set_option maxRecDepth 16384

noncomputable section

/-!
# The reference's result, cut into named vectors

The reference's run leaves its result as one long term of the arguments. Here the term is cut at the places
the program itself names: the block number of a position, the mask, the scores, the weights, the row sums,
the probabilities and the projections. The cut is by definition.
-/

namespace Cert.Ref

open Cert.ReferenceIdeal Cert.ReferenceIdeal.Gen Idealize.ShloMosaic Idealize.ShloMosaic.TcCoe Idealize.SL.Sem

variable {F : FTy → Type} [FloatOps F]

/-- The word `64` spread over the positions. -/
def v64 : IVec S1024 32 := broadcastInDim S1024 ![] bcast_S_S1024 (id (constantI S_ 32 64#32))

/-- The truncating quotient of a position by `64`. -/
def quoV : IVec S1024 32 := Host.divsi (iotaInDim S1024 32 0) v64

/-- The block number of each position: the floor quotient by `64`. -/
def floorV : IVec S1024 32 :=
  select (andi (cmpi .ne (signi (iotaInDim S1024 32 0)) (broadcastInDim S1024 ![] bcast_S_S1024 (signi (id (constantI S_ 32 64#32)))))
      (cmpi .ne (Host.remsi (iotaInDim S1024 32 0) v64) (broadcastInDim S1024 ![] bcast_S_S1024 (constantI S_ 32 0#32))))
    (subi quoV (broadcastInDim S1024 ![] bcast_S_S1024 (constantI S_ 32 1#32))) quoV

/-- The block number as a row of columns. -/
def kRowV : IVec S1x1024 32 := broadcastInDim S1x1024 ![1] bcast_S1024_S1x1024_1 floorV

/-- The row's block number, at each place. -/
def qbV : IVec S1024x1024 32 :=
  broadcastInDim S1024x1024 ![0, 1] bcast_S1024x1_S1024x1024_0_1 (broadcastInDim S1024x1 ![0] bcast_S1024_S1024x1_0 floorV)

/-- The column's block number, at each place. -/
def kbV : IVec S1024x1024 32 := broadcastInDim S1024x1024 ![0, 1] bcast_S1x1024_S1024x1024_0_1 kRowV

/-- The divisor `3`. -/
def threeV : IVec S_ 32 :=
  select (cmpi .eq (id (constantI S_ 32 3#32)) (constantI S_ 32 0#32)) (constantI S_ 32 1#32) (id (constantI S_ 32 3#32))

/-- The truncating remainder of the sum of the block numbers by `3`. -/
def remV : IVec S1024x1024 32 := Host.remsi (addi qbV kbV) (broadcastInDim S1024x1024 ![] bcast_S_S1024x1024 threeV)

/-- Zero at each place. -/
def zeroV : IVec S1024x1024 32 := broadcastInDim S1024x1024 ![] bcast_S_S1024x1024 (constantI S_ 32 0#32)

/-- The floor remainder of the sum of the block numbers by `3`. -/
def modV : IVec S1024x1024 32 :=
  select (andi (cmpi .ne (cmpi .slt remV zeroV) (broadcastInDim S1024x1024 ![] bcast_S_S1024x1024 (cmpi .slt threeV (constantI S_ 32 0#32))))
      (cmpi .ne remV zeroV))
    (addi remV (broadcastInDim S1024x1024 ![] bcast_S_S1024x1024 threeV)) remV

/-- The block mask. -/
def maskV : IVec S1024x1024 1 :=
  ori (ori (cmpi .eq qbV kbV)
      (broadcastInDim S1024x1024 ![0, 1] bcast_S1x1024_S1024x1024_0_1
        (cmpi .eq kRowV (broadcastInDim S1x1024 ![] bcast_S_S1x1024 (constantI S_ 32 0#32)))))
    (cmpi .eq modV zeroV)

/-- The queries `x · Wq`, split into heads. -/
def qV (x : FVec F S1024x1024 .f32) (wq : FVec F S1024x4096 .f32) : FVec F S1x1024x32x128 .f32 :=
  shapeCast _ (Host.dotGeneral dot_S1x1024x1024_S1024x4096_S1x1024x4096_2_0_01_1_n_n none
    (shapeCast _ x shapeCasts_S1024x1024_S1x1024x1024) wq) shapeCasts_S1x1024x4096_S1x1024x32x128

/-- The scaled scores, before the mask. -/
def rawV (q k : FVec F S1x1024x32x128 .f32) : FVec F S1x32x1024x1024 .f32 :=
  mulf (Host.dotGeneral dot_S1x1024x32x128_S1x1024x32x128_S1x32x1024x1024_3_3_1_1_02_02 none q k)
    (broadcastInDim S1x32x1024x1024 ![] bcast_S_S1x32x1024x1024 (constant S_ .f32 0x3DB504F3#32))

/-- The mask over the heads. -/
def maskHV : IVec S1x32x1024x1024 1 :=
  broadcastInDim S1x32x1024x1024 ![0, 1, 2, 3] bcast_S1x1x1024x1024_S1x32x1024x1024_0_1_2_3
    (broadcastInDim S1x1x1024x1024 ![2, 3] bcast_S1024x1024_S1x1x1024x1024_2_3 maskV)

/-- The masked scores. -/
def scV (q k : FVec F S1x1024x32x128 .f32) : FVec F S1x32x1024x1024 .f32 :=
  select maskHV (rawV q k)
    (broadcastInDim S1x32x1024x1024 ![] bcast_S_S1x32x1024x1024 (id (constant S_ .f32 0xFF800000#32)))

/-- The greatest of a row's masked scores. -/
def maxV (s : FVec F S1x32x1024x1024 .f32) : FVec F S1x32x1024 .f32 :=
  Host.reduce FloatOps.maximumf s (constant S_ .f32 0xFF800000#32) reducesTo_S1x32x1024x1024_S1x32x1024_d3 h_S_

/-- The weights: the exponential of a masked score less its row's greatest. -/
def wV (s : FVec F S1x32x1024x1024 .f32) : FVec F S1x32x1024x1024 .f32 :=
  Host.exp (subf s (broadcastInDim S1x32x1024x1024 ![0, 1, 2, 3] bcast_S1x32x1024x1_S1x32x1024x1024_0_1_2_3
    (broadcastInDim S1x32x1024x1 ![0, 1, 2] bcast_S1x32x1024_S1x32x1024x1_0_1_2 (maxV s))))

/-- Whether a row keeps any column. -/
def anyRowV : IVec S1024 1 := Host.reduce IntOp.ori maskV (constantI S_ 1 0#1) reducesTo_S1024x1024_S1024_d1 h_S_

/-- The same, over a head. -/
def anyV : IVec S1x1x1024x1 1 := broadcastInDim S1x1x1024x1 ![2] bcast_S1024_S1x1x1024x1_2 anyRowV

/-- A row's sum of weights. -/
def sumV (w : FVec F S1x32x1024x1024 .f32) : FVec F S1x32x1024 .f32 :=
  Host.reduceAdd w (constant S_ .f32 0x00000000#32) reducesTo_S1x32x1024x1024_S1x32x1024_d3 h_S_

/-- The divisor of a row: its sum of weights, or one where it keeps nothing. -/
def divV (w : FVec F S1x32x1024x1024 .f32) : FVec F S1x32x1024x1 .f32 :=
  select (broadcastInDim S1x32x1024x1 ![0, 1, 2, 3] bcast_S1x1x1024x1_S1x32x1024x1_0_1_2_3 anyV)
    (broadcastInDim S1x32x1024x1 ![0, 1, 2] bcast_S1x32x1024_S1x32x1024x1_0_1_2 (sumV w))
    (broadcastInDim S1x32x1024x1 ![] bcast_S_S1x32x1024x1 (id (constant S_ .f32 0x3F800000#32)))

/-- The probabilities. -/
def pV (w : FVec F S1x32x1024x1024 .f32) : FVec F S1x32x1024x1024 .f32 :=
  select (broadcastInDim S1x32x1024x1024 ![0, 1, 2, 3] bcast_S1x1x1024x1_S1x32x1024x1024_0_1_2_3 anyV)
    (Host.divf w (broadcastInDim S1x32x1024x1024 ![0, 1, 2, 3] bcast_S1x32x1024x1_S1x32x1024x1024_0_1_2_3 (divV w)))
    (broadcastInDim S1x32x1024x1024 ![] bcast_S_S1x32x1024x1024 (id (constant S_ .f32 0x00000000#32)))

/-- The values averaged by the probabilities, one row of all heads per position. -/
def ctxV (v : FVec F S1x1024x32x128 .f32) (p : FVec F S1x32x1024x1024 .f32) : FVec F S1x1024x4096 .f32 :=
  shapeCast _ (transpose S1x1024x32x128 [0, 3, 1, 2]
    (Host.dotGeneral dot_S1x1024x32x128_S1x32x1024x1024_S1x32x128x1024_1_3_3_2_02_01 none v p)
    transposes_S1x32x128x1024_S1x1024x32x128_0_3_1_2) shapeCasts_S1x1024x32x128_S1x1024x4096

/-- The output projection. -/
def projV (a : FVec F S1x1024x4096 .f32) (wo : FVec F S4096x1024 .f32) : FVec F S1024x1024 .f32 :=
  shapeCast _ (Host.dotGeneral dot_S1x1024x4096_S4096x1024_S1x1024x1024_2_0_01_1_n_n none a wo)
    shapeCasts_S1x1024x1024_S1024x1024

/-- The reference's result. -/
def resV (x : FVec F S1024x1024 .f32) (wq : FVec F S1024x4096 .f32) (k v : FVec F S1x1024x32x128 .f32)
    (wo : FVec F S4096x1024 .f32) : FVec F S1024x1024 .f32 :=
  projV (ctxV v (pV (wV (scV (qV x wq) k)))) wo

/-- The run's term is `resV` of the arguments. -/
theorem res_eq (m : (ℓ : Loc nD τ sig) → Buf (Elt F) ℓ) (c : Dev nD) :
    Value.res_main_v46 m c = resV (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  rfl

end Cert.Ref

end
-- ==== Proof.RefVal.lean ====
/-
# The reference's result, entry by entry

With ideal floats, the entry in row `r` and column `d` of the reference's result is a sum over the 4096 columns of all
heads: the column's value at row `r`, averaged by the row's probabilities, times the output weight.
-/
module

public import proofs.«01_k».proof.Proof.RefBlock
public import proofs.«01_k».proof.Proof.Value

@[expose] public section

noncomputable section

set_option maxRecDepth 16384

namespace Cert.Ref

open Cert.ReferenceIdeal Cert.ReferenceIdeal.Gen Idealize.ShloMosaic Idealize.ShloMosaic.TcCoe
open Cert.Ring (keep scale)

/-! ## Three constants -/

theorem bot_bits : Ideal.ofBits .f32 0xFF800000#32 = (⊥ : EReal) := by
  simp [Ideal.ofBits, Ideal.ieee]

theorem top_bits : Ideal.ofBits .f32 0x7F800000#32 = (⊤ : EReal) := by
  simp [Ideal.ofBits, Ideal.ieee]

theorem scale_real : ∃ c : ℝ, scale = (c : EReal) := by
  unfold scale
  simp only [Ideal.ofBits, Ideal.ieee]
  norm_num
  exact ⟨_, rfl⟩

/-! ## The mask -/

/-- The quotient by 64, rounded down, of one word, as the reference writes it. -/
def div64 (v : BitVec 32) : BitVec 32 :=
  Scalar.select
    (IntOp.andi
      (IntOp.cmpi .ne (if v = 0 then (0 : BitVec 32) else if v.msb = true then -1 else 1)
        (if (64#32 : BitVec 32) = 0 then (0 : BitVec 32) else if (64#32 : BitVec 32).msb = true then -1 else 1))
      (IntOp.cmpi .ne (IntOp.remsi .host v 64#32) 0#32))
    (IntOp.subi (IntOp.divsi .host v 64#32) 1#32)
    (IntOp.divsi .host v 64#32)

theorem div64_eq : ∀ n : Fin 1024, div64 (BitVec.ofNat 32 n.val) = BitVec.ofNat 32 (n.val / 64) := by decide +kernel

/-- The divisor of one word's remainder, as the reference writes it. -/
def three : BitVec 32 := Scalar.select (IntOp.cmpi .eq 3#32 0#32) 1#32 3#32

/-- The remainder by 3, rounded down, of one word. -/
def mod3 (v : BitVec 32) : BitVec 32 :=
  Scalar.select
    (IntOp.andi (IntOp.cmpi .ne (IntOp.cmpi .slt (IntOp.remsi .host v three) 0#32) (IntOp.cmpi .slt three 0#32))
      (IntOp.cmpi .ne (IntOp.remsi .host v three) 0#32))
    (IntOp.addi (IntOp.remsi .host v three) three) (IntOp.remsi .host v three)

theorem mask_word : ∀ a b : Fin 16,
    IntOp.ori (IntOp.ori (IntOp.cmpi .eq (BitVec.ofNat 32 a.val) (BitVec.ofNat 32 b.val)) (IntOp.cmpi .eq (BitVec.ofNat 32 b.val) 0#32))
      (IntOp.cmpi .eq (mod3 (IntOp.addi (BitVec.ofNat 32 a.val) (BitVec.ofNat 32 b.val))) 0#32)
      = if (a.val = b.val ∨ b.val = 0) ∨ (a.val + b.val) % 3 = 0 then 1#1 else 0#1 := by decide +kernel

theorem floorV_at (i : Fin 1024) : floorV (ix1 i) = BitVec.ofNat 32 (i.val / 64) := by
  rw [← div64_eq i]
  pointwise [floorV, quoV, v64]
  rfl

theorem qbV_at (r j : Fin 1024) : qbV (ix2 r j) = BitVec.ofNat 32 (r.val / 64) := by
  rw [← floorV_at r]; pointwise [qbV]

theorem kbV_at (r j : Fin 1024) : kbV (ix2 r j) = BitVec.ofNat 32 (j.val / 64) := by
  rw [← floorV_at j]; pointwise [kbV, kRowV]

theorem modV_at (r j : Fin 1024) : modV (ix2 r j) = mod3 (IntOp.addi (qbV (ix2 r j)) (kbV (ix2 r j))) := by
  pointwise [modV, zeroV, remV, threeV]
  rfl

theorem maskV_at (r j : Fin 1024) : maskV (ix2 r j) = if keep r.val j.val then 1#1 else 0#1 := by
  have h := mask_word ⟨r.val / 64, by omega⟩ ⟨j.val / 64, by omega⟩
  pointwise [maskV, zeroV, kRowV]
  rw [modV_at, qbV_at, kbV_at, floorV_at]
  exact h

/-- Every row keeps the first columns. -/
theorem anyV_at (r : Fin 1024) : anyV (ix4 0 0 r 0) = 1#1 := by
  pointwise [anyV, anyRowV]
  rw [← Finset.insert_erase (Finset.mem_univ (0 : Fin 1024)), Finset.fold_insert (Finset.notMem_erase _ _), maskV_at,
    if_pos (show keep r.val (0 : Fin 1024).val from Or.inl (Or.inr rfl))]
  exact (by decide : ∀ b : BitVec 1, IntOp.ori 1#1 b = 1#1) _

/-! ## The attention -/

/-- Entry `e` of head `h` of the query at row `r`. -/
def qAt (X : S1024x1024.Idx → EReal) (WQ : S1024x4096.Idx → EReal) (r : Fin 1024) (h : Fin 32) (e : Fin 128) : EReal :=
  ∑ k : Fin 1024, X (ix2 r k) * WQ (ix2 k ⟨h.val * 128 + e.val, by omega⟩)

/-- The masked score of key `j` in row `r`. -/
def score (q : Fin 1024 → Fin 32 → Fin 128 → EReal) (K : S1x1024x32x128.Idx → EReal) (h : Fin 32) (r j : Fin 1024) : EReal :=
  if keep r.val j.val then (∑ e : Fin 128, q r h e * K (ix4 0 j h e)) * scale else ⊥

/-- The weight of key `j` among a row's scores. -/
def weight (s : Fin 1024 → EReal) (j : Fin 1024) : EReal := Ideal.exp (s j - Finset.univ.fold max ⊥ s)

/-- A column of values averaged by a row's probabilities. -/
def average (s v : Fin 1024 → EReal) : EReal := ∑ j, v j * Ideal.div (weight s j) (∑ i, weight s i)

/-- An entry of the result. -/
def result (X : S1024x1024.Idx → EReal) (WQ : S1024x4096.Idx → EReal) (K V : S1x1024x32x128.Idx → EReal)
    (WO : S4096x1024.Idx → EReal) (r d : Fin 1024) : EReal :=
  ∑ t : Fin 4096, average (score (qAt X WQ) K ⟨t.val / 128, by omega⟩ r) (fun j => V (ix4 0 j ⟨t.val / 128, by omega⟩ ⟨t.val % 128, by omega⟩))
    * WO (ix2 t d)

theorem scV_at (X : FVec Ideal S1024x1024 .f32) (WQ : FVec Ideal S1024x4096 .f32) (K : FVec Ideal S1x1024x32x128 .f32)
    (h : Fin 32) (r j : Fin 1024) : scV (F := Ideal) (qV X WQ) K (ix4 0 h r j) = score (qAt X WQ) K h r j := by
  have hq : ∀ e, qV (F := Ideal) X WQ (ix4 0 r h e) = qAt X WQ r h e := fun e => by pointwise [qV, qAt]
  have hr : rawV (F := Ideal) (qV X WQ) K (ix4 0 h r j) = (∑ e : Fin 128, qAt X WQ r h e * K (ix4 0 j h e)) * scale := by
    pointwise [rawV, scale]
    simp only [hq]
  pointwise [scV, maskHV]
  rw [maskV_at, hr, score]
  by_cases hk : keep r.val j.val
  · rw [if_pos hk, if_pos hk]; rfl
  · rw [if_neg hk, if_neg hk]; exact bot_bits

theorem wV_at (s : FVec Ideal S1x32x1024x1024 .f32) (h : Fin 32) (r j : Fin 1024) :
    wV (F := Ideal) s (ix4 0 h r j) = weight (fun j => s (ix4 0 h r j)) j := by
  pointwise [wV, maxV]
  rw [bot_bits]
  rfl

theorem pV_at (w : FVec Ideal S1x32x1024x1024 .f32) (h : Fin 32) (r j : Fin 1024) :
    pV (F := Ideal) w (ix4 0 h r j) = Ideal.div (w (ix4 0 h r j)) (∑ i, w (ix4 0 h r i)) := by
  pointwise [pV, divV, sumV]
  rw [anyV_at]
  rfl

theorem resV_at (X : FVec Ideal S1024x1024 .f32) (WQ : FVec Ideal S1024x4096 .f32) (K V : FVec Ideal S1x1024x32x128 .f32)
    (WO : FVec Ideal S4096x1024 .f32) (r d : Fin 1024) :
    resV (F := Ideal) X WQ K V WO (ix2 r d) = result X WQ K V WO r d := by
  pointwise [resV, projV]
  refine Finset.sum_congr rfl fun t _ => congrArg (· * _) ?_
  pointwise [ctxV]
  refine Finset.sum_congr rfl fun j _ => congrArg (_ * ·) ?_
  rw [pV_at]
  simp only [wV_at, scV_at]

end Cert.Ref

end
-- ==== Proof.Softmax.lean ====
/-
# The two softmaxes are one

The reference subtracts a row's greatest score before the exponential, divides each weight by the weights' sum and then
averages; the kernel takes the exponential as it is, averages and divides once. With real scores and one key kept, the
two are the same extended real. The four devices' parts are then the 4096 columns of the reference's output projection.
-/
module

public import proofs.«01_k».proof.Proof.RefVal

@[expose] public section

noncomputable section

set_option maxRecDepth 16384

namespace Cert.Ref

open Cert.ReferenceIdeal Cert.ReferenceIdeal.Gen Idealize.ShloMosaic Idealize.ShloMosaic.TcCoe
open Cert.Ring (keep scale)

/-! ## Sums of extended reals -/

/-- The extended real is a real number. -/
def IsReal (a : EReal) : Prop := ∃ x : ℝ, a = (x : EReal)

theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem IsReal.mul {a b : EReal} : IsReal a → IsReal b → IsReal (a * b) := by
  rintro ⟨x, rfl⟩ ⟨y, rfl⟩; exact ⟨x * y, (EReal.coe_mul x y).symm⟩

theorem IsReal.sum {ι : Type} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- A real factor that is not negative distributes over any sum. -/
theorem sum_mul {ι : Type} (s : Finset ι) (f : ι → EReal) (c : ℝ) (hc : 0 ≤ c) :
    (∑ i ∈ s, f i) * (c : EReal) = ∑ i ∈ s, f i * (c : EReal) := by
  induction s using Finset.cons_induction with
  | empty => simp
  | cons a s ha ih =>
    rw [Finset.sum_cons, Finset.sum_cons, EReal.right_distrib_of_nonneg_of_ne_top (by exact_mod_cast hc) (EReal.coe_ne_top c), ih]

/-- Any real factor distributes over a sum of reals. -/
theorem sum_mul_real {ι : Type} (s : Finset ι) (f : ι → EReal) (c : EReal) (hf : ∀ i, IsReal (f i)) (hc : IsReal c) :
    (∑ i ∈ s, f i) * c = ∑ i ∈ s, f i * c := by
  choose g hg using hf
  obtain ⟨x, rfl⟩ := hc
  simp only [hg, ← EReal.coe_mul, ← coe_sum]
  rw [Finset.sum_mul]

/-! ## The softmax -/

/-- The greatest of scores that are real where kept and `⊥` elsewhere. -/
theorem max_real (s : Fin 1024 → ℝ) (p : Fin 1024 → Prop) [DecidablePred p] (h0 : ∃ j, p j) :
    IsReal (Finset.univ.fold max ⊥ fun j => if p j then (s j : EReal) else ⊥) := by
  refine ⟨_, (EReal.coe_toReal (ne_of_lt ?_) (ne_of_gt ?_)).symm⟩
  · rw [Finset.fold_max_lt]
    refine ⟨bot_lt_top, fun j _ => ?_⟩
    split
    · exact EReal.coe_lt_top _
    · exact bot_lt_top
  · rw [Finset.lt_fold_max]
    obtain ⟨j, hj⟩ := h0
    exact Or.inr ⟨j, Finset.mem_univ j, by rw [if_pos hj]; exact EReal.bot_lt_coe _⟩

theorem exp_coe (x : ℝ) : Ideal.exp (x : EReal) = (Real.exp x : EReal) := rfl

theorem div_real (a : EReal) (y : ℝ) (hy : y ≠ 0) : Ideal.div a (y : EReal) = a * ((y⁻¹ : ℝ) : EReal) := by
  unfold Ideal.div
  rw [if_neg (by exact_mod_cast hy), EReal.coe_inv]

theorem softmax (s : Fin 1024 → ℝ) (p : Fin 1024 → Prop) [DecidablePred p] (h0 : ∃ j, p j) (v : Fin 1024 → EReal) :
    Ideal.div (∑ j, Ideal.exp ((s j : EReal) + if p j then 0 else ⊥) * v j) (∑ j, Ideal.exp ((s j : EReal) + if p j then 0 else ⊥))
      = average (fun j => if p j then (s j : EReal) else ⊥) v := by
  obtain ⟨M, hM⟩ := max_real s p h0
  have hw : ∀ j, Ideal.exp ((s j : EReal) + if p j then 0 else ⊥) = ((if p j then Real.exp (s j) else 0 : ℝ) : EReal) := fun j => by
    by_cases h : p j
    · rw [if_pos h, if_pos h, add_zero]; rfl
    · rw [if_neg h, if_neg h, EReal.add_bot]; rfl
  have hr : ∀ j, weight (fun j => if p j then (s j : EReal) else ⊥) j
      = (((if p j then Real.exp (s j) else 0) * Real.exp (-M) : ℝ) : EReal) := fun j => by
    unfold weight
    rw [hM]
    by_cases h : p j
    · simp only [if_pos h]
      rw [← EReal.coe_sub, exp_coe, ← Real.exp_add, sub_eq_add_neg]
    · simp only [if_neg h, zero_mul]
      rw [EReal.bot_sub]
      rfl
  have hpos : 0 < ∑ j, (if p j then Real.exp (s j) else 0 : ℝ) := by
    obtain ⟨j, hj⟩ := h0
    refine Finset.sum_pos' (fun i _ => ?_) ⟨j, Finset.mem_univ j, by rw [if_pos hj]; exact Real.exp_pos _⟩
    split
    · exact (Real.exp_pos _).le
    · exact le_rfl
  unfold average
  simp only [hw, hr, ← coe_sum]
  rw [← Finset.sum_mul]
  generalize hS : ∑ j, (if p j then Real.exp (s j) else 0 : ℝ) = S at hpos
  have hE := Real.exp_pos (-M)
  rw [div_real _ S hpos.ne', sum_mul _ _ _ (inv_nonneg.mpr hpos.le)]
  refine Finset.sum_congr rfl fun j _ => ?_
  rw [div_real _ _ (mul_pos hpos hE).ne', mul_comm _ (v j), mul_assoc, ← EReal.coe_mul, ← EReal.coe_mul]
  congr 2
  field_simp

/-! ## One entry -/

/-- Column `1024 · c + t` of the whole. -/
def col (c : Fin 4) (t : Fin 1024) : Fin 4096 := ⟨1024 * c.val + t.val, by omega⟩

/-- Head `8 · c + h` of the whole. -/
def head (c : Fin 4) (h : Fin 8) : Fin 32 := ⟨8 * c.val + h.val, by omega⟩

section

variable (X : S1024x1024.Idx → EReal) (WQ : S1024x4096.Idx → EReal) (K V : S1x1024x32x128.Idx → EReal) (WO : S4096x1024.Idx → EReal)
  (hX : ∀ i, IsReal (X i)) (hWQ : ∀ i, IsReal (WQ i)) (hK : ∀ i, IsReal (K i))
  (c : Fin 4) (wq wo : S1024x1024.Idx → EReal) (k v : ℕ → Cert.KernelIdeal.S1024x128.Idx → EReal)
  (hwq : ∀ i t, wq (ix2 i t) = WQ (ix2 i (col c t))) (hwo : ∀ t d, wo (ix2 t d) = WO (ix2 (col c t) d))
  (hk : ∀ (h : Fin 8) j e, k h.val (ix2 j e) = K (ix4 0 j (head c h) e))
  (hv : ∀ (h : Fin 8) j e, v h.val (ix2 j e) = V (ix4 0 j (head c h) e))

include hX hWQ in
theorem qAt_real (r : Fin 1024) (h : Fin 32) (e : Fin 128) : IsReal (qAt X WQ r h e) :=
  IsReal.sum _ _ fun _ => (hX _).mul (hWQ _)

include hwq in
theorem ring_qAt (r : Fin 1024) (h : Fin 8) (e : Fin 128) :
    Ring.qAt X wq r (Ring.headCol h e) = qAt X WQ r (head c h) e * scale := by
  unfold Ring.qAt qAt
  refine congrArg (· * _) (Finset.sum_congr rfl fun i _ => congrArg (_ * ·) ?_)
  rw [hwq]
  refine congrArg (fun z => WQ (ix2 i z)) (Fin.ext ?_)
  show 1024 * c.val + (128 * h.val + e.val) = (8 * c.val + h.val) * 128 + e.val
  omega

include hX hWQ hK hwq hk in
/-- The two scores of a kept key, and that it is real. -/
theorem ring_score (h : Fin 8) (r j : Fin 1024) :
    IsReal (Ring.score X wq k h r j) ∧
      score (qAt X WQ) K (head c h) r j = if keep r.val j.val then Ring.score X wq k h r j else ⊥ := by
  have hs : Ring.score X wq k h r j = (∑ e : Fin 128, qAt X WQ r (head c h) e * K (ix4 0 j (head c h) e)) * scale := by
    rw [sum_mul_real _ _ _ (fun e => (qAt_real X WQ hX hWQ _ _ _).mul (hK _)) scale_real]
    unfold Ring.score
    refine Finset.sum_congr rfl fun e _ => ?_
    rw [ring_qAt X WQ c wq hwq, hk, mul_assoc, mul_comm scale, ← mul_assoc]
  refine ⟨?_, by rw [hs]; rfl⟩
  rw [hs]
  exact (IsReal.sum _ _ fun e => (qAt_real X WQ hX hWQ _ _ _).mul (hK _)).mul scale_real

include hX hWQ hK hwq hk hv in
theorem ring_context (h : Fin 8) (r : Fin 1024) (e : Fin 128) :
    Ring.context X wq k v h r e = average (score (qAt X WQ) K (head c h) r) (fun j => V (ix4 0 j (head c h) e)) := by
  have hs := fun j => ring_score X WQ K hX hWQ hK c wq k hwq hk h r j
  choose s hs' using fun j => (hs j).1
  have e1 : score (qAt X WQ) K (head c h) r = fun j => if keep r.val j.val then (s j : EReal) else ⊥ :=
    funext fun j => by rw [(hs j).2, hs' j]
  rw [e1, ← softmax s (fun j => keep r.val j.val) ⟨0, Or.inl (Or.inr rfl)⟩]
  unfold Ring.context Ring.weight
  simp only [hs', hv]

include hX hWQ hK hwq hwo hk hv in
theorem ring_part (r d : Fin 1024) :
    Ring.part X wq wo k v r d = ∑ t : Fin 1024,
      average (score (qAt X WQ) K ⟨(col c t).val / 128, by omega⟩ r)
        (fun j => V (ix4 0 j ⟨(col c t).val / 128, by omega⟩ ⟨(col c t).val % 128, by omega⟩)) * WO (ix2 (col c t) d) := by
  unfold Ring.part
  refine Finset.sum_congr rfl fun t _ => ?_
  rw [ring_context X WQ K V hX hWQ hK c wq k v hwq hk hv, hwo]
  have e1 : (⟨(col c t).val / 128, by omega⟩ : Fin 32) = head c (Ring.headOf t) :=
    Fin.ext (by show (1024 * c.val + t.val) / 128 = 8 * c.val + t.val / 128; omega)
  have e2 : (⟨(col c t).val % 128, by omega⟩ : Fin 128) = Ring.placeOf t :=
    Fin.ext (by show (1024 * c.val + t.val) % 128 = t.val % 128; omega)
  rw [e1, e2]

end

/-- A sum over the 4096 columns, device by device. -/
theorem sum_cols (f : Fin 4096 → EReal) : ∑ t, f t = ∑ c : Fin 4, ∑ t : Fin 1024, f (col c t) := by
  rw [← Fintype.sum_prod_type' (f := fun c t => f (col c t))]
  refine (Fintype.sum_equiv (finProdFinEquiv (m := 4) (n := 1024)) _ _ fun x => congrArg f (Fin.ext ?_)).symm
  show 1024 * x.1.val + x.2.val = x.2.val + 1024 * x.1.val
  omega

/-- The devices' parts add up to the reference's entry. -/
theorem sum_parts (X : S1024x1024.Idx → EReal) (WQ : S1024x4096.Idx → EReal) (K V : S1x1024x32x128.Idx → EReal)
    (WO : S4096x1024.Idx → EReal) (hX : ∀ i, IsReal (X i)) (hWQ : ∀ i, IsReal (WQ i)) (hK : ∀ i, IsReal (K i))
    (wq wo : Fin 4 → S1024x1024.Idx → EReal) (k v : Fin 4 → ℕ → Cert.KernelIdeal.S1024x128.Idx → EReal)
    (hwq : ∀ c i t, wq c (ix2 i t) = WQ (ix2 i (col c t))) (hwo : ∀ c t d, wo c (ix2 t d) = WO (ix2 (col c t) d))
    (hk : ∀ c (h : Fin 8) j e, k c h.val (ix2 j e) = K (ix4 0 j (head c h) e))
    (hv : ∀ c (h : Fin 8) j e, v c h.val (ix2 j e) = V (ix4 0 j (head c h) e)) (r d : Fin 1024) :
    ∑ c : Fin 4, Ring.part X (wq c) (wo c) (k c) (v c) r d = result X WQ K V WO r d := by
  unfold result
  rw [sum_cols]
  exact Finset.sum_congr rfl fun c _ =>
    ring_part X WQ K V WO hX hWQ hK c (wq c) (wo c) (k c) (v c) (hwq c) (hwo c) (hk c) (hv c) r d

end Cert.Ref

end
-- ==== Proof.Algebraic.lean ====
/-
# The kernel and the reference agree

Under the precondition the queries, the query weights and the keys are real, on every device; the entries of the
kernel's result are then the reference's (`sum_parts`).
-/
module

public import proofs.«01_k».proof.Defs
public import proofs.«01_k».proof.Proof.Gen.Kernel
public import proofs.«01_k».proof.Proof.Gen.Pre_finite_scores_KernelIdeal
public import proofs.«01_k».proof.Proof.Arrays
public import proofs.«01_k».proof.Proof.Softmax
public import Idealize.ShloMosaic.Lib.ReduceAll
public import Idealize.ShloMosaic.Lib.Affine

@[expose] public section

noncomputable section

set_option maxRecDepth 16384

namespace Cert.Proof

open Idealize.ShloMosaic Idealize.SL.Sem Idealize.ShloMosaic.TcCoe
open Cert.Ref (IsReal)

/-- A magnitude below infinity is a real number's. -/
theorem real_of_abs (x : EReal) (h : Ideal.cmp .olt (max x (-x)) (Ideal.ofBits .f32 0x7F800000#32) = 1#1) : IsReal x := by
  rw [Ref.top_bits] at h
  have hlt : max x (-x) < ⊤ := by
    by_contra hn
    have : Ideal.cmp .olt (max x (-x)) (⊤ : EReal) = 0#1 := by
      simp only [Ideal.cmp, hn]
      rfl
    rw [this] at h
    exact absurd h (by decide)
  obtain ⟨h1, h2⟩ := max_lt_iff.1 hlt
  refine ⟨x.toReal, (EReal.coe_toReal h1.ne ?_).symm⟩
  rintro rfl
  exact absurd h2 (by simp)

/-- What the precondition says of one device. -/
theorem real_of_pre (x wq : FVec Ideal Cert.KernelIdeal.S1024x1024 .f32) (k v : FVec Ideal Cert.KernelIdeal.S1x1024x32x128 .f32)
    (wo : FVec Ideal Cert.KernelIdeal.S1024x1024 .f32)
    (h : Cert.Pre_finite_scores_KernelIdeal.fn (F := Ideal) x wq k v wo = fun _ => 1#1) :
    (∀ i, IsReal (x i)) ∧ (∀ i, IsReal (wq i)) ∧ ∀ i, IsReal (k i) := by
  have h0 := congrFun h ix0
  dsimp only [Cert.Pre_finite_scores_KernelIdeal.fn] at h0
  obtain ⟨h1, h2⟩ := IntOp.andi_eq_one.1 h0
  obtain ⟨h3, h4⟩ := IntOp.andi_eq_one.1 h1
  haveI : Subsingleton Cert.Pre_finite_scores_KernelIdeal.S_.Idx := ⟨fun a b => funext fun j => j.elim0⟩
  exact ⟨fun i => real_of_abs _ (Host.reduce_andi_all _ _ _ _ _ h3 i), fun i => real_of_abs _ (Host.reduce_andi_all _ _ _ _ _ h4 i),
    fun i => real_of_abs _ (Host.reduce_andi_all _ _ _ _ _ h2 i)⟩

theorem eta2 {a b : ℕ} (i : (⟨2, ![a, b]⟩ : Shape).Idx) : i = ix2 (i 0) (i 1) := by
  funext j; fin_cases j <;> rfl

/-- A device's columns of the whole query weights. -/
theorem block_cols (c : Fin 4) (W : Cert.ReferenceIdeal.S1024x4096.Idx → EReal) (i t : Fin 1024) :
    Layout.block ⟨2, ![1024, 1024]⟩ ⟨2, ![1024, 4096]⟩ 1 4 c W (by decide) (ix2 i t) = W (ix2 i (Ref.col c t)) := by
  refine congrArg W (funext fun j => Fin.ext ?_)
  fin_cases j
  · rfl
  · show c.val * 1024 + t.val = 1024 * c.val + t.val; omega

/-- The whole query weights are real when each device's columns are. -/
theorem real_cols (W : Cert.ReferenceIdeal.S1024x4096.Idx → EReal)
    (h : ∀ (c : Fin 4) (i t : Fin 1024), IsReal (Layout.block ⟨2, ![1024, 1024]⟩ ⟨2, ![1024, 4096]⟩ 1 4 c W (by decide) (ix2 i t)))
    (i : Cert.ReferenceIdeal.S1024x4096.Idx) : IsReal (W i) := by
  obtain ⟨a, b, rfl⟩ : ∃ (a : Fin 1024) (b : Fin 4096), i = ix2 a b := ⟨i 0, i 1, eta2 i⟩
  have h := h ⟨b.val / 1024, by omega⟩ a ⟨b.val % 1024, by omega⟩
  rw [block_cols] at h
  have e : Ref.col ⟨b.val / 1024, by omega⟩ ⟨b.val % 1024, by omega⟩ = b := by
    apply Fin.ext
    show 1024 * (b.val / 1024) + b.val % 1024 = b.val
    omega
  rwa [e] at h

/-- A device's rows of the whole output weights. -/
theorem block_rows (c : Fin 4) (W : Cert.ReferenceIdeal.S4096x1024.Idx → EReal) (t d : Fin 1024) :
    Layout.block ⟨2, ![1024, 1024]⟩ ⟨2, ![4096, 1024]⟩ 0 4 c W (by decide) (ix2 t d) = W (ix2 (Ref.col c t) d) := by
  refine congrArg W (funext fun j => Fin.ext ?_)
  fin_cases j
  · show c.val * 1024 + t.val = 1024 * c.val + t.val; omega
  · rfl

theorem algebraic : Cert.algebraic_KernelIdeal_ReferenceIdeal_pre_finite_scores_KernelIdeal := by
  intro m g m' g' hpre hm
  have hreal := fun c => real_of_pre _ _ _ _ _ (hpre c)
  have key : ∀ c, Cert.Ring.finalA m c (3 : Fin 4) = Cert.ReferenceIdeal.Value.res_main_v46 m' 0 := fun c => by
    rw [Cert.Ring.finalA_out, Cert.Ref.res_eq]
    funext i
    rw [eta2 i]
    refine (Cert.Ring.outV_at (Cert.Ring.inp m) _ _).trans (Eq.trans ?_ (Cert.Ref.resV_at _ _ _ _ _ _ _).symm)
    have hWQ : ∀ i, IsReal (m' (((0 : Dev Cert.ReferenceIdeal.nD).tc : Thread Cert.ReferenceIdeal.nD Cert.ReferenceIdeal.τ).loc Cert.ReferenceIdeal.main_arg1) i) :=
      real_cols _ fun c i t => by
        have h := (hreal c).2.1 (ix2 i t)
        rw [(hm c).2.1] at h
        exact h
    have hx : ∀ c, (Cert.Ring.inp m).x c = m' (((0 : Dev Cert.ReferenceIdeal.nD).tc : Thread Cert.ReferenceIdeal.nD Cert.ReferenceIdeal.τ).loc Cert.ReferenceIdeal.main_arg0) :=
      fun c => (Cert.Ring.x_eq m c).trans (hm c).1
    have e := Cert.Ref.sum_parts
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (fun i => by rw [← (hm 0).1]; exact (hreal 0).1 i) hWQ (fun i => by rw [← (hm 0).2.2.1]; exact (hreal 0).2.2 i)
      (Cert.Ring.inp m).wq (Cert.Ring.inp m).wo (Cert.Ring.inp m).kC (Cert.Ring.inp m).vC
      (fun c i t => by rw [Cert.Ring.wq_eq, (hm c).2.1]; exact block_cols c _ i t)
      (fun c t d => by rw [Cert.Ring.wo_eq, (hm c).2.2.2.2]; exact block_rows c _ t d)
      (fun c h j e => by rw [Cert.Ring.kC_at, (hm c).2.2.1]; rfl)
      (fun c h j e => by rw [Cert.Ring.vC_at, (hm c).2.2.2.1]; rfl) (i 0) (i 1)
    refine Eq.trans (Finset.sum_congr rfl fun c' _ => ?_) e
    show Ring.part ((Ring.inp m).x c') _ _ _ _ _ _ = _
    rw [hx]
  refine ⟨Cert.ReferenceIdeal.Value.res_main_v46 m' 0, ?_, ?_⟩
  · exact (θ_run Cert.KernelIdeal.defs _ _).mono (fun r h c => ⟨(h.2 c).trans (key c), h.1.1 c⟩) (Cert.Ring.run_args (F := Ideal) m g)
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_kernel, frame_kernelIdeal, fun m ρ _ => frame_kernelIdeal m ρ trivial,
  frame_reference, fun m ρ _ => frame_reference m ρ trivial, preserves, algebraic⟩

end Cert.Proof

end
